-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_finite [hPre_finite : Cert.Pre_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3))) = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_AttnGradIdeal_pre_finite [hAttnGradIdeal : Cert.AttnGradIdeal.Facts] [hPre_finite : Cert.Pre_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3)
      ∧ r.2.mem ((c.tc : Thread Cert.Wgrad.nD Cert.Wgrad.τ).loc Cert.Wgrad.main_arg4) = m ((c.tc : Thread Cert.Wgrad.nD Cert.Wgrad.τ).loc Cert.Wgrad.main_arg4))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
      ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2)
      ∧ r.2.mem ((c.tc : Thread Cert.WgradRefIdeal.nD Cert.WgradRefIdeal.τ).loc Cert.WgradRefIdeal.main_arg3) = m ((c.tc : Thread Cert.WgradRefIdeal.nD Cert.WgradRefIdeal.τ).loc Cert.WgradRefIdeal.main_arg3)
      ∧ r.2.mem ((c.tc : Thread Cert.WgradRefIdeal.nD Cert.WgradRefIdeal.τ).loc Cert.WgradRefIdeal.main_arg4) = m ((c.tc : Thread Cert.WgradRefIdeal.nD Cert.WgradRefIdeal.τ).loc Cert.WgradRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3)
      ∧ r.2.mem ((c.tc : Thread Cert.Dgrad.nD Cert.Dgrad.τ).loc Cert.Dgrad.main_arg4) = m ((c.tc : Thread Cert.Dgrad.nD Cert.Dgrad.τ).loc Cert.Dgrad.main_arg4)
      ∧ r.2.mem ((c.tc : Thread Cert.Dgrad.nD Cert.Dgrad.τ).loc Cert.Dgrad.main_arg5) = m ((c.tc : Thread Cert.Dgrad.nD Cert.Dgrad.τ).loc Cert.Dgrad.main_arg5)
      ∧ r.2.mem ((c.tc : Thread Cert.Dgrad.nD Cert.Dgrad.τ).loc Cert.Dgrad.main_arg6) = m ((c.tc : Thread Cert.Dgrad.nD Cert.Dgrad.τ).loc Cert.Dgrad.main_arg6)
      ∧ r.2.mem ((c.tc : Thread Cert.Dgrad.nD Cert.Dgrad.τ).loc Cert.Dgrad.main_arg7) = m ((c.tc : Thread Cert.Dgrad.nD Cert.Dgrad.τ).loc Cert.Dgrad.main_arg7))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
      ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
      ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
      ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
      ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2)
      ∧ r.2.mem ((c.tc : Thread Cert.DgradRefIdeal.nD Cert.DgradRefIdeal.τ).loc Cert.DgradRefIdeal.main_arg3) = m ((c.tc : Thread Cert.DgradRefIdeal.nD Cert.DgradRefIdeal.τ).loc Cert.DgradRefIdeal.main_arg3)
      ∧ r.2.mem ((c.tc : Thread Cert.DgradRefIdeal.nD Cert.DgradRefIdeal.τ).loc Cert.DgradRefIdeal.main_arg4) = m ((c.tc : Thread Cert.DgradRefIdeal.nD Cert.DgradRefIdeal.τ).loc Cert.DgradRefIdeal.main_arg4)
      ∧ r.2.mem ((c.tc : Thread Cert.DgradRefIdeal.nD Cert.DgradRefIdeal.τ).loc Cert.DgradRefIdeal.main_arg5) = m ((c.tc : Thread Cert.DgradRefIdeal.nD Cert.DgradRefIdeal.τ).loc Cert.DgradRefIdeal.main_arg5)
      ∧ r.2.mem ((c.tc : Thread Cert.DgradRefIdeal.nD Cert.DgradRefIdeal.τ).loc Cert.DgradRefIdeal.main_arg6) = m ((c.tc : Thread Cert.DgradRefIdeal.nD Cert.DgradRefIdeal.τ).loc Cert.DgradRefIdeal.main_arg6)
      ∧ r.2.mem ((c.tc : Thread Cert.DgradRefIdeal.nD Cert.DgradRefIdeal.τ).loc Cert.DgradRefIdeal.main_arg7) = m ((c.tc : Thread Cert.DgradRefIdeal.nD Cert.DgradRefIdeal.τ).loc Cert.DgradRefIdeal.main_arg7))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5)
      ∧ r.2.mem ((c.tc : Thread Cert.SguFwd.nD Cert.SguFwd.τ).loc Cert.SguFwd.main_arg6) = m ((c.tc : Thread Cert.SguFwd.nD Cert.SguFwd.τ).loc Cert.SguFwd.main_arg6)
      ∧ r.2.mem ((c.tc : Thread Cert.SguFwd.nD Cert.SguFwd.τ).loc Cert.SguFwd.main_arg7) = m ((c.tc : Thread Cert.SguFwd.nD Cert.SguFwd.τ).loc Cert.SguFwd.main_arg7))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
      ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
      ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5)
      ∧ r.2.mem ((c.tc : Thread Cert.SguFwdRefIdeal.nD Cert.SguFwdRefIdeal.τ).loc Cert.SguFwdRefIdeal.main_arg6) = m ((c.tc : Thread Cert.SguFwdRefIdeal.nD Cert.SguFwdRefIdeal.τ).loc Cert.SguFwdRefIdeal.main_arg6)
      ∧ r.2.mem ((c.tc : Thread Cert.SguFwdRefIdeal.nD Cert.SguFwdRefIdeal.τ).loc Cert.SguFwdRefIdeal.main_arg7) = m ((c.tc : Thread Cert.SguFwdRefIdeal.nD Cert.SguFwdRefIdeal.τ).loc Cert.SguFwdRefIdeal.main_arg7))
      ∧ r.2.sem = fun _ => 0)

def preserves_AttnBwd_AttnBwdIdeal : Prop :=
  True

def algebraic_AttnBwdIdeal_AttnGradIdeal_pre_finite [hAttnBwdIdeal : Cert.AttnBwdIdeal.Facts] [hAttnGradIdeal : Cert.AttnGradIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_finite m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)
      ∧ m' ((c.tc : Thread Cert.AttnGradIdeal.nD Cert.AttnGradIdeal.τ).loc Cert.AttnGradIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v36_0)) (v1 : (c : Dev Cert.AttnBwdIdeal.nD) → Buf (Elt Ideal) ((c.tc : Thread Cert.AttnBwdIdeal.nD Cert.AttnBwdIdeal.τ).loc Cert.AttnBwdIdeal.main_v36_1)) (v2 : (c : Dev Cert.AttnBwdIdeal.nD) → Buf (Elt Ideal) ((c.tc : Thread Cert.AttnBwdIdeal.nD Cert.AttnBwdIdeal.τ).loc Cert.AttnBwdIdeal.main_v36_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v36_0) = v0 c
          ∧ r.2.mem ((c.tc : Thread Cert.AttnBwdIdeal.nD Cert.AttnBwdIdeal.τ).loc Cert.AttnBwdIdeal.main_v36_1) = v1 c
          ∧ r.2.mem ((c.tc : Thread Cert.AttnBwdIdeal.nD Cert.AttnBwdIdeal.τ).loc Cert.AttnBwdIdeal.main_v36_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v69) = v0 c
          ∧ r.2.mem ((c.tc : Thread Cert.AttnGradIdeal.nD Cert.AttnGradIdeal.τ).loc Cert.AttnGradIdeal.main_v72) = v1 c
          ∧ r.2.mem ((c.tc : Thread Cert.AttnGradIdeal.nD Cert.AttnGradIdeal.τ).loc Cert.AttnGradIdeal.main_v75) = v2 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m' ((c.tc : Thread Cert.AttnGradIdeal.nD Cert.AttnGradIdeal.τ).loc Cert.AttnGradIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)
      ∧ m' ((c.tc : Thread Cert.WgradRefIdeal.nD Cert.WgradRefIdeal.τ).loc Cert.WgradRefIdeal.main_arg3) = m ((c.tc : Thread Cert.WgradIdeal.nD Cert.WgradIdeal.τ).loc Cert.WgradIdeal.main_arg3)
      ∧ m' ((c.tc : Thread Cert.WgradRefIdeal.nD Cert.WgradRefIdeal.τ).loc Cert.WgradRefIdeal.main_arg4) = m ((c.tc : Thread Cert.WgradIdeal.nD Cert.WgradIdeal.τ).loc Cert.WgradIdeal.main_arg4)) →
    ∃ (v0 : (c : Dev Cert.WgradIdeal.nD) → Buf (Elt Ideal) ((c.tc : Thread Cert.WgradIdeal.nD Cert.WgradIdeal.τ).loc Cert.WgradIdeal.main_v62_0)) (v1 : (c : Dev Cert.WgradIdeal.nD) → Buf (Elt Ideal) ((c.tc : Thread Cert.WgradIdeal.nD Cert.WgradIdeal.τ).loc Cert.WgradIdeal.main_v62_1)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v62_0) = v0 c
          ∧ r.2.mem ((c.tc : Thread Cert.WgradIdeal.nD Cert.WgradIdeal.τ).loc Cert.WgradIdeal.main_v62_1) = v1 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3)
          ∧ r.2.mem ((c.tc : Thread Cert.WgradIdeal.nD Cert.WgradIdeal.τ).loc Cert.WgradIdeal.main_arg4) = m ((c.tc : Thread Cert.WgradIdeal.nD Cert.WgradIdeal.τ).loc Cert.WgradIdeal.main_arg4))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v63) = v0 c
          ∧ r.2.mem ((c.tc : Thread Cert.WgradRefIdeal.nD Cert.WgradRefIdeal.τ).loc Cert.WgradRefIdeal.main_v65) = v1 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2)
          ∧ r.2.mem ((c.tc : Thread Cert.WgradRefIdeal.nD Cert.WgradRefIdeal.τ).loc Cert.WgradRefIdeal.main_arg3) = m' ((c.tc : Thread Cert.WgradRefIdeal.nD Cert.WgradRefIdeal.τ).loc Cert.WgradRefIdeal.main_arg3)
          ∧ r.2.mem ((c.tc : Thread Cert.WgradRefIdeal.nD Cert.WgradRefIdeal.τ).loc Cert.WgradRefIdeal.main_arg4) = m' ((c.tc : Thread Cert.WgradRefIdeal.nD Cert.WgradRefIdeal.τ).loc Cert.WgradRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v14) = v0 c
          ∧ r.2.mem ((c.tc : Thread Cert.FfnFwdRefIdeal.nD Cert.FfnFwdRefIdeal.τ).loc Cert.FfnFwdRefIdeal.main_v16) = v1 c
          ∧ r.2.mem ((c.tc : Thread Cert.FfnFwdRefIdeal.nD Cert.FfnFwdRefIdeal.τ).loc Cert.FfnFwdRefIdeal.main_v21) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)
      ∧ m' ((c.tc : Thread Cert.DgradRefIdeal.nD Cert.DgradRefIdeal.τ).loc Cert.DgradRefIdeal.main_arg3) = m ((c.tc : Thread Cert.DgradIdeal.nD Cert.DgradIdeal.τ).loc Cert.DgradIdeal.main_arg3)
      ∧ m' ((c.tc : Thread Cert.DgradRefIdeal.nD Cert.DgradRefIdeal.τ).loc Cert.DgradRefIdeal.main_arg4) = m ((c.tc : Thread Cert.DgradIdeal.nD Cert.DgradIdeal.τ).loc Cert.DgradIdeal.main_arg4)
      ∧ m' ((c.tc : Thread Cert.DgradRefIdeal.nD Cert.DgradRefIdeal.τ).loc Cert.DgradRefIdeal.main_arg5) = m ((c.tc : Thread Cert.DgradIdeal.nD Cert.DgradIdeal.τ).loc Cert.DgradIdeal.main_arg5)
      ∧ m' ((c.tc : Thread Cert.DgradRefIdeal.nD Cert.DgradRefIdeal.τ).loc Cert.DgradRefIdeal.main_arg6) = m ((c.tc : Thread Cert.DgradIdeal.nD Cert.DgradIdeal.τ).loc Cert.DgradIdeal.main_arg6)
      ∧ m' ((c.tc : Thread Cert.DgradRefIdeal.nD Cert.DgradRefIdeal.τ).loc Cert.DgradRefIdeal.main_arg7) = m ((c.tc : Thread Cert.DgradIdeal.nD Cert.DgradIdeal.τ).loc Cert.DgradIdeal.main_arg7)) →
    ∃ (v0 : (c : Dev Cert.DgradIdeal.nD) → Buf (Elt Ideal) ((c.tc : Thread Cert.DgradIdeal.nD Cert.DgradIdeal.τ).loc Cert.DgradIdeal.main_v10_0)) (v1 : (c : Dev Cert.DgradIdeal.nD) → Buf (Elt Ideal) ((c.tc : Thread Cert.DgradIdeal.nD Cert.DgradIdeal.τ).loc Cert.DgradIdeal.main_v10_1)) (v2 : (c : Dev Cert.DgradIdeal.nD) → Buf (Elt Ideal) ((c.tc : Thread Cert.DgradIdeal.nD Cert.DgradIdeal.τ).loc Cert.DgradIdeal.main_v10_2)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v10_0) = v0 c
          ∧ r.2.mem ((c.tc : Thread Cert.DgradIdeal.nD Cert.DgradIdeal.τ).loc Cert.DgradIdeal.main_v10_1) = v1 c
          ∧ r.2.mem ((c.tc : Thread Cert.DgradIdeal.nD Cert.DgradIdeal.τ).loc Cert.DgradIdeal.main_v10_2) = v2 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
          ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
          ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
          ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
          ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v125) = v0 c
          ∧ r.2.mem ((c.tc : Thread Cert.DgradRefIdeal.nD Cert.DgradRefIdeal.τ).loc Cert.DgradRefIdeal.main_v127) = v1 c
          ∧ r.2.mem ((c.tc : Thread Cert.DgradRefIdeal.nD Cert.DgradRefIdeal.τ).loc Cert.DgradRefIdeal.main_v128) = v2 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2)
          ∧ r.2.mem ((c.tc : Thread Cert.DgradRefIdeal.nD Cert.DgradRefIdeal.τ).loc Cert.DgradRefIdeal.main_arg3) = m' ((c.tc : Thread Cert.DgradRefIdeal.nD Cert.DgradRefIdeal.τ).loc Cert.DgradRefIdeal.main_arg3)
          ∧ r.2.mem ((c.tc : Thread Cert.DgradRefIdeal.nD Cert.DgradRefIdeal.τ).loc Cert.DgradRefIdeal.main_arg4) = m' ((c.tc : Thread Cert.DgradRefIdeal.nD Cert.DgradRefIdeal.τ).loc Cert.DgradRefIdeal.main_arg4)
          ∧ r.2.mem ((c.tc : Thread Cert.DgradRefIdeal.nD Cert.DgradRefIdeal.τ).loc Cert.DgradRefIdeal.main_arg5) = m' ((c.tc : Thread Cert.DgradRefIdeal.nD Cert.DgradRefIdeal.τ).loc Cert.DgradRefIdeal.main_arg5)
          ∧ r.2.mem ((c.tc : Thread Cert.DgradRefIdeal.nD Cert.DgradRefIdeal.τ).loc Cert.DgradRefIdeal.main_arg6) = m' ((c.tc : Thread Cert.DgradRefIdeal.nD Cert.DgradRefIdeal.τ).loc Cert.DgradRefIdeal.main_arg6)
          ∧ r.2.mem ((c.tc : Thread Cert.DgradRefIdeal.nD Cert.DgradRefIdeal.τ).loc Cert.DgradRefIdeal.main_arg7) = m' ((c.tc : Thread Cert.DgradRefIdeal.nD Cert.DgradRefIdeal.τ).loc Cert.DgradRefIdeal.main_arg7))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v13_0)) (v1 : (c : Dev Cert.OutBwdIdeal.nD) → Buf (Elt Ideal) ((c.tc : Thread Cert.OutBwdIdeal.nD Cert.OutBwdIdeal.τ).loc Cert.OutBwdIdeal.main_v13_1)) (v2 : (c : Dev Cert.OutBwdIdeal.nD) → Buf (Elt Ideal) ((c.tc : Thread Cert.OutBwdIdeal.nD Cert.OutBwdIdeal.τ).loc Cert.OutBwdIdeal.main_v13_2)) (v3 : (c : Dev Cert.OutBwdIdeal.nD) → Buf (Elt Ideal) ((c.tc : Thread Cert.OutBwdIdeal.nD Cert.OutBwdIdeal.τ).loc Cert.OutBwdIdeal.main_v13_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v13_0) = v0 c
          ∧ r.2.mem ((c.tc : Thread Cert.OutBwdIdeal.nD Cert.OutBwdIdeal.τ).loc Cert.OutBwdIdeal.main_v13_1) = v1 c
          ∧ r.2.mem ((c.tc : Thread Cert.OutBwdIdeal.nD Cert.OutBwdIdeal.τ).loc Cert.OutBwdIdeal.main_v13_2) = v2 c
          ∧ r.2.mem ((c.tc : Thread Cert.OutBwdIdeal.nD Cert.OutBwdIdeal.τ).loc Cert.OutBwdIdeal.main_v13_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v17) = v0 c
          ∧ r.2.mem ((c.tc : Thread Cert.OutBwdRefIdeal.nD Cert.OutBwdRefIdeal.τ).loc Cert.OutBwdRefIdeal.main_v18) = v1 c
          ∧ r.2.mem ((c.tc : Thread Cert.OutBwdRefIdeal.nD Cert.OutBwdRefIdeal.τ).loc Cert.OutBwdRefIdeal.main_v16) = v2 c
          ∧ r.2.mem ((c.tc : Thread Cert.OutBwdRefIdeal.nD Cert.OutBwdRefIdeal.τ).loc Cert.OutBwdRefIdeal.main_v19) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v13)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v13) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v4) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)
      ∧ m' ((c.tc : Thread Cert.SguFwdRefIdeal.nD Cert.SguFwdRefIdeal.τ).loc Cert.SguFwdRefIdeal.main_arg6) = m ((c.tc : Thread Cert.SguFwdIdeal.nD Cert.SguFwdIdeal.τ).loc Cert.SguFwdIdeal.main_arg6)
      ∧ m' ((c.tc : Thread Cert.SguFwdRefIdeal.nD Cert.SguFwdRefIdeal.τ).loc Cert.SguFwdRefIdeal.main_arg7) = m ((c.tc : Thread Cert.SguFwdIdeal.nD Cert.SguFwdIdeal.τ).loc Cert.SguFwdIdeal.main_arg7)) →
    ∃ (v0 : (c : Dev Cert.SguFwdIdeal.nD) → Buf (Elt Ideal) ((c.tc : Thread Cert.SguFwdIdeal.nD Cert.SguFwdIdeal.τ).loc Cert.SguFwdIdeal.main_v8)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v8) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
          ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
          ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v70) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5)
          ∧ r.2.mem ((c.tc : Thread Cert.SguFwdRefIdeal.nD Cert.SguFwdRefIdeal.τ).loc Cert.SguFwdRefIdeal.main_arg6) = m' ((c.tc : Thread Cert.SguFwdRefIdeal.nD Cert.SguFwdRefIdeal.τ).loc Cert.SguFwdRefIdeal.main_arg6)
          ∧ r.2.mem ((c.tc : Thread Cert.SguFwdRefIdeal.nD Cert.SguFwdRefIdeal.τ).loc Cert.SguFwdRefIdeal.main_arg7) = m' ((c.tc : Thread Cert.SguFwdRefIdeal.nD Cert.SguFwdRefIdeal.τ).loc Cert.SguFwdRefIdeal.main_arg7))

def Claim : Prop :=
  ∃ (hAttnBwd : Cert.AttnBwd.Facts) (hAttnBwdIdeal : Cert.AttnBwdIdeal.Facts) (hAttnGradIdeal : Cert.AttnGradIdeal.Facts) (hWgrad : Cert.Wgrad.Facts) (hWgradIdeal : Cert.WgradIdeal.Facts) (hWgradRefIdeal : Cert.WgradRefIdeal.Facts) (hFfnFwd : Cert.FfnFwd.Facts) (hFfnFwdIdeal : Cert.FfnFwdIdeal.Facts) (hFfnFwdRefIdeal : Cert.FfnFwdRefIdeal.Facts) (hDgrad : Cert.Dgrad.Facts) (hDgradIdeal : Cert.DgradIdeal.Facts) (hDgradRefIdeal : Cert.DgradRefIdeal.Facts) (hOutBwd : Cert.OutBwd.Facts) (hOutBwdIdeal : Cert.OutBwdIdeal.Facts) (hOutBwdRefIdeal : Cert.OutBwdRefIdeal.Facts) (hOutFwd : Cert.OutFwd.Facts) (hOutFwdIdeal : Cert.OutFwdIdeal.Facts) (hOutFwdRefIdeal : Cert.OutFwdRefIdeal.Facts) (hSguFwd : Cert.SguFwd.Facts) (hSguFwdIdeal : Cert.SguFwdIdeal.Facts) (hSguFwdRefIdeal : Cert.SguFwdRefIdeal.Facts) (hPre_finite : Cert.Pre_finite.Facts),
    quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnGradIdeal (hAttnGradIdeal := hAttnGradIdeal)
    ∧ quiescent_AttnGradIdeal_pre_finite (hAttnGradIdeal := hAttnGradIdeal) (hPre_finite := hPre_finite)
    ∧ quiescent_Wgrad (hWgrad := hWgrad)
    ∧ quiescent_WgradIdeal (hWgradIdeal := hWgradIdeal)
    ∧ quiescent_WgradRefIdeal (hWgradRefIdeal := hWgradRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Dgrad (hDgrad := hDgrad)
    ∧ quiescent_DgradIdeal (hDgradIdeal := hDgradIdeal)
    ∧ quiescent_DgradRefIdeal (hDgradRefIdeal := hDgradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ preserves_AttnBwd_AttnBwdIdeal
    ∧ algebraic_AttnBwdIdeal_AttnGradIdeal_pre_finite (hAttnBwdIdeal := hAttnBwdIdeal) (hAttnGradIdeal := hAttnGradIdeal) (hPre_finite := hPre_finite)
    ∧ preserves_Wgrad_WgradIdeal
    ∧ algebraic_WgradIdeal_WgradRefIdeal (hWgradIdeal := hWgradIdeal) (hWgradRefIdeal := hWgradRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Dgrad_DgradIdeal
    ∧ algebraic_DgradIdeal_DgradRefIdeal (hDgradIdeal := hDgradIdeal) (hDgradRefIdeal := hDgradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_SguFwd_SguFwdIdeal
    ∧ algebraic_SguFwdIdeal_SguFwdRefIdeal (hSguFwdIdeal := hSguFwdIdeal) (hSguFwdRefIdeal := hSguFwdRefIdeal)
-- ==== Pre_finite.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)

variable [Facts]

def fn {F : FTy → Type} [FloatOps F] (main_arg0 : FVec F S2x2048x8x96 .f32) (main_arg1 : FVec F S2x2048x8x96 .f32) (main_arg2 : FVec F S2x2048x8x64 .f32) (main_arg3 : FVec F S2x2048x8x64 .f32) : IVec S2x2048x8x96 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  let main_v6 : IVec S2x2048x8x96 1 := andi main_v2 main_v5
  main_v6
-- ==== AttnBwd.lean ====
abbrev S2x2048x8x96 : Shape := ⟨4, ![2, 2048, 8, 96]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x2048x8x128 : Shape := ⟨4, ![2, 2048, 8, 128]⟩
abbrev S2x2048x1024 : Shape := ⟨3, ![2, 2048, 1024]⟩
abbrev S1x2048x128 : Shape := ⟨3, ![1, 2048, 128]⟩
abbrev S1x1x2048x2048 : Shape := ⟨4, ![1, 1, 2048, 2048]⟩
abbrev S1x512x128 : Shape := ⟨3, ![1, 512, 128]⟩
abbrev S512x128 : Shape := ⟨2, ![512, 128]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1x1x512x1024 : Shape := ⟨4, ![1, 1, 512, 1024]⟩
abbrev S512x1024 : Shape := ⟨2, ![512, 1024]⟩
abbrev S1x1024x128 : Shape := ⟨3, ![1, 1024, 128]⟩
abbrev S1024x128 : Shape := ⟨2, ![1024, 128]⟩
abbrev S1x1x512x1536 : Shape := ⟨4, ![1, 1, 512, 1536]⟩
abbrev S512x1536 : Shape := ⟨2, ![512, 1536]⟩
abbrev S1x1536x128 : Shape := ⟨3, ![1, 1536, 128]⟩
abbrev S1536x128 : Shape := ⟨2, ![1536, 128]⟩
abbrev S1x1x512x2048 : Shape := ⟨4, ![1, 1, 512, 2048]⟩
abbrev S512x2048 : Shape := ⟨2, ![512, 2048]⟩
abbrev S2048x128 : Shape := ⟨2, ![2048, 128]⟩

abbrev nBuf : Space → Nat
  | .hbm => 52
  | .vmem => 16
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x64, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2x8x2048x2048, .i1⟩
  | .hbm, ⟨15, _⟩ => ⟨S_, .f32⟩
  | .hbm, ⟨16, _⟩ => ⟨S2x8x2048x2048, .f32⟩
  | .hbm, ⟨17, _⟩ => ⟨S2x8x2048x2048, .f32⟩
  | .hbm, ⟨18, _⟩ => ⟨S_, .f32⟩
  | .hbm, ⟨19, _⟩ => ⟨S2x8x2048, .f32⟩
  | .hbm, ⟨20, _⟩ => ⟨S_, .f32⟩
  | .hbm, ⟨21, _⟩ => ⟨S2x8x2048, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .bf16⟩
  | .hbm, ⟨33, _⟩ => ⟨S_, .f32⟩
  | .hbm, ⟨34, _⟩ => ⟨S2x2048x8x128, .f32⟩
  | .hbm, ⟨35, _⟩ => ⟨S2x2048x1024, .f32⟩
  | .hbm, ⟨36, _⟩ => ⟨S2x2048x1024, .bf16⟩
  | .hbm, ⟨37, _⟩ => ⟨S_, .f32⟩
  | .hbm, ⟨38, _⟩ => ⟨S2x2048x8x128, .f32⟩
  | .hbm, ⟨39, _⟩ => ⟨S2x2048x1024, .f32⟩
  | .hbm, ⟨40, _⟩ => ⟨S2x2048x1024, .bf16⟩
  | .hbm, ⟨41, _⟩ => ⟨S_, .f32⟩
  | .hbm, ⟨42, _⟩ => ⟨S2x2048x8x128, .f32⟩
  | .hbm, ⟨43, _⟩ => ⟨S2x2048x1024, .f32⟩
  | .hbm, ⟨44, _⟩ => ⟨S2x2048x1024, .bf16⟩
  | .hbm, ⟨45, _⟩ => ⟨S_, .f32⟩
  | .hbm, ⟨46, _⟩ => ⟨S2x2048x8x128, .f32⟩
  | .hbm, ⟨47, _⟩ => ⟨S2x2048x1024, .f32⟩
  | .hbm, ⟨48, _⟩ => ⟨S2x2048x1024, .bf16⟩
  | .hbm, ⟨49, _⟩ => ⟨S2x2048x1024, .f32⟩
  | .hbm, ⟨50, _⟩ => ⟨S2x2048x1024, .f32⟩
  | .hbm, ⟨51, _⟩ => ⟨S2x2048x1024, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x2048x2048, .bf16⟩
  | .local _ .vmem, ⟨7, _⟩ => ⟨S1x1x2048x2048, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnGradIdeal.lean ====
abbrev S2x2048x8x96 : Shape := ⟨4, ![2, 2048, 8, 96]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x96 : Shape := ⟨4, ![2, 8, 2048, 96]⟩
abbrev S2x2048x8x32 : Shape := ⟨4, ![2, 2048, 8, 32]⟩
abbrev S2x2048x8x128 : Shape := ⟨4, ![2, 2048, 8, 128]⟩
abbrev S2x2048x1024 : Shape := ⟨3, ![2, 2048, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x64, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2x8x2048x2048, .i1⟩
  | .hbm, ⟨15, _⟩ => ⟨S_, .f32⟩
  | .hbm, ⟨16, _⟩ => ⟨S2x8x2048x2048, .f32⟩
  | .hbm, ⟨17, _⟩ => ⟨S2x8x2048x2048, .f32⟩
  | .hbm, ⟨18, _⟩ => ⟨S_, .f32⟩
  | .hbm, ⟨19, _⟩ => ⟨S2x8x2048x2048, .f32⟩
  | .hbm, ⟨20, _⟩ => ⟨S_, .f32⟩
  | .hbm, ⟨21, _⟩ => ⟨S2x8x2048, .f32⟩
  | .hbm, ⟨22, _⟩ => ⟨S2x8x2048x1, .f32⟩
  | .hbm, ⟨23, _⟩ => ⟨S2x8x2048x2048, .f32⟩
  | .hbm, ⟨24, _⟩ => ⟨S2x8x2048x2048, .i1⟩
  | .hbm, ⟨25, _⟩ => ⟨S2x8x2048x2048, .f32⟩
  | .hbm, ⟨26, _⟩ => ⟨S_, .f32⟩
  | .hbm, ⟨27, _⟩ => ⟨S2x8x2048, .f32⟩
  | .hbm, ⟨28, _⟩ => ⟨S_, .f32⟩
  | .hbm, ⟨29, _⟩ => ⟨S2x8x2048, .f32⟩
  | .hbm, ⟨30, _⟩ => ⟨S2x8x2048, .f32⟩
  | .hbm, ⟨31, _⟩ => ⟨S_, .f32⟩
  | .hbm, ⟨32, _⟩ => ⟨S2x8x2048, .f32⟩
  | .hbm, ⟨33, _⟩ => ⟨S2x8x2048, .i1⟩
  | .hbm, ⟨34, _⟩ => ⟨S_, .f32⟩
  | .hbm, ⟨35, _⟩ => ⟨S2x8x2048, .f32⟩
  | .hbm, ⟨36, _⟩ => ⟨S2x8x2048, .i1⟩
  | .hbm, ⟨37, _⟩ => ⟨S_, .f32⟩
  | .hbm, ⟨38, _⟩ => ⟨S2x8x2048, .f32⟩
  | .hbm, ⟨39, _⟩ => ⟨S_, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S2x8x2048, .f32⟩
  | .hbm, ⟨44, _⟩ => ⟨S2x8x2048, .f32⟩
  | .hbm, ⟨45, _⟩ => ⟨S2x8x2048x1, .f32⟩
  | .hbm, ⟨46, _⟩ => ⟨S2x8x2048x2048, .f32⟩
  | .hbm, ⟨47, _⟩ => ⟨S2x8x2048x2048, .f32⟩
  | .hbm, ⟨48, _⟩ => ⟨S2x8x2048x2048, .f32⟩
  | .hbm, ⟨49, _⟩ => ⟨S_, .f32⟩
  | .hbm, ⟨50, _⟩ => ⟨S2x8x2048, .f32⟩
  | .hbm, ⟨51, _⟩ => ⟨S2x8x2048x1, .f32⟩
  | .hbm, ⟨52, _⟩ => ⟨S2x8x2048x2048, .f32⟩
  | .hbm, ⟨53, _⟩ => ⟨S2x8x2048x2048, .f32⟩
  | .hbm, ⟨54, _⟩ => ⟨S2x8x2048x1, .f32⟩
  | .hbm, ⟨55, _⟩ => ⟨S_, .f32⟩
  | .hbm, ⟨56, _⟩ => ⟨S2x8x2048x1, .f32⟩
  | .hbm, ⟨57, _⟩ => ⟨S2x8x2048x1, .f32⟩
  | .hbm, ⟨58, _⟩ => ⟨S2x8x64x2048, .f32⟩
  | .hbm, ⟨59, _⟩ => ⟨S2x2048x8x64, .f32⟩
  | .hbm, ⟨60, _⟩ => ⟨S2x8x64x2048, .f32⟩
  | .hbm, ⟨61, _⟩ => ⟨S2x8x2048x2048, .f32⟩
  | .hbm, ⟨62, _⟩ => ⟨S2x8x64x2048, .f32⟩
  | .hbm, ⟨63, _⟩ => ⟨S2x2048x8x64, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S_, .f32⟩
  | .hbm, ⟨68, _⟩ => ⟨S2x8x2048, .f32⟩
  | .hbm, ⟨69, _⟩ => ⟨S2x8x2048x1, .f32⟩
  | .hbm, ⟨70, _⟩ => ⟨S2x8x2048x1, .f32⟩
  | .hbm, ⟨71, _⟩ => ⟨S2x8x2048x2048, .f32⟩
  | .hbm, ⟨72, _⟩ => ⟨S2x8x2048x2048, .f32⟩
  | .hbm, ⟨73, _⟩ => ⟨S_, .f32⟩
  | .hbm, ⟨74, _⟩ => ⟨S2x8x2048, .f32⟩
  | .hbm, ⟨75, _⟩ => ⟨S2x8x2048x2048, .f32⟩
  | .hbm, ⟨76, _⟩ => ⟨S2x8x2048x2048, .f32⟩
  | .hbm, ⟨77, _⟩ => ⟨S2x8x2048x2048, .f32⟩
  | .hbm, ⟨78, _⟩ => ⟨S_, .f32⟩
  | .hbm, ⟨79, _⟩ => ⟨S2x8x2048x2048, .f32⟩
  | .hbm, ⟨80, _⟩ => ⟨S2x8x2048x2048, .f32⟩
  | .hbm, ⟨81, _⟩ => ⟨S_, .f32⟩
  | .hbm, ⟨82, _⟩ => ⟨S2x8x2048x2048, .f32⟩
  | .hbm, ⟨83, _⟩ => ⟨S2x8x2048x2048, .f32⟩
  | .hbm, ⟨84, _⟩ => ⟨S2x8x2048x96, .f32⟩
  | .hbm, ⟨85, _⟩ => ⟨S2x2048x8x96, .f32⟩
  | .hbm, ⟨86, _⟩ => ⟨S2x8x2048x96, .f32⟩
  | .hbm, ⟨87, _⟩ => ⟨S2x2048x8x96, .f32⟩
  | .hbm, ⟨88, _⟩ => ⟨S_, .f32⟩
  | .hbm, ⟨89, _⟩ => ⟨S2x2048x8x32, .f32⟩
  | .hbm, ⟨90, _⟩ => ⟨S2x2048x8x128, .f32⟩
  | .hbm, ⟨91, _⟩ => ⟨S2x2048x1024, .f32⟩
  | .hbm, ⟨92, _⟩ => ⟨S_, .f32⟩
  | .hbm, ⟨93, _⟩ => ⟨S2x2048x8x32, .f32⟩
  | .hbm, ⟨94, _⟩ => ⟨S2x2048x8x128, .f32⟩
  | .hbm, ⟨95, _⟩ => ⟨S2x2048x1024, .f32⟩
  | .hbm, ⟨96, _⟩ => ⟨S_, .f32⟩
  | .hbm, ⟨97, _⟩ => ⟨S2x2048x8x64, .f32⟩
  | .hbm, ⟨98, _⟩ => ⟨S2x2048x8x128, .f32⟩
  | .hbm, ⟨99, _⟩ => ⟨S2x2048x1024, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Wgrad.lean ====
abbrev S2x2048x1024 : Shape := ⟨3, ![2, 2048, 1024]⟩
abbrev S1024 : Shape := ⟨1, ![1024]⟩
abbrev S3x2816 : Shape := ⟨2, ![3, 2816]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2816 : Shape := ⟨1, ![2816]⟩
abbrev S2x2x2816 : Shape := ⟨3, ![2, 2, 2816]⟩
abbrev S2x2050x2816 : Shape := ⟨3, ![2, 2050, 2816]⟩
abbrev S1x2816 : Shape := ⟨2, ![1, 2816]⟩
abbrev S1x1x2816 : Shape := ⟨3, ![1, 1, 2816]⟩
abbrev S4096x1024 : Shape := ⟨2, ![4096, 1024]⟩
abbrev S2x4096x1024 : Shape := ⟨3, ![2, 4096, 1024]⟩
abbrev S4096x2816 : Shape := ⟨2, ![4096, 2816]⟩
abbrev S2816x1024 : Shape := ⟨2, ![2816, 1024]⟩
abbrev S1x1024x1024 : Shape := ⟨3, ![1, 1024, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 78
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S3x2816, .f32⟩
  | .hbm, ⟨3, _⟩ => ⟨S2x2048x2816, .f32⟩
  | .hbm, ⟨4, _⟩ => ⟨S2x2048x2816, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2816, .f32⟩
  | .hbm, ⟨23, _⟩ => ⟨S_, .f32⟩
  | .hbm, ⟨24, _⟩ => ⟨S2x2x2816, .f32⟩
  | .hbm, ⟨25, _⟩ => ⟨S2x2050x2816, .f32⟩
  | .hbm, ⟨26, _⟩ => ⟨S_, .f32⟩
  | .hbm, ⟨27, _⟩ => ⟨S2x2x2816, .f32⟩
  | .hbm, ⟨28, _⟩ => ⟨S2x2048x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S1x1x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S_, .f32⟩
  | .hbm, ⟨56, _⟩ => ⟨S2x2050x2816, .f32⟩
  | .hbm, ⟨57, _⟩ => ⟨S2x2048x2816, .f32⟩
  | .hbm, ⟨58, _⟩ => ⟨S2x2048x2816, .f32⟩
  | .hbm, ⟨59, _⟩ => ⟨S_, .f32⟩
  | .hbm, ⟨60, _⟩ => ⟨S2x2050x2816, .f32⟩
  | .hbm, ⟨61, _⟩ => ⟨S2x2050x2816, .f32⟩
  | .hbm, ⟨62, _⟩ => ⟨S2x2048x2816, .f32⟩
  | .hbm, ⟨63, _⟩ => ⟨S2x2048x2816, .f32⟩
  | .hbm, ⟨64, _⟩ => ⟨S_, .f32⟩
  | .hbm, ⟨65, _⟩ => ⟨S2x2050x2816, .f32⟩
  | .hbm, ⟨66, _⟩ => ⟨S2x2050x2816, .f32⟩
  | .hbm, ⟨67, _⟩ => ⟨S2x2x2816, .f32⟩
  | .hbm, ⟨68, _⟩ => ⟨S2x2048x2816, .f32⟩
  | .hbm, ⟨69, _⟩ => ⟨S4096x1024, .f32⟩
  | .hbm, ⟨70, _⟩ => ⟨S4096x1024, .bf16⟩
  | .hbm, ⟨71, _⟩ => ⟨S2x4096x1024, .bf16⟩
  | .hbm, ⟨72, _⟩ => ⟨S4096x2816, .f32⟩
  | .hbm, ⟨73, _⟩ => ⟨S4096x2816, .bf16⟩
  | .hbm, ⟨74, _⟩ => ⟨S4096x2816, .f32⟩
  | .hbm, ⟨75, _⟩ => ⟨S4096x2816, .bf16⟩
  | .hbm, ⟨76, _⟩ => ⟨S2816x1024, .bf16⟩
  | .hbm, ⟨77, _⟩ => ⟨S2816x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | .local _ .vmem, ⟨9, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62_0 : Ref sig .tc := ⟨.hbm, 76, rfl⟩
abbrev main_v62_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![2, 4], ![false, false]⟩

def k0_cond5 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== WgradRefIdeal.lean ====
abbrev S2x2048x1024 : Shape := ⟨3, ![2, 2048, 1024]⟩
abbrev S1024 : Shape := ⟨1, ![1024]⟩
abbrev S3x2816 : Shape := ⟨2, ![3, 2816]⟩
abbrev S2x2048x2816 : Shape := ⟨3, ![2, 2048, 2816]⟩
abbrev S_ : Shape := ⟨0, ![]⟩
abbrev S1024x2816 : Shape := ⟨2, ![1024, 2816]⟩
abbrev S2816 : Shape := ⟨1, ![2816]⟩
abbrev S2x2048 : Shape := ⟨2, ![2, 2048]⟩
abbrev S2x2048x1 : Shape := ⟨3, ![2, 2048, 1]⟩
abbrev S1x1x1024 : Shape := ⟨3, ![1, 1, 1024]⟩
abbrev S2x2x2816 : Shape := ⟨3, ![2, 2, 2816]⟩
abbrev S2x2050x2816 : Shape := ⟨3, ![2, 2050, 2816]⟩
abbrev S1x2816 : Shape := ⟨2, ![1, 2816]⟩
abbrev S1x1x2816 : Shape := ⟨3, ![1, 1, 2816]⟩
abbrev S2816x1024 : Shape := ⟨2, ![2816, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S3x2816, .f32⟩
  | .hbm, ⟨3, _⟩ => ⟨S2x2048x2816, .f32⟩
  | .hbm, ⟨4, _⟩ => ⟨S2x2048x2816, .f32⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S2816, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x2816, .f32⟩
  | .hbm, ⟨26, _⟩ => ⟨S_, .f32⟩
  | .hbm, ⟨27, _⟩ => ⟨S2x2x2816, .f32⟩
  | .hbm, ⟨28, _⟩ => ⟨S2x2050x2816, .f32⟩
  | .hbm, ⟨29, _⟩ => ⟨S_, .f32⟩
  | .hbm, ⟨30, _⟩ => ⟨S2x2x2816, .f32⟩
  | .hbm, ⟨31, _⟩ => ⟨S2x2048x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S1x1x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2816x1024, .f32⟩
  | .hbm, ⟨56, _⟩ => ⟨S1024x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S_, .f32⟩
  | .hbm, ⟨62, _⟩ => ⟨S2x2050x2816, .f32⟩
  | .hbm, ⟨63, _⟩ => ⟨S2x2048x2816, .f32⟩
  | .hbm, ⟨64, _⟩ => ⟨S2x2048x2816, .f32⟩
  | .hbm, ⟨65, _⟩ => ⟨S_, .f32⟩
  | .hbm, ⟨66, _⟩ => ⟨S2x2050x2816, .f32⟩
  | .hbm, ⟨67, _⟩ => ⟨S2x2050x2816, .f32⟩
  | .hbm, ⟨68, _⟩ => ⟨S2x2048x2816, .f32⟩
  | .hbm, ⟨69, _⟩ => ⟨S2x2048x2816, .f32⟩
  | .hbm, ⟨70, _⟩ => ⟨S_, .f32⟩
  | .hbm, ⟨71, _⟩ => ⟨S2x2050x2816, .f32⟩
  | .hbm, ⟨72, _⟩ => ⟨S2x2050x2816, .f32⟩
  | .hbm, ⟨73, _⟩ => ⟨S2x2x2816, .f32⟩
  | .hbm, ⟨74, _⟩ => ⟨S2x2048x2816, .f32⟩
  | .hbm, ⟨75, _⟩ => ⟨S2816x1024, .f32⟩
  | .hbm, ⟨76, _⟩ => ⟨S1024x2816, .f32⟩
  | .hbm, ⟨77, _⟩ => ⟨S2816x1024, .f32⟩
  | .hbm, ⟨78, _⟩ => ⟨S2816x1024, .bf16⟩
  | .hbm, ⟨79, _⟩ => ⟨S2816x1024, .f32⟩
  | .hbm, ⟨80, _⟩ => ⟨S2816x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== FfnFwd.lean ====
abbrev S2x2048x1024 : Shape := ⟨3, ![2, 2048, 1024]⟩
abbrev S1024 : Shape := ⟨1, ![1024]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S2x4096x1024 : Shape := ⟨3, ![2, 4096, 1024]⟩
abbrev S1024x1024 : Shape := ⟨2, ![1024, 1024]⟩
abbrev S1408x1024 : Shape := ⟨2, ![1408, 1024]⟩
abbrev S1024x1408 : Shape := ⟨2, ![1024, 1408]⟩
abbrev S1x1024x1024 : Shape := ⟨3, ![1, 1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S4096x2816, .f32⟩
  | .hbm, ⟨11, _⟩ => ⟨S4096x2816, .f32⟩
  | .hbm, ⟨12, _⟩ => ⟨S2x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .f32⟩
  | .local _ .vmem, ⟨11, _⟩ => ⟨S1x1024x1024, .bf16⟩
  | .local _ .vmem, ⟨12, _⟩ => ⟨S1x1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdRefIdeal.lean ====
abbrev S2x2048x1024 : Shape := ⟨3, ![2, 2048, 1024]⟩
abbrev S1024 : Shape := ⟨1, ![1024]⟩
abbrev S1024x2816 : Shape := ⟨2, ![1024, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x2816 : Shape := ⟨2, ![4096, 2816]⟩
abbrev S4096x1024 : Shape := ⟨2, ![4096, 1024]⟩
abbrev S1x4096x1024 : Shape := ⟨3, ![1, 4096, 1024]⟩
abbrev S2x4096x1024 : Shape := ⟨3, ![2, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x2816, .f32⟩
  | .hbm, ⟨21, _⟩ => ⟨S4096x2816, .f32⟩
  | .hbm, ⟨22, _⟩ => ⟨S2x2048x2816, .f32⟩
  | .hbm, ⟨23, _⟩ => ⟨S4096x2816, .f32⟩
  | .hbm, ⟨24, _⟩ => ⟨S4096x1024, .f32⟩
  | .hbm, ⟨25, _⟩ => ⟨S4096x1024, .bf16⟩
  | .hbm, ⟨26, _⟩ => ⟨S1x4096x1024, .bf16⟩
  | .hbm, ⟨27, _⟩ => ⟨S1x4096x1024, .bf16⟩
  | .hbm, ⟨28, _⟩ => ⟨S2x4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Dgrad.lean ====
abbrev S2x2048x1024 : Shape := ⟨3, ![2, 2048, 1024]⟩
abbrev S1024 : Shape := ⟨1, ![1024]⟩
abbrev S1024x2816 : Shape := ⟨2, ![1024, 2816]⟩
abbrev S3x2816 : Shape := ⟨2, ![3, 2816]⟩
abbrev S2x2048x2816 : Shape := ⟨3, ![2, 2048, 2816]⟩
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S256x1024 : Shape := ⟨2, ![256, 1024]⟩
abbrev S256x2816 : Shape := ⟨2, ![256, 2816]⟩
abbrev S8x2816 : Shape := ⟨2, ![8, 2816]⟩
abbrev S264x2816 : Shape := ⟨2, ![264, 2816]⟩
abbrev S1x2816 : Shape := ⟨2, ![1, 2816]⟩
abbrev S256 : Shape := ⟨1, ![256]⟩
abbrev S256x1 : Shape := ⟨2, ![256, 1]⟩

abbrev nBuf : Space → Nat
  | .hbm => 21
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2x2048x2816, .f32⟩
  | .hbm, ⟨6, _⟩ => ⟨S2x2048x2816, .f32⟩
  | .hbm, ⟨7, _⟩ => ⟨S2x2048x1024, .f32⟩
  | .hbm, ⟨8, _⟩ => ⟨S4096x1024, .f32⟩
  | .hbm, ⟨9, _⟩ => ⟨S1x1024, .f32⟩
  | .hbm, ⟨10, _⟩ => ⟨S4096x2816, .f32⟩
  | .hbm, ⟨11, _⟩ => ⟨S4096x2816, .f32⟩
  | .hbm, ⟨12, _⟩ => ⟨S4096x2816, .bf16⟩
  | .hbm, ⟨13, _⟩ => ⟨S4096x1024, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S4096x1024, .f32⟩
  | .hbm, ⟨19, _⟩ => ⟨S4096x2816, .bf16⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .f32⟩
  | .local _ .vmem, ⟨4, _⟩ => ⟨S256x2816, .f32⟩
  | .local _ .vmem, ⟨5, _⟩ => ⟨S8x2816, .f32⟩
  | .local _ .vmem, ⟨6, _⟩ => ⟨S8x2816, .f32⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S3x2816, .f32⟩
  | .local _ .vmem, ⟨12, _⟩ => ⟨S2816x1024, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | .local _ .vmem, ⟨19, _⟩ => ⟨S264x2816, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_39 : BitVec 32 := 0#32
  let v89 : BitVec 1 := Scalar.cmpi .eq arg0 c0_i32_39
  let v90 : BitVec 32 := Scalar.extui v89
  let c0_i32_40 : BitVec 32 := 0#32
  let v91 : BitVec 1 := Scalar.cmpi .ne v90 c0_i32_40
  v91

def k0_cond2 (i : grid0.Coords) : BitVec 1 :=
  let arg0 : BitVec 32 := BitVec.ofNat 32 (i 0).val
  let c0_i32_39 : BitVec 32 := 0#32
  let v89 : BitVec 1 := Scalar.cmpi .eq arg0 c0_i32_39
  let v_true : BitVec 1 := 1#1
  let v92 : BitVec 1 := Scalar.xori v89 v_true
  let v93 : BitVec 32 := Scalar.extui v92
  let c0_i32_41 : BitVec 32 := 0#32
  let v94 : BitVec 1 := Scalar.cmpi .ne v93 c0_i32_41
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DgradRefIdeal.lean ====
abbrev S2x2048x1024 : Shape := ⟨3, ![2, 2048, 1024]⟩
abbrev S1024 : Shape := ⟨1, ![1024]⟩
abbrev S1024x2816 : Shape := ⟨2, ![1024, 2816]⟩
abbrev S3x2816 : Shape := ⟨2, ![3, 2816]⟩
abbrev S2x2048x2816 : Shape := ⟨3, ![2, 2048, 2816]⟩
abbrev S_ : Shape := ⟨0, ![]⟩
abbrev S2816 : Shape := ⟨1, ![2816]⟩
abbrev S2x2048 : Shape := ⟨2, ![2, 2048]⟩
abbrev S2x2048x1 : Shape := ⟨3, ![2, 2048, 1]⟩
abbrev S1x1x1024 : Shape := ⟨3, ![1, 1, 1024]⟩
abbrev S2x2x2816 : Shape := ⟨3, ![2, 2, 2816]⟩
abbrev S2x2050x2816 : Shape := ⟨3, ![2, 2050, 2816]⟩
abbrev S1x2816 : Shape := ⟨2, ![1, 2816]⟩
abbrev S1x1x2816 : Shape := ⟨3, ![1, 1, 2816]⟩
abbrev S4096x1024 : Shape := ⟨2, ![4096, 1024]⟩
abbrev S4096x2816 : Shape := ⟨2, ![4096, 2816]⟩
abbrev S1x1024 : Shape := ⟨2, ![1, 1024]⟩

abbrev nBuf : Space → Nat
  | .hbm => 157
  | .vmem => 0
  | .smem => 0
  | _ => 0

abbrev hbmTy0_0 (i : Nat) : BufTy := match i % 128 with
  | 0 => ⟨S2x2048x1024, .f32⟩
  | 1 => ⟨S1024, .f32⟩
  | 2 => ⟨S1024x2816, .f32⟩
  | 3 => ⟨S1024x2816, .f32⟩
  | 4 => ⟨S3x2816, .f32⟩
  | 5 => ⟨S2x2048x2816, .f32⟩
  | 6 => ⟨S2x2048x2816, .f32⟩
  | 7 => ⟨S2x2048x1024, .f32⟩
  | 8 => ⟨S_, .f32⟩
  | 9 => ⟨S2816, .f32⟩
  | 10 => ⟨S2x2048x1024, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S_, .f32⟩
  | 18 => ⟨S2x2048x1, .f32⟩
  | 19 => ⟨S2x2048x1, .f32⟩
  | 20 => ⟨S2x2048x1, .f32⟩
  | 21 => ⟨S2x2048x1, .f32⟩
  | 22 => ⟨S_, .f32⟩
  | 23 => ⟨S2x2048x1, .f32⟩
  | 24 => ⟨S2x2048x1, .f32⟩
  | 25 => ⟨S2x2048x1024, .f32⟩
  | 26 => ⟨S2x2048x1024, .f32⟩
  | 27 => ⟨S1x1x1024, .f32⟩
  | 28 => ⟨S2x2048x1024, .f32⟩
  | 29 => ⟨S2x2048x1024, .f32⟩
  | 30 => ⟨S2x2048x2816, .f32⟩
  | 31 => ⟨S_, .f32⟩
  | 32 => ⟨S2x2x2816, .f32⟩
  | 33 => ⟨S2x2050x2816, .f32⟩
  | 34 => ⟨S_, .f32⟩
  | 35 => ⟨S2x2x2816, .f32⟩
  | 36 => ⟨S2x2048x2816, .f32⟩
  | 37 => ⟨S1x2816, .f32⟩
  | 38 => ⟨S2816, .f32⟩
  | 39 => ⟨S1x1x2816, .f32⟩
  | 40 => ⟨S2x2048x2816, .f32⟩
  | 41 => ⟨S2x2048x2816, .f32⟩
  | 42 => ⟨S2x2048x2816, .f32⟩
  | 43 => ⟨S1x2816, .f32⟩
  | 44 => ⟨S2816, .f32⟩
  | 45 => ⟨S1x1x2816, .f32⟩
  | 46 => ⟨S2x2048x2816, .f32⟩
  | 47 => ⟨S2x2048x2816, .f32⟩
  | 48 => ⟨S2x2048x2816, .f32⟩
  | 49 => ⟨S2x2048x2816, .f32⟩
  | 50 => ⟨S1x2816, .f32⟩
  | 51 => ⟨S2816, .f32⟩
  | 52 => ⟨S1x1x2816, .f32⟩
  | 53 => ⟨S2x2048x2816, .f32⟩
  | 54 => ⟨S2x2048x2816, .f32⟩
  | 55 => ⟨S2x2048x2816, .f32⟩
  | 56 => ⟨S1x1x2816, .f32⟩
  | 57 => ⟨S2x2048x2816, .f32⟩
  | 58 => ⟨S2x2048x2816, .f32⟩
  | 59 => ⟨S2x2048x2816, .f32⟩
  | 60 => ⟨S2x2048x1024, .f32⟩
  | 61 => ⟨S2x2048x2816, .f32⟩
  | 62 => ⟨S2x2048x2816, .f32⟩
  | 63 => ⟨S2x2048x2816, .f32⟩
  | 64 => ⟨S2x2048x2816, .f32⟩
  | 65 => ⟨S_, .f32⟩
  | 66 => ⟨S2x2050x2816, .f32⟩
  | 67 => ⟨S2x2048x2816, .f32⟩
  | 68 => ⟨S2x2048x2816, .f32⟩
  | 69 => ⟨S_, .f32⟩
  | 70 => ⟨S2x2050x2816, .f32⟩
  | 71 => ⟨S2x2050x2816, .f32⟩
  | 72 => ⟨S2x2048x2816, .f32⟩
  | 73 => ⟨S2x2048x2816, .f32⟩
  | 74 => ⟨S_, .f32⟩
  | 75 => ⟨S2x2050x2816, .f32⟩
  | 76 => ⟨S2x2050x2816, .f32⟩
  | 77 => ⟨S2x2x2816, .f32⟩
  | 78 => ⟨S2x2048x2816, .f32⟩
  | 79 => ⟨S2x2048x1024, .f32⟩
  | 80 => ⟨S2x2048x1024, .f32⟩
  | 81 => ⟨S2x2048x1024, .f32⟩
  | 82 => ⟨S_, .f32⟩
  | 83 => ⟨S1024, .f32⟩
  | 84 => ⟨S1x1x1024, .f32⟩
  | 85 => ⟨S2x2048x1024, .f32⟩
  | 86 => ⟨S2x2048x1024, .f32⟩
  | 87 => ⟨S_, .f32⟩
  | 88 => ⟨S1024, .f32⟩
  | 89 => ⟨S2x2048x1024, .f32⟩
  | 90 => ⟨S_, .f32⟩
  | 91 => ⟨S2x2048, .f32⟩
  | 92 => ⟨S2x2048x1, .f32⟩
  | 93 => ⟨S2x2048x1024, .f32⟩
  | 94 => ⟨S2x2048x1024, .f32⟩
  | 95 => ⟨S2x2048x1024, .f32⟩
  | 96 => ⟨S2x2048x1, .f32⟩
  | 97 => ⟨S_, .f32⟩
  | 98 => ⟨S2x2048x1, .f32⟩
  | 99 => ⟨S2x2048x1, .f32⟩
  | 100 => ⟨S_, .f32⟩
  | 101 => ⟨S2x2048, .f32⟩
  | 102 => ⟨S2x2048x1024, .f32⟩
  | 103 => ⟨S2x2048x1024, .f32⟩
  | 104 => ⟨S2x2048x1024, .f32⟩
  | 105 => ⟨S2x2048x1024, .f32⟩
  | 106 => ⟨S2x2048x1024, .f32⟩
  | 107 => ⟨S_, .f32⟩
  | 108 => ⟨S2x2x2816, .f32⟩
  | 109 => ⟨S2x2050x2816, .f32⟩
  | 110 => ⟨S_, .f32⟩
  | 111 => ⟨S2x2x2816, .f32⟩
  | 112 => ⟨S2x2048x2816, .f32⟩
  | 113 => ⟨S1x2816, .f32⟩
  | 114 => ⟨S2816, .f32⟩
  | 115 => ⟨S1x1x2816, .f32⟩
  | 116 => ⟨S2x2048x2816, .f32⟩
  | 117 => ⟨S2x2048x2816, .f32⟩
  | 118 => ⟨S2x2048x2816, .f32⟩
  | 119 => ⟨S1x2816, .f32⟩
  | 120 => ⟨S2816, .f32⟩
  | 121 => ⟨S1x1x2816, .f32⟩
  | 122 => ⟨S2x2048x2816, .f32⟩
  | 123 => ⟨S2x2048x2816, .f32⟩
  | 124 => ⟨S2x2048x2816, .f32⟩
  | 125 => ⟨S2x2048x2816, .f32⟩
  | 126 => ⟨S1x2816, .f32⟩
  | 127 => ⟨S2816, .f32⟩
  | _ => ⟨S2x2048x1024, .f32⟩

abbrev hbmTy0_1 (i : Nat) : BufTy := match i % 128 with
  | 0 => ⟨S1x1x2816, .f32⟩
  | 1 => ⟨S2x2048x2816, .f32⟩
  | 2 => ⟨S2x2048x2816, .f32⟩
  | 3 => ⟨S2x2048x2816, .f32⟩
  | 4 => ⟨S1x1x2816, .f32⟩
  | 5 => ⟨S2x2048x2816, .f32⟩
  | 6 => ⟨S2x2048x2816, .f32⟩
  | 7 => ⟨S2x2048x2816, .f32⟩
  | 8 => ⟨S2x2048x2816, .f32⟩
  | 9 => ⟨S2x2048x2816, .f32⟩
  | 10 => ⟨S2x2048x2816, .f32⟩
  | 11 => ⟨S_, .f32⟩
  | 12 => ⟨S2x2050x2816, .f32⟩
  | 13 => ⟨S2x2048x2816, .f32⟩
  | 14 => ⟨S2x2048x2816, .f32⟩
  | 15 => ⟨S_, .f32⟩
  | 16 => ⟨S2x2050x2816, .f32⟩
  | 17 => ⟨S2x2050x2816, .f32⟩
  | 18 => ⟨S2x2048x2816, .f32⟩
  | 19 => ⟨S2x2048x2816, .f32⟩
  | 20 => ⟨S_, .f32⟩
  | 21 => ⟨S2x2050x2816, .f32⟩
  | 22 => ⟨S2x2050x2816, .f32⟩
  | 23 => ⟨S2x2x2816, .f32⟩
  | 24 => ⟨S2x2048x2816, .f32⟩
  | 25 => ⟨S4096x1024, .f32⟩
  | 26 => ⟨S4096x2816, .f32⟩
  | 27 => ⟨S4096x2816, .bf16⟩
  | 28 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_cst_15 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_16 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_17 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_18 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩

abbrev nD : Nat := 1
abbrev τ : Topo := Topo.v7x

variable {F : FTy → Type} [FloatOps F]
-- ==== OutBwd.lean ====
abbrev S2x2048x8x64 : Shape := ⟨4, ![2, 2048, 8, 64]⟩
abbrev S2x2048x512 : Shape := ⟨3, ![2, 2048, 512]⟩
abbrev S1024x1024 : Shape := ⟨2, ![1024, 1024]⟩
abbrev S2x2048x1024 : Shape := ⟨3, ![2, 2048, 1024]⟩
abbrev S_ : Shape := ⟨0, ![]⟩
abbrev S2x2048x8x128 : Shape := ⟨4, ![2, 2048, 8, 128]⟩
abbrev S4096x1024 : Shape := ⟨2, ![4096, 1024]⟩
abbrev S4096x512 : Shape := ⟨2, ![4096, 512]⟩
abbrev S512x1024 : Shape := ⟨2, ![512, 1024]⟩
abbrev S8x64x1024 : Shape := ⟨3, ![8, 64, 1024]⟩
abbrev S8x128x1024 : Shape := ⟨3, ![8, 128, 1024]⟩
abbrev S1024x512 : Shape := ⟨2, ![1024, 512]⟩

abbrev nBuf : Space → Nat
  | .hbm => 23
  | .vmem => 14
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S_, .f32⟩
  | .hbm, ⟨5, _⟩ => ⟨S2x2048x8x128, .f32⟩
  | .hbm, ⟨6, _⟩ => ⟨S4096x1024, .f32⟩
  | .hbm, ⟨7, _⟩ => ⟨S4096x1024, .bf16⟩
  | .hbm, ⟨8, _⟩ => ⟨S4096x512, .f32⟩
  | .hbm, ⟨9, _⟩ => ⟨S4096x512, .bf16⟩
  | .hbm, ⟨10, _⟩ => ⟨S4096x1024, .f32⟩
  | .hbm, ⟨11, _⟩ => ⟨S512x1024, .f32⟩
  | .hbm, ⟨12, _⟩ => ⟨S8x64x1024, .f32⟩
  | .hbm, ⟨13, _⟩ => ⟨S_, .f32⟩
  | .hbm, ⟨14, _⟩ => ⟨S8x128x1024, .f32⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .bf16⟩
  | .hbm, ⟨19, _⟩ => ⟨S4096x1024, .bf16⟩
  | .hbm, ⟨20, _⟩ => ⟨S4096x512, .f32⟩
  | .hbm, ⟨21, _⟩ => ⟨S1024x1024, .f32⟩
  | .hbm, ⟨22, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | .local _ .vmem, ⟨12, _⟩ => ⟨S1024x1024, .f32⟩
  | .local _ .vmem, ⟨13, _⟩ => ⟨S512x1024, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v18 : BitVec 32 := Scalar.extui v0
  let c0_i32_13 : BitVec 32 := 0#32
  let v19 : BitVec 1 := Scalar.cmpi .ne v18 c0_i32_13
  v19

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v20 : BitVec 1 := Scalar.xori v0 v_true
  let v21 : BitVec 32 := Scalar.extui v20
  let c0_i32_14 : BitVec 32 := 0#32
  let v22 : BitVec 1 := Scalar.cmpi .ne v21 c0_i32_14
  v22

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v27 : BitVec 32 := Scalar.extui v0
  let c0_i32_18 : BitVec 32 := 0#32
  let v28 : BitVec 1 := Scalar.cmpi .ne v27 c0_i32_18
  v28

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_19 : BitVec 1 := 1#1
  let v29 : BitVec 1 := Scalar.xori v0 true_19
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutBwdRefIdeal.lean ====
abbrev S2x2048x8x64 : Shape := ⟨4, ![2, 2048, 8, 64]⟩
abbrev S2x2048x512 : Shape := ⟨3, ![2, 2048, 512]⟩
abbrev S1024x1024 : Shape := ⟨2, ![1024, 1024]⟩
abbrev S2x2048x1024 : Shape := ⟨3, ![2, 2048, 1024]⟩
abbrev S_ : Shape := ⟨0, ![]⟩
abbrev S2x2048x8x128 : Shape := ⟨4, ![2, 2048, 8, 128]⟩
abbrev S4096x1024 : Shape := ⟨2, ![4096, 1024]⟩
abbrev S512x1024 : Shape := ⟨2, ![512, 1024]⟩
abbrev S8x64x1024 : Shape := ⟨3, ![8, 64, 1024]⟩
abbrev S8x128x1024 : Shape := ⟨3, ![8, 128, 1024]⟩
abbrev S4096x512 : Shape := ⟨2, ![4096, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x512, .f32⟩
  | .hbm, ⟨2, _⟩ => ⟨S1024x1024, .f32⟩
  | .hbm, ⟨3, _⟩ => ⟨S2x2048x1024, .f32⟩
  | .hbm, ⟨4, _⟩ => ⟨S2x2048x512, .f32⟩
  | .hbm, ⟨5, _⟩ => ⟨S2x2048x1024, .f32⟩
  | .hbm, ⟨6, _⟩ => ⟨S2x2048x1024, .f32⟩
  | .hbm, ⟨7, _⟩ => ⟨S1024x1024, .f32⟩
  | .hbm, ⟨8, _⟩ => ⟨S1024x1024, .f32⟩
  | .hbm, ⟨9, _⟩ => ⟨S2x2048x1024, .f32⟩
  | .hbm, ⟨10, _⟩ => ⟨S2x2048x512, .f32⟩
  | .hbm, ⟨11, _⟩ => ⟨S2x2048x512, .f32⟩
  | .hbm, ⟨12, _⟩ => ⟨S2x2048x8x64, .f32⟩
  | .hbm, ⟨13, _⟩ => ⟨S_, .f32⟩
  | .hbm, ⟨14, _⟩ => ⟨S2x2048x8x64, .f32⟩
  | .hbm, ⟨15, _⟩ => ⟨S2x2048x8x128, .f32⟩
  | .hbm, ⟨16, _⟩ => ⟨S4096x1024, .f32⟩
  | .hbm, ⟨17, _⟩ => ⟨S512x1024, .f32⟩
  | .hbm, ⟨18, _⟩ => ⟨S8x64x1024, .f32⟩
  | .hbm, ⟨19, _⟩ => ⟨S_, .f32⟩
  | .hbm, ⟨20, _⟩ => ⟨S8x64x1024, .f32⟩
  | .hbm, ⟨21, _⟩ => ⟨S8x128x1024, .f32⟩
  | .hbm, ⟨22, _⟩ => ⟨S1024x1024, .f32⟩
  | .hbm, ⟨23, _⟩ => ⟨S4096x1024, .bf16⟩
  | .hbm, ⟨24, _⟩ => ⟨S4096x512, .f32⟩
  | .hbm, ⟨25, _⟩ => ⟨S512x1024, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== OutFwd.lean ====
abbrev S2x2048x1024 : Shape := ⟨3, ![2, 2048, 1024]⟩
abbrev S2x2048x8x64 : Shape := ⟨4, ![2, 2048, 8, 64]⟩
abbrev S2x2048x512 : Shape := ⟨3, ![2, 2048, 512]⟩
abbrev S1024x1024 : Shape := ⟨2, ![1024, 1024]⟩
abbrev S4096x1024 : Shape := ⟨2, ![4096, 1024]⟩
abbrev S_ : Shape := ⟨0, ![]⟩
abbrev S2x2048x8x128 : Shape := ⟨4, ![2, 2048, 8, 128]⟩
abbrev S4096x512 : Shape := ⟨2, ![4096, 512]⟩
abbrev S512x1024 : Shape := ⟨2, ![512, 1024]⟩
abbrev S8x64x1024 : Shape := ⟨3, ![8, 64, 1024]⟩
abbrev S8x128x1024 : Shape := ⟨3, ![8, 128, 1024]⟩
abbrev S1024x512 : Shape := ⟨2, ![1024, 512]⟩

abbrev nBuf : Space → Nat
  | .hbm => 20
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8x64, .f32⟩
  | .hbm, ⟨2, _⟩ => ⟨S2x2048x512, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S2x2048x8x128, .f32⟩
  | .hbm, ⟨7, _⟩ => ⟨S4096x1024, .f32⟩
  | .hbm, ⟨8, _⟩ => ⟨S4096x1024, .bf16⟩
  | .hbm, ⟨9, _⟩ => ⟨S4096x512, .f32⟩
  | .hbm, ⟨10, _⟩ => ⟨S4096x512, .bf16⟩
  | .hbm, ⟨11, _⟩ => ⟨S512x1024, .f32⟩
  | .hbm, ⟨12, _⟩ => ⟨S8x64x1024, .f32⟩
  | .hbm, ⟨13, _⟩ => ⟨S_, .f32⟩
  | .hbm, ⟨14, _⟩ => ⟨S8x128x1024, .f32⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .bf16⟩
  | .hbm, ⟨19, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S2x2048x1024 : Shape := ⟨3, ![2, 2048, 1024]⟩
abbrev S2x2048x8x64 : Shape := ⟨4, ![2, 2048, 8, 64]⟩
abbrev S2x2048x512 : Shape := ⟨3, ![2, 2048, 512]⟩
abbrev S1024x1024 : Shape := ⟨2, ![1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8x64, .f32⟩
  | .hbm, ⟨2, _⟩ => ⟨S2x2048x512, .f32⟩
  | .hbm, ⟨3, _⟩ => ⟨S1024x1024, .f32⟩
  | .hbm, ⟨4, _⟩ => ⟨S2x2048x512, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SguFwd.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S_ : Shape := ⟨0, ![]⟩
abbrev S128x128 : Shape := ⟨2, ![128, 128]⟩
abbrev S1x1024 : Shape := ⟨2, ![1, 1024]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x1024 : Shape := ⟨2, ![128, 1024]⟩
abbrev S128x1 : Shape := ⟨2, ![128, 1]⟩

abbrev nBuf : Space → Nat
  | .hbm => 18
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S128x8, .f32⟩
  | .hbm, ⟨9, _⟩ => ⟨S_, .f32⟩
  | .hbm, ⟨10, _⟩ => ⟨S128x128, .f32⟩
  | .hbm, ⟨11, _⟩ => ⟨S1x1024, .f32⟩
  | .hbm, ⟨12, _⟩ => ⟨S1024x2048, .bf16⟩
  | .hbm, ⟨13, _⟩ => ⟨S1x1024, .f32⟩
  | .hbm, ⟨14, _⟩ => ⟨S1x1024, .f32⟩
  | .hbm, ⟨15, _⟩ => ⟨S1024x1024, .bf16⟩
  | .hbm, ⟨16, _⟩ => ⟨S4096x1024, .f32⟩
  | .hbm, ⟨17, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x128, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguFwdRefIdeal.lean ====
abbrev S2x2048x1024 : Shape := ⟨3, ![2, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S2x16x128x8x128 : Shape := ⟨5, ![2, 16, 128, 8, 128]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4096x1024 : Shape := ⟨2, ![4096, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S_, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S_, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S_, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S_, .f32⟩
  | .hbm, ⟨57, _⟩ => ⟨S2x2048x1, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S2x16x128x8x128, .f32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S128x128, .f32⟩
  | .hbm, ⟨76, _⟩ => ⟨S1x128x128, .f32⟩
  | .hbm, ⟨77, _⟩ => ⟨S8x128x128, .f32⟩
  | .hbm, ⟨78, _⟩ => ⟨S8x128x128, .f32⟩
  | .hbm, ⟨79, _⟩ => ⟨S8x2x16x128x128, .f32⟩
  | .hbm, ⟨80, _⟩ => ⟨S2x16x128x8x128, .f32⟩
  | .hbm, ⟨81, _⟩ => ⟨S128x8, .f32⟩
  | .hbm, ⟨82, _⟩ => ⟨S128x8x1, .f32⟩
  | .hbm, ⟨83, _⟩ => ⟨S1x1x128x8x1, .f32⟩
  | .hbm, ⟨84, _⟩ => ⟨S2x16x128x8x128, .f32⟩
  | .hbm, ⟨85, _⟩ => ⟨S2x16x128x8x128, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Proof.AttnBlock.lean ====
module

public import proofs.«01_k».proof.Proof.Gen.AttnBwdIdeal.Value
public import Idealize.ShloMosaic.Lib.Pointwise
public import Idealize.ShloMosaic.Lib.Pipeline.ValueKit
public import Idealize.ShloMosaic.Lib.Pipeline.ReadBack

@[expose] public section
set_option maxRecDepth 16384

noncomputable section
namespace Cert.AttnBwdIdeal.Blk
open Idealize.ShloMosaic Idealize.ShloMosaic.TcCoe Idealize.ShloMosaic.Tactic
open Cert.AttnBwdIdeal Cert.AttnBwdIdeal.Gen

/-! ## Row bands of a [1, n, d] block -/

section Bands
variable {n d e : Nat} {ety : EltTy} {Val : EltTy → Type} [∀ e, Nonempty (Val e)]

/-- Under a last write of the band of rows `o … o+e`, an index of the band reads the written value. -/
theorem band_in (o : Nat) (inb : ∀ a, (![0, o, 0] : Fin 3 → Nat) a + (![1, e, d] : Fin 3 → Nat) a ≤ (⟨3, ![1, n, d]⟩ : Shape).size a)
    (w : (Rect.unit (s := ⟨3, ![1, n, d]⟩) ![0, o, 0] ![1, e, d] inb).shape.Idx → Val ety)
    (L : List (View.Piece Val ⟨3, ![1, n, d]⟩ ety)) (r : Fin n) (l : Fin d) (r' : Fin e) (h : r.val = o + r'.val) :
    View.canon (⟨Rect.unit ![0, o, 0] ![1, e, d] inb, w⟩ :: L) (ix3 0 r l) = w (ix3 0 r' l) := by
  have hx : (ix3 0 r l : (⟨3, ![1, n, d]⟩ : Shape).Idx) = (Rect.unit (s := ⟨3, ![1, n, d]⟩) ![0, o, 0] ![1, e, d] inb).emb (ix3 0 r' l) := by
    funext a
    apply Fin.ext
    refine Eq.trans ?_ (Rect.idx_unit_val _ _ inb _ a).symm
    fin_cases a
    · simp
    · simpa using h
    · simp
  rw [hx]; exact View.canon_cons_emb _ _ _ _

/-- Off the band, the earlier writes are read. -/
theorem band_out (o : Nat) (inb : ∀ a, (![0, o, 0] : Fin 3 → Nat) a + (![1, e, d] : Fin 3 → Nat) a ≤ (⟨3, ![1, n, d]⟩ : Shape).size a)
    (w : (Rect.unit (s := ⟨3, ![1, n, d]⟩) ![0, o, 0] ![1, e, d] inb).shape.Idx → Val ety)
    (L : List (View.Piece Val ⟨3, ![1, n, d]⟩ ety)) (r : Fin n) (l : Fin d) (h : r.val < o ∨ o + e ≤ r.val) :
    View.canon (⟨Rect.unit ![0, o, 0] ![1, e, d] inb, w⟩ :: L) (ix3 0 r l) = View.canon L (ix3 0 r l) := by
  apply View.canon_cons_of_not_mem
  intro hm
  obtain ⟨x, hx⟩ := (Rect.unit (s := ⟨3, ![1, n, d]⟩) ![0, o, 0] ![1, e, d] inb).exists_idx_of_mem hm
  have h1 := congrArg Fin.val (congrFun hx 1)
  have h2 : _ = o + (x 1).val := Rect.idx_unit_val _ _ inb x 1
  have h3 : (x 1).val < e := (x 1).isLt
  have h4 : (((Rect.unit (s := ⟨3, ![1, n, d]⟩) ![0, o, 0] ![1, e, d] inb).emb x) 1).val = o + (x 1).val := h2
  have h1 : o + (x 1).val = r.val := h4.symm.trans h1
  omega

/-- A load of the band of rows `0 … e` after the writes `L` reads what they leave there. -/
theorem band_read {sig : RefSig} {κ : Kind} {sp : Space} (v : View sig κ sp ⟨3, ![1, n, d]⟩ ety)
    (inb : ∀ a, (![0, 0, 0] : Fin 3 → Nat) a + (![1, e, d] : Fin 3 → Nat) a ≤ (⟨3, ![1, n, d]⟩ : Shape).size a)
    (L : List (View.Piece Val ⟨3, ![1, n, d]⟩ ety)) (r' : Fin e) (l : Fin d) (r : Fin n) (h : r.val = r'.val) :
    v.readCov L (Rect.unit (s := ⟨3, ![1, n, d]⟩) ![0, 0, 0] ![1, e, d] inb).toLoadRect (ix3 0 r' l) = View.canon L (ix3 0 r l) := by
  rw [View.readCov_eq_canon']
  show View.canon L _ = _
  congr 1
  funext a
  apply Fin.ext
  refine (Rect.idx_unit_val _ _ inb _ a).trans ?_
  fin_cases a
  · simp
  · simpa using h.symm
  · simp

end Bands

/-- A band of the first `e` rows rewritten with a term `T` added to what it held: off the band nothing is added. -/
theorem band_add {n d e : Nat}
    (inb : ∀ a, (![0, 0, 0] : Fin 3 → Nat) a + (![1, e, d] : Fin 3 → Nat) a ≤ (⟨3, ![1, n, d]⟩ : Shape).size a)
    (L : List (View.Piece (Elt Ideal) ⟨3, ![1, n, d]⟩ .f32))
    (w : (Rect.unit (s := ⟨3, ![1, n, d]⟩) ![0, 0, 0] ![1, e, d] inb).shape.Idx → Elt Ideal .f32)
    (C T : Fin n → Fin d → EReal)
    (hC : ∀ r l, View.canon L (ix3 0 r l) = C r l)
    (hw : ∀ (r : Fin n) (r' : Fin e) (l : Fin d), r.val = r'.val → w (ix3 0 r' l) = (View.canon L (ix3 0 r l) : EReal) + T r l)
    (h0 : ∀ (r : Fin n) (l : Fin d), e ≤ r.val → T r l = 0)
    (r : Fin n) (l : Fin d) :
    View.canon (⟨Rect.unit ![0, 0, 0] ![1, e, d] inb, w⟩ :: L) (ix3 0 r l) = C r l + T r l := by
  by_cases h : r.val < e
  · rw [band_in 0 inb w L r l ⟨r.val, h⟩ (by simp), hw r ⟨r.val, h⟩ l rfl, hC]
  · rw [band_out 0 inb w L r l (by omega), h0 r l (by omega), hC, add_zero]

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x1x2048x2048 .bf16) (harg5 : arg5.IsWhole) (arg6 : Memref sig .tc .vmem S1x2048x128 .bf16) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole)
    (x0 x1 x2 : Vec Ideal S1x2048x128 .bf16) (x3 : Vec Ideal S1x1x2048x2048 .bf16) (x4 : Vec Ideal S1x2048x128 .bf16)

/-- The product of a row of the cotangent with a row of the values. -/
def dpE (Q r : Fin 2048) : EReal := ∑ l : Fin 128, x4 (ix3 0 Q l) * x2 (ix3 0 r l)
/-- The scaled gradient of the scores of one head, from its probabilities. -/
def dsE (Q r : Fin 2048) : EReal :=
  x3 (ix4 0 0 Q r) * (dpE x2 x4 Q r - ∑ r' : Fin 2048, x3 (ix4 0 0 Q r') * dpE x2 x4 Q r') * Ideal.ofBits .f32 1037108716#32

/-- A sum over the first `e` indices is the sum over all where the rest are zero. -/
theorem sum_trunc (e n : Nat) (he : e ≤ n) (f : Fin n → EReal) (h : ∀ r : Fin n, e ≤ r.val → f r = 0) :
    ∑ x : Fin e, f ⟨x.val, by omega⟩ = ∑ x, f x := by
  obtain ⟨d, rfl⟩ := Nat.exists_eq_add_of_le he
  rw [Fin.sum_univ_add, Finset.sum_eq_zero (f := fun i => f (Fin.natAdd e i)) (fun i _ => h _ (by simp)), add_zero]
  rfl

/-- The 2048 rows in four runs of 512. -/
theorem sum_quarters (f : Fin 2048 → EReal) :
    0 + (∑ q : Fin 512, f ⟨0 + q.val, by omega⟩) + (∑ q : Fin 512, f ⟨512 + q.val, by omega⟩)
      + (∑ q : Fin 512, f ⟨1024 + q.val, by omega⟩) + (∑ q : Fin 512, f ⟨1536 + q.val, by omega⟩) = ∑ x, f x := by
  have h : ∑ x, f x = ∑ x : Fin (512 + 512 + 512 + 512), f x := rfl
  rw [h, Fin.sum_univ_add, Fin.sum_univ_add, Fin.sum_univ_add, zero_add]
  congr 1

/-- Beyond the diagonal the score's derivative is zero. -/
theorem dsE_zero (hm : ∀ Q r : Fin 2048, Q.val < r.val → (x3 (ix4 0 0 Q r) : EReal) = 0) (Q r : Fin 2048) (h : Q.val < r.val) :
    dsE x2 x3 x4 Q r = 0 := by
  unfold dsE; rw [hm Q r h, zero_mul, zero_mul]

/-- Summing a row only up to a band's edge loses nothing. -/
theorem dsE_eq (hm : ∀ Q r : Fin 2048, Q.val < r.val → (x3 (ix4 0 0 Q r) : EReal) = 0) (e : Nat) (he : e ≤ 2048)
    (Q : Fin 2048) (hQ : Q.val < e) (r : Fin 2048) :
    x3 (ix4 0 0 Q r) * ((∑ l : Fin 128, x4 (ix3 0 Q l) * x2 (ix3 0 r l)) - ∑ r' : Fin e, x3 (ix4 0 0 Q ⟨r'.val, by omega⟩) * ∑ l : Fin 128, x4 (ix3 0 Q l) * x2 (ix3 0 ⟨r'.val, by omega⟩ l)) * Ideal.ofBits .f32 1037108716#32
      = dsE x2 x3 x4 Q r := by
  unfold dsE
  rw [← sum_trunc e 2048 he _ (fun r' h => by rw [hm Q r' (by omega), zero_mul])]
  rfl
/-- The first band's score derivative. -/
theorem ds0 (B : Vec Ideal S1x512x128 .bf16) (A : Vec Ideal S1x1x512x512 .bf16) (C : Vec Ideal S1x512x128 .bf16) (q : Fin 512) (r : Fin 512) :
    k0_pay13 (k0_pay9 A) (k0_pay11 B C) (k0_pay12 B A C) (ix2 q r) = (A (ix4 0 0 q r) * ((∑ l : Fin 128, B (ix3 0 q l) * C (ix3 0 r l)) - ∑ r' : Fin 512, A (ix4 0 0 q r') * ∑ l : Fin 128, B (ix3 0 q l) * C (ix3 0 r' l)) * Ideal.ofBits .f32 1037108716#32 : EReal) := by
  pointwise [k0_pay13, k0_pay9, k0_pay8, k0_pay11, k0_pay12, k0_pay7]

/-- The second band's score derivative. -/
theorem ds1 (B : Vec Ideal S1x512x128 .bf16) (A : Vec Ideal S1x1x512x1024 .bf16) (C : Vec Ideal S1x1024x128 .bf16) (q : Fin 512) (r : Fin 1024) :
    k0_pay22 (k0_pay17 B) (k0_pay19 A) C (ix2 q r) = (A (ix4 0 0 q r) * ((∑ l : Fin 128, B (ix3 0 q l) * C (ix3 0 r l)) - ∑ r' : Fin 1024, A (ix4 0 0 q r') * ∑ l : Fin 128, B (ix3 0 q l) * C (ix3 0 r' l)) * Ideal.ofBits .f32 1037108716#32 : EReal) := by
  pointwise [k0_pay22, k0_pay19, k0_pay18, k0_pay17]

/-- The third band's score derivative. -/
theorem ds2 (B : Vec Ideal S1x512x128 .bf16) (A : Vec Ideal S1x1x512x1536 .bf16) (C : Vec Ideal S1x1536x128 .bf16) (q : Fin 512) (r : Fin 1536) :
    k0_pay29 B A C (ix2 q r) = (A (ix4 0 0 q r) * ((∑ l : Fin 128, B (ix3 0 q l) * C (ix3 0 r l)) - ∑ r' : Fin 1536, A (ix4 0 0 q r') * ∑ l : Fin 128, B (ix3 0 q l) * C (ix3 0 r' l)) * Ideal.ofBits .f32 1037108716#32 : EReal) := by
  pointwise [k0_pay29, k0_pay26, k0_pay27]

/-- The fourth band's score derivative. -/
theorem ds3 (B : Vec Ideal S1x512x128 .bf16) (A : Vec Ideal S1x1x512x2048 .bf16) (C : Vec Ideal S1x2048x128 .bf16) (cc : EReal) (q : Fin 512) (r : Fin 2048) :
    k0_pay1 (k0_pay36 B A C) cc (ix2 q r) = (A (ix4 0 0 q r) * ((∑ l : Fin 128, B (ix3 0 q l) * C (ix3 0 r l)) - ∑ r' : Fin 2048, A (ix4 0 0 q r') * ∑ l : Fin 128, B (ix3 0 q l) * C (ix3 0 r' l)) * cc : EReal) := by
  pointwise [k0_pay1, k0_pay36, k0_pay33, k0_pay34]
/-- What a point leaves of dv. -/
theorem t7 (hm : ∀ Q r : Fin 2048, Q.val < r.val → (x3 (ix4 0 0 Q r) : EReal) = 0) (r : Fin 2048) (l : Fin 128) :
    out0_A_7 c i arg2 harg2 arg3 harg3 arg4 harg4 arg5 harg5 arg6 harg6 arg7 harg7 arg8 harg8 arg9 harg9 x0 x1 x2 x3 x4 (ix3 0 r l) = (∑ Q : Fin 2048, x3 (ix4 0 0 Q r) * x4 (ix3 0 Q l) : EReal) := by
  unfold out0_A_7; rw [View.read_writes_junk_eq_canon]; unfold kernelRun0_A; dsimp only; sl_unfold_words; simp only [View.readAt_eq_ld, Memref.IsWhole.read_unread]
  have T0 : ∀ (o : Nat) (ho : o + 512 ≤ 2048) (r : Fin 2048) (l : Fin 128), o + 512 ≤ r.val →
      (∑ q : Fin 512, x3 (ix4 0 0 ⟨o + q.val, by omega⟩ r) * x4 (ix3 0 ⟨o + q.val, by omega⟩ l) : EReal) = 0 := by
    intro o ho r l h
    refine Finset.sum_eq_zero fun q _ => ?_
    rw [hm _ _ (show o + q.val < r.val by omega), zero_mul]
  refine (band_add _ _ _ _ (fun r l => ∑ q : Fin 512, x3 (ix4 0 0 ⟨1536 + q.val, by omega⟩ r) * x4 (ix3 0 ⟨1536 + q.val, by omega⟩ l))
     (band_add _ _ _ _ (fun r l => ∑ q : Fin 512, x3 (ix4 0 0 ⟨1024 + q.val, by omega⟩ r) * x4 (ix3 0 ⟨1024 + q.val, by omega⟩ l))
     (band_add _ _ _ _ (fun r l => ∑ q : Fin 512, x3 (ix4 0 0 ⟨512 + q.val, by omega⟩ r) * x4 (ix3 0 ⟨512 + q.val, by omega⟩ l))
     (band_add _ _ _ (fun _ _ => 0) (fun r l => ∑ q : Fin 512, x3 (ix4 0 0 ⟨0 + q.val, by omega⟩ r) * x4 (ix3 0 ⟨0 + q.val, by omega⟩ l))
     ?_ ?_ ?_) ?_ ?_) ?_ ?_) ?_ ?_ r l).trans ?_
  · intro r l
    rw [band_in 0 _ _ _ r l r (by simp)]
    pointwise [k0_pay5]
  · intro r r' l h
    pointwise [k0_pay10, k0_pay9, k0_pay8, k0_pay7]
    rw [band_read _ _ _ r' l r h]
    rcases r with ⟨rv, hr⟩
    change rv = r'.val at h
    subst h
    simp
  · exact T0 0 (by omega)
  · intro r r' l h
    pointwise [k0_pay21, k0_pay20, k0_pay18, k0_pay19, k0_pay17]
    rw [band_read _ _ _ r' l r h]
    rcases r with ⟨rv, hr⟩
    change rv = r'.val at h
    subst h
    simp
  · exact T0 512 (by omega)
  · intro r r' l h
    pointwise [k0_pay28, k0_pay26, k0_pay27, k0_pay25]
    rw [band_read _ _ _ r' l r h]
    rcases r with ⟨rv, hr⟩
    change rv = r'.val at h
    subst h
    simp
  · exact T0 1024 (by omega)
  · intro r r' l h
    pointwise [k0_pay35, k0_pay32, k0_pay33, k0_pay34]
    rw [band_read _ _ _ r' l r h]
    rcases r with ⟨rv, hr⟩
    change rv = r'.val at h
    subst h
    simp
  · exact T0 1536 (by omega)
  exact sum_quarters (fun Q => x3 (ix4 0 0 Q r) * x4 (ix3 0 Q l))

/-- What a point leaves of dk. -/
theorem t6 (hm : ∀ Q r : Fin 2048, Q.val < r.val → (x3 (ix4 0 0 Q r) : EReal) = 0) (r : Fin 2048) (l : Fin 128) :
    out0_A_6 c i arg2 harg2 arg3 harg3 arg4 harg4 arg5 harg5 arg6 harg6 arg7 harg7 arg8 harg8 arg9 harg9 x0 x1 x2 x3 x4 (ix3 0 r l) = (∑ Q : Fin 2048, dsE x2 x3 x4 Q r * x0 (ix3 0 Q l) : EReal) := by
  unfold out0_A_6; rw [View.read_writes_junk_eq_canon]; unfold kernelRun0_A; dsimp only; sl_unfold_words; simp only [View.readAt_eq_ld, Memref.IsWhole.read_unread]
  have T0 : ∀ (o : Nat) (ho : o + 512 ≤ 2048) (r : Fin 2048) (l : Fin 128), o + 512 ≤ r.val →
      (∑ q : Fin 512, dsE x2 x3 x4 ⟨o + q.val, by omega⟩ r * x0 (ix3 0 ⟨o + q.val, by omega⟩ l) : EReal) = 0 := by
    intro o ho r l h
    refine Finset.sum_eq_zero fun q _ => ?_
    rw [dsE_zero x2 x3 x4 hm _ _ (show o + q.val < r.val by omega), zero_mul]
  refine (band_add _ _ _ _ (fun r l => ∑ q : Fin 512, dsE x2 x3 x4 ⟨1536 + q.val, by omega⟩ r * x0 (ix3 0 ⟨1536 + q.val, by omega⟩ l))
     (band_add _ _ _ _ (fun r l => ∑ q : Fin 512, dsE x2 x3 x4 ⟨1024 + q.val, by omega⟩ r * x0 (ix3 0 ⟨1024 + q.val, by omega⟩ l))
     (band_add _ _ _ _ (fun r l => ∑ q : Fin 512, dsE x2 x3 x4 ⟨512 + q.val, by omega⟩ r * x0 (ix3 0 ⟨512 + q.val, by omega⟩ l))
     (band_add _ _ _ (fun _ _ => 0) (fun r l => ∑ q : Fin 512, dsE x2 x3 x4 ⟨0 + q.val, by omega⟩ r * x0 (ix3 0 ⟨0 + q.val, by omega⟩ l))
     ?_ ?_ ?_) ?_ ?_) ?_ ?_) ?_ ?_ r l).trans ?_
  · intro r l
    rw [band_in 0 _ _ _ r l r (by simp)]
    pointwise [k0_pay4]
  · intro r r' l h
    pointwise [k0_pay15, k0_pay6]
    rw [band_read _ _ _ r' l r h]
    rcases r with ⟨rv, hr⟩
    change rv = r'.val at h
    subst h
    simp only [ds0]
    pointwise
    refine congrArg (_ + ·) (Finset.sum_congr rfl fun q _ => ?_)
    rw [← dsE_eq x2 x3 x4 hm 512 (by omega) ⟨q.val, by omega⟩ (by simp only []; omega)]
    try simp
  · exact T0 0 (by omega)
  · intro r r' l h
    pointwise [k0_pay24, k0_pay16]
    rw [band_read _ _ _ r' l r h]
    rcases r with ⟨rv, hr⟩
    change rv = r'.val at h
    subst h
    simp only [ds1]
    pointwise
    refine congrArg (_ + ·) (Finset.sum_congr rfl fun q _ => ?_)
    rw [← dsE_eq x2 x3 x4 hm 1024 (by omega) ⟨512 + q.val, by omega⟩ (by simp only []; omega)]
    try simp
  · exact T0 512 (by omega)
  · intro r r' l h
    pointwise [k0_pay31, k0_pay25]
    rw [band_read _ _ _ r' l r h]
    rcases r with ⟨rv, hr⟩
    change rv = r'.val at h
    subst h
    simp only [ds2]
    pointwise
    refine congrArg (_ + ·) (Finset.sum_congr rfl fun q _ => ?_)
    rw [← dsE_eq x2 x3 x4 hm 1536 (by omega) ⟨1024 + q.val, by omega⟩ (by simp only []; omega)]
    try simp
  · exact T0 1024 (by omega)
  · intro r r' l h
    pointwise [k0_pay3, k0_pay32]
    rw [band_read _ _ _ r' l r h]
    rcases r with ⟨rv, hr⟩
    change rv = r'.val at h
    subst h
    simp only [ds3]
    pointwise
    refine congrArg (_ + ·) (Finset.sum_congr rfl fun q _ => ?_)
    rw [← dsE_eq x2 x3 x4 hm 2048 (by omega) ⟨1536 + q.val, by omega⟩ (by simp only []; omega)]
    try simp
  · exact T0 1536 (by omega)
  exact sum_quarters (fun Q => dsE x2 x3 x4 Q r * x0 (ix3 0 Q l))

/-- What a point leaves of dq. -/
theorem t5 (hm : ∀ Q r : Fin 2048, Q.val < r.val → (x3 (ix4 0 0 Q r) : EReal) = 0) (r : Fin 2048) (l : Fin 128) :
    out0_A_5 c i arg2 harg2 arg3 harg3 arg4 harg4 arg5 harg5 arg6 harg6 arg7 harg7 arg8 harg8 arg9 harg9 x0 x1 x2 x3 x4 (ix3 0 r l) = (∑ r' : Fin 2048, dsE x2 x3 x4 r r' * x1 (ix3 0 r' l) : EReal) := by
  unfold out0_A_5; rw [View.read_writes_junk_eq_canon]; unfold kernelRun0_A; dsimp only; sl_unfold_words; simp only [View.readAt_eq_ld, Memref.IsWhole.read_unread]
  by_cases h3 : 1536 ≤ r.val
  · rw [band_in 1536 _ _ _ r l ⟨r.val - 1536, by omega⟩ (by simp only []; omega)]
    pointwise [k0_pay2]
    simp only [ds3]
    try pointwise
    rw [← sum_trunc 2048 2048 (by omega) (fun r' => dsE x2 x3 x4 r r' * x1 (ix3 0 r' l)) (fun r' h => by rw [dsE_zero x2 x3 x4 hm r r' (by omega), zero_mul])]
    have hr : ∀ p, (⟨1536 + (r.val - 1536), p⟩ : Fin 2048) = r := fun p => Fin.ext (by simp only []; omega)
    refine Finset.sum_congr rfl fun x _ => ?_
    rw [← dsE_eq x2 x3 x4 hm 2048 (by omega) r (by omega)]
    try simp [hr]
  by_cases h2 : 1024 ≤ r.val
  · rw [band_out 1536 _ _ _ r l (by omega)]
    rw [band_in 1024 _ _ _ r l ⟨r.val - 1024, by omega⟩ (by simp only []; omega)]
    pointwise [k0_pay30]
    simp only [ds2]
    try pointwise
    rw [← sum_trunc 1536 2048 (by omega) (fun r' => dsE x2 x3 x4 r r' * x1 (ix3 0 r' l)) (fun r' h => by rw [dsE_zero x2 x3 x4 hm r r' (by omega), zero_mul])]
    have hr : ∀ p, (⟨1024 + (r.val - 1024), p⟩ : Fin 2048) = r := fun p => Fin.ext (by simp only []; omega)
    refine Finset.sum_congr rfl fun x _ => ?_
    rw [← dsE_eq x2 x3 x4 hm 1536 (by omega) r (by omega)]
    try simp [hr]
  by_cases h1 : 512 ≤ r.val
  · rw [band_out 1536 _ _ _ r l (by omega)]
    rw [band_out 1024 _ _ _ r l (by omega)]
    rw [band_in 512 _ _ _ r l ⟨r.val - 512, by omega⟩ (by simp only []; omega)]
    pointwise [k0_pay23]
    simp only [ds1]
    try pointwise
    rw [← sum_trunc 1024 2048 (by omega) (fun r' => dsE x2 x3 x4 r r' * x1 (ix3 0 r' l)) (fun r' h => by rw [dsE_zero x2 x3 x4 hm r r' (by omega), zero_mul])]
    have hr : ∀ p, (⟨512 + (r.val - 512), p⟩ : Fin 2048) = r := fun p => Fin.ext (by simp only []; omega)
    refine Finset.sum_congr rfl fun x _ => ?_
    rw [← dsE_eq x2 x3 x4 hm 1024 (by omega) r (by omega)]
    try simp [hr]
  · rw [band_out 1536 _ _ _ r l (by omega)]
    rw [band_out 1024 _ _ _ r l (by omega)]
    rw [band_out 512 _ _ _ r l (by omega)]
    rw [band_in 0 _ _ _ r l ⟨r.val - 0, by omega⟩ (by simp only []; omega)]
    pointwise [k0_pay14]
    simp only [ds0]
    try pointwise
    rw [← sum_trunc 512 2048 (by omega) (fun r' => dsE x2 x3 x4 r r' * x1 (ix3 0 r' l)) (fun r' h => by rw [dsE_zero x2 x3 x4 hm r r' (by omega), zero_mul])]
    have hr : ∀ p, (⟨0 + (r.val - 0), p⟩ : Fin 2048) = r := fun p => Fin.ext (by simp only []; omega)
    refine Finset.sum_congr rfl fun x _ => ?_
    rw [← dsE_eq x2 x3 x4 hm 512 (by omega) r (by omega)]
    try simp [hr]

end Cert.AttnBwdIdeal.Blk
end
-- ==== Proof.AttnArr.lean ====
module

public import proofs.«01_k».proof.Proof.AttnBlock
public import Idealize.ShloMosaic.Lib.Claim
public import Idealize.ShloMosaic.Lib.Pointwise
public import Idealize.ShloMosaic.Lib.Pipeline.ValueKit
public import Idealize.ShloMosaic.Lib.Pipeline.ReadBack

@[expose] public section
set_option maxRecDepth 16384
noncomputable section
namespace Cert.AttnBwdIdeal.Arr
open Idealize.ShloMosaic Idealize.ShloMosaic.TcCoe Idealize.ShloMosaic.Tactic
open Cert.AttnBwdIdeal Cert.AttnBwdIdeal.Gen
variable (m : (ℓ : Loc nD τ sig) → Buf (Elt Ideal) ℓ)
/-- Which block of dv a point writes. -/
theorem idx7 : ∀ t : Fin grid0.N, win0_7.index t = ![(grid0.coords t 0).val, 0, (grid0.coords t 1).val] := by decide +kernel
/-- Which block of k a point reads. -/
theorem idx1 : ∀ t : Fin grid0.N, win0_1.index t = ![(grid0.coords t 0).val, 0, (grid0.coords t 1).val] := by decide +kernel
/-- Which block of v a point reads. -/
theorem idx2 : ∀ t : Fin grid0.N, win0_2.index t = ![(grid0.coords t 0).val, 0, (grid0.coords t 1).val] := by decide +kernel
/-- Which block of dq a point writes. -/
theorem idx5 : ∀ t : Fin grid0.N, win0_5.index t = ![(grid0.coords t 0).val, 0, (grid0.coords t 1).val] := by decide +kernel
/-- Which block of dk a point writes. -/
theorem idx6 : ∀ t : Fin grid0.N, win0_6.index t = ![(grid0.coords t 0).val, 0, (grid0.coords t 1).val] := by decide +kernel
/-- Which block of q a point reads. -/
theorem idx0 : ∀ t : Fin grid0.N, win0_0.index t = ![(grid0.coords t 0).val, 0, (grid0.coords t 1).val] := by decide +kernel
/-- Which block of the cotangent a point reads. -/
theorem idx4 : ∀ t : Fin grid0.N, win0_4.index t = ![(grid0.coords t 0).val, 0, (grid0.coords t 1).val] := by decide +kernel
/-- Which block of the probabilities a point reads. -/
theorem idx3 : ∀ t : Fin grid0.N, win0_3.index t = ![(grid0.coords t 0).val, (grid0.coords t 1).val, 0, 0] := by decide +kernel

/-- The head a column belongs to. -/
def hd (c : Fin 1024) : Fin 8 := ⟨c.val / 128, by omega⟩
/-- The lane of its head a column stands at. -/
def lane (c : Fin 1024) : Fin 128 := ⟨c.val % 128, by omega⟩
/-- A head's column from the lane. -/
def col (h : Fin 8) (l : Fin 128) : Fin 1024 := ⟨128 * h.val + l.val, by omega⟩

/-- The entry arrays the windows 0 to 4 read. -/
def A0 (c : Dev nD) : Vec Ideal S2x2048x1024 .bf16 := V m c main_v26
/-- The entry array of k. -/
def A1 (c : Dev nD) : Vec Ideal S2x2048x1024 .bf16 := V m c main_v29
/-- The entry array of v. -/
def A2 (c : Dev nD) : Vec Ideal S2x2048x1024 .bf16 := V m c main_v32
/-- The entry array of the probabilities. -/
def A3 (c : Dev nD) : Vec Ideal S2x8x2048x2048 .bf16 := V m c main_v23
/-- The entry array of the cotangent. -/
def A4 (c : Dev nD) : Vec Ideal S2x2048x1024 .bf16 := V m c main_v35

/-! ## The three output arrays, as functions of the entry arrays -/

section Closed
variable (X0 X1 X2 : Vec Ideal S2x2048x1024 .bf16) (X3 : Vec Ideal S2x8x2048x2048 .bf16) (X4 : Vec Ideal S2x2048x1024 .bf16)

/-- The gradient of one probability: a row of the cotangent times a row of the values. -/
def dpA (b : Fin 2) (h : Fin 8) (Q r : Fin 2048) : EReal := ∑ l : Fin 128, X4 (ix3 b Q (col h l)) * X2 (ix3 b r (col h l))
/-- The gradient of one score, by the softmax rule from the probabilities. -/
def dsA (b : Fin 2) (h : Fin 8) (Q r : Fin 2048) : EReal :=
  X3 (ix4 b h Q r) * (dpA X2 X4 b h Q r - ∑ r' : Fin 2048, X3 (ix4 b h Q r') * dpA X2 X4 b h Q r') * Ideal.ofBits .f32 1037108716#32
/-- The gradient of the queries, array 5. -/
def G5 : Vec Ideal S2x2048x1024 .f32 :=
  fun i => (∑ k : Fin 2048, dsA X2 X3 X4 (i 0) (hd (i 2)) (i 1) k * X1 (ix3 (i 0) k (col (hd (i 2)) (lane (i 2)))) : EReal)
/-- The gradient of the keys, array 6. -/
def G6 : Vec Ideal S2x2048x1024 .f32 :=
  fun i => (∑ Q : Fin 2048, dsA X2 X3 X4 (i 0) (hd (i 2)) Q (i 1) * X0 (ix3 (i 0) Q (col (hd (i 2)) (lane (i 2)))) : EReal)
/-- The gradient of the values, array 7. -/
def G7 : Vec Ideal S2x2048x1024 .f32 :=
  fun i => (∑ Q : Fin 2048, X3 (ix4 (i 0) (hd (i 2)) Q (i 1)) * X4 (ix3 (i 0) Q (col (hd (i 2)) (lane (i 2)))) : EReal)

end Closed

/-- Where a point's block of q lies. -/
theorem emb0 (t : Fin grid0.N) (Q : Fin 2048) (l : Fin 128) :
    (win0_0.blk t).view.emb (ix3 0 Q l) = ix3 (grid0.coords t 0) Q (col (grid0.coords t 1) l) := by
  blk_ext [idx0 t, col]
/-- What a block of q reads of an array. -/
theorem read0 (X : Vec Ideal S2x2048x1024 .bf16) (t : Fin grid0.N) (Q : Fin 2048) (l : Fin 128) :
    (win0_0.blk t).view.read (Elt Ideal) X (ix3 0 Q l) = X (ix3 (grid0.coords t 0) Q (col (grid0.coords t 1) l)) :=
  congrArg X (emb0 t Q l)
/-- What a point reads of q. -/
theorem blk0 (c : Dev nD) (t : Fin grid0.N) (Q : Fin 2048) (l : Fin 128) :
    iblk m c 0 t (ix3 0 Q l) = A0 m c (ix3 (grid0.coords t 0) Q (col (grid0.coords t 1) l)) :=
  read0 (A0 m c) t Q l

/-- Where a point's block of k lies. -/
theorem emb1 (t : Fin grid0.N) (Q : Fin 2048) (l : Fin 128) :
    (win0_1.blk t).view.emb (ix3 0 Q l) = ix3 (grid0.coords t 0) Q (col (grid0.coords t 1) l) := by
  blk_ext [idx1 t, col]
/-- What a block of k reads of an array. -/
theorem read1 (X : Vec Ideal S2x2048x1024 .bf16) (t : Fin grid0.N) (Q : Fin 2048) (l : Fin 128) :
    (win0_1.blk t).view.read (Elt Ideal) X (ix3 0 Q l) = X (ix3 (grid0.coords t 0) Q (col (grid0.coords t 1) l)) :=
  congrArg X (emb1 t Q l)
/-- What a point reads of k. -/
theorem blk1 (c : Dev nD) (t : Fin grid0.N) (Q : Fin 2048) (l : Fin 128) :
    iblk m c 1 t (ix3 0 Q l) = A1 m c (ix3 (grid0.coords t 0) Q (col (grid0.coords t 1) l)) :=
  read1 (A1 m c) t Q l

/-- Where a point's block of v lies. -/
theorem emb2 (t : Fin grid0.N) (Q : Fin 2048) (l : Fin 128) :
    (win0_2.blk t).view.emb (ix3 0 Q l) = ix3 (grid0.coords t 0) Q (col (grid0.coords t 1) l) := by
  blk_ext [idx2 t, col]
/-- What a block of v reads of an array. -/
theorem read2 (X : Vec Ideal S2x2048x1024 .bf16) (t : Fin grid0.N) (Q : Fin 2048) (l : Fin 128) :
    (win0_2.blk t).view.read (Elt Ideal) X (ix3 0 Q l) = X (ix3 (grid0.coords t 0) Q (col (grid0.coords t 1) l)) :=
  congrArg X (emb2 t Q l)
/-- What a point reads of v. -/
theorem blk2 (c : Dev nD) (t : Fin grid0.N) (Q : Fin 2048) (l : Fin 128) :
    iblk m c 2 t (ix3 0 Q l) = A2 m c (ix3 (grid0.coords t 0) Q (col (grid0.coords t 1) l)) :=
  read2 (A2 m c) t Q l

/-- Where a point's block of the cotangent lies. -/
theorem emb4 (t : Fin grid0.N) (Q : Fin 2048) (l : Fin 128) :
    (win0_4.blk t).view.emb (ix3 0 Q l) = ix3 (grid0.coords t 0) Q (col (grid0.coords t 1) l) := by
  blk_ext [idx4 t, col]
/-- What a block of the cotangent reads of an array. -/
theorem read4 (X : Vec Ideal S2x2048x1024 .bf16) (t : Fin grid0.N) (Q : Fin 2048) (l : Fin 128) :
    (win0_4.blk t).view.read (Elt Ideal) X (ix3 0 Q l) = X (ix3 (grid0.coords t 0) Q (col (grid0.coords t 1) l)) :=
  congrArg X (emb4 t Q l)
/-- What a point reads of the cotangent. -/
theorem blk4 (c : Dev nD) (t : Fin grid0.N) (Q : Fin 2048) (l : Fin 128) :
    iblk m c 4 t (ix3 0 Q l) = A4 m c (ix3 (grid0.coords t 0) Q (col (grid0.coords t 1) l)) :=
  read4 (A4 m c) t Q l

/-- Where a point's block of dv lies. -/
theorem emb7 (t : Fin grid0.N) (Q : Fin 2048) (l : Fin 128) :
    (win0_7.blk t).view.emb (ix3 0 Q l) = ix3 (grid0.coords t 0) Q (col (grid0.coords t 1) l) := by
  blk_ext [idx7 t, col]

/-- Where a point's block of the probabilities lies. -/
theorem emb3 (t : Fin grid0.N) (Q r : Fin 2048) :
    (win0_3.blk t).view.emb (ix4 0 0 Q r) = ix4 (grid0.coords t 0) (grid0.coords t 1) Q r := by
  blk_ext [idx3 t]
/-- What a block of the probabilities reads of an array. -/
theorem read3 (X : Vec Ideal S2x8x2048x2048 .bf16) (t : Fin grid0.N) (Q r : Fin 2048) :
    (win0_3.blk t).view.read (Elt Ideal) X (ix4 0 0 Q r) = X (ix4 (grid0.coords t 0) (grid0.coords t 1) Q r) :=
  congrArg X (emb3 t Q r)
/-- What a point reads of the probabilities. -/
theorem blk3 (c : Dev nD) (t : Fin grid0.N) (Q r : Fin 2048) :
    iblk m c 3 t (ix4 0 0 Q r) = A3 m c (ix4 (grid0.coords t 0) (grid0.coords t 1) Q r) :=
  read3 (A3 m c) t Q r

/-- The head of a head's column. -/
theorem hd_col (h : Fin 8) (l : Fin 128) : hd (col h l) = h := by
  apply Fin.ext; simp only [hd, col]; omega

/-- An index of a block is the one of its coordinates. -/
theorem blockIdx (y : S1x2048x128.Idx) : y = ix3 0 (y 1) (y 2) := by
  funext a
  match a with
  | ⟨0, _⟩ => exact Subsingleton.elim (α := Fin 1) _ _
  | ⟨1, _⟩ => rfl
  | ⟨2, _⟩ => rfl

/-- Where a point's block of dq lies. -/
theorem emb5 (t : Fin grid0.N) (Q : Fin 2048) (l : Fin 128) :
    (win0_5.blk t).view.emb (ix3 0 Q l) = ix3 (grid0.coords t 0) Q (col (grid0.coords t 1) l) := by
  blk_ext [idx5 t, col]

/-- Where a point's block of dk lies. -/
theorem emb6 (t : Fin grid0.N) (Q : Fin 2048) (l : Fin 128) :
    (win0_6.blk t).view.emb (ix3 0 Q l) = ix3 (grid0.coords t 0) Q (col (grid0.coords t 1) l) := by
  blk_ext [idx6 t, col]

/-- The lane of a head's column. -/
theorem lane_col (h : Fin 8) (l : Fin 128) : lane (col h l) = l := by
  apply Fin.ext; simp only [lane, col]; omega

/-- The probabilities are causal: none after the diagonal. -/
def Causal (X3 : Vec Ideal S2x8x2048x2048 .bf16) : Prop :=
  ∀ (b : Fin 2) (h : Fin 8) (Q r : Fin 2048), Q.val < r.val → (X3 (ix4 b h Q r) : EReal) = 0

/-- What grid point `t` leaves in window 5: its block of the closed form. -/
theorem out5 (c : Dev nD) (t : Fin grid0.N) (hm : Causal (A3 m c)) (r : Fin 2048) (l : Fin 128) :
    (outsAt0 m c t).1 (ix3 0 r l) = G5 (A1 m c) (A2 m c) (A3 m c) (A4 m c) (ix3 (grid0.coords t 0) r (col (grid0.coords t 1) l)) := by
  unfold outsAt0
  dsimp only
  generalize h1 : iblk m c 1 t = x1
  have e1 : ∀ (Q : Fin 2048) (l : Fin 128), x1 (ix3 0 Q l) = A1 m c (ix3 (grid0.coords t 0) Q (col (grid0.coords t 1) l)) := fun Q l => h1 ▸ blk1 m c t Q l
  generalize h2 : iblk m c 2 t = x2
  have e2 : ∀ (Q : Fin 2048) (l : Fin 128), x2 (ix3 0 Q l) = A2 m c (ix3 (grid0.coords t 0) Q (col (grid0.coords t 1) l)) := fun Q l => h2 ▸ blk2 m c t Q l
  generalize h4 : iblk m c 4 t = x4
  have e4 : ∀ (Q : Fin 2048) (l : Fin 128), x4 (ix3 0 Q l) = A4 m c (ix3 (grid0.coords t 0) Q (col (grid0.coords t 1) l)) := fun Q l => h4 ▸ blk4 m c t Q l
  generalize h3 : iblk m c 3 t = x3
  have e3 : ∀ Q r : Fin 2048, x3 (ix4 0 0 Q r) = A3 m c (ix4 (grid0.coords t 0) (grid0.coords t 1) Q r) := fun Q r => h3 ▸ blk3 m c t Q r
  refine (Blk.t5 _ _ _ _ _ _ _ _ _ _ _ _ _ _ _ _ _ _ _ _ _ _ _ (fun Q r h => (e3 Q r).trans (hm _ _ _ _ h)) r l).trans ?_
  have key : ∀ (b : Fin 2) (h : Fin 8), G5 (A1 m c) (A2 m c) (A3 m c) (A4 m c) (ix3 b r (col h l)) = ∑ k, dsA (A2 m c) (A3 m c) (A4 m c) b h r k * A1 m c (ix3 b k (col h l)) := by
    intro b h; unfold G5; simp only [ix3_0, ix3_1, ix3_2, hd_col, lane_col]
  refine Eq.trans ?_ (key (grid0.coords t 0) (grid0.coords t 1)).symm
  unfold Blk.dsE Blk.dpE dsA dpA
  simp only [e3, e1, e2, e4]

/-- Output array 5 after the run is its closed form. -/
theorem arr5 (c : Dev nD) (hm : Causal (A3 m c)) :
    (dats m 0 c).arrAt 5 cfg0.N = G5 (A1 m c) (A2 m c) (A3 m c) (A4 m c) := by
  refine (dats m 0 c).arrAt_eq_of_covers 5 _ (by decide +kernel) fun t hf y => ?_
  blk_simp
  rw [after0_5]
  have hy := blockIdx y
  refine (congrArg (outsAt0 m c t).1 hy).trans ((out5 m c t hm _ _).trans ?_)
  exact congrArg (G5 (A1 m c) (A2 m c) (A3 m c) (A4 m c)) (((congrArg (win0_5.blk t).view.emb hy)).trans (emb5 t _ _)).symm

/-- What grid point `t` leaves in window 6: its block of the closed form. -/
theorem out6 (c : Dev nD) (t : Fin grid0.N) (hm : Causal (A3 m c)) (r : Fin 2048) (l : Fin 128) :
    (outsAt0 m c t).2.1 (ix3 0 r l) = G6 (A0 m c) (A2 m c) (A3 m c) (A4 m c) (ix3 (grid0.coords t 0) r (col (grid0.coords t 1) l)) := by
  unfold outsAt0
  dsimp only
  generalize h0 : iblk m c 0 t = x0
  have e0 : ∀ (Q : Fin 2048) (l : Fin 128), x0 (ix3 0 Q l) = A0 m c (ix3 (grid0.coords t 0) Q (col (grid0.coords t 1) l)) := fun Q l => h0 ▸ blk0 m c t Q l
  generalize h2 : iblk m c 2 t = x2
  have e2 : ∀ (Q : Fin 2048) (l : Fin 128), x2 (ix3 0 Q l) = A2 m c (ix3 (grid0.coords t 0) Q (col (grid0.coords t 1) l)) := fun Q l => h2 ▸ blk2 m c t Q l
  generalize h4 : iblk m c 4 t = x4
  have e4 : ∀ (Q : Fin 2048) (l : Fin 128), x4 (ix3 0 Q l) = A4 m c (ix3 (grid0.coords t 0) Q (col (grid0.coords t 1) l)) := fun Q l => h4 ▸ blk4 m c t Q l
  generalize h3 : iblk m c 3 t = x3
  have e3 : ∀ Q r : Fin 2048, x3 (ix4 0 0 Q r) = A3 m c (ix4 (grid0.coords t 0) (grid0.coords t 1) Q r) := fun Q r => h3 ▸ blk3 m c t Q r
  refine (Blk.t6 _ _ _ _ _ _ _ _ _ _ _ _ _ _ _ _ _ _ _ _ _ _ _ (fun Q r h => (e3 Q r).trans (hm _ _ _ _ h)) r l).trans ?_
  have key : ∀ (b : Fin 2) (h : Fin 8), G6 (A0 m c) (A2 m c) (A3 m c) (A4 m c) (ix3 b r (col h l)) = ∑ Q, dsA (A2 m c) (A3 m c) (A4 m c) b h Q r * A0 m c (ix3 b Q (col h l)) := by
    intro b h; unfold G6; simp only [ix3_0, ix3_1, ix3_2, hd_col, lane_col]
  refine Eq.trans ?_ (key (grid0.coords t 0) (grid0.coords t 1)).symm
  unfold Blk.dsE Blk.dpE dsA dpA
  simp only [e3, e0, e2, e4]

/-- Output array 6 after the run is its closed form. -/
theorem arr6 (c : Dev nD) (hm : Causal (A3 m c)) :
    (dats m 0 c).arrAt 6 cfg0.N = G6 (A0 m c) (A2 m c) (A3 m c) (A4 m c) := by
  refine (dats m 0 c).arrAt_eq_of_covers 6 _ (by decide +kernel) fun t hf y => ?_
  blk_simp
  rw [after0_6]
  have hy := blockIdx y
  refine (congrArg (outsAt0 m c t).2.1 hy).trans ((out6 m c t hm _ _).trans ?_)
  exact congrArg (G6 (A0 m c) (A2 m c) (A3 m c) (A4 m c)) (((congrArg (win0_6.blk t).view.emb hy)).trans (emb6 t _ _)).symm

/-- What grid point `t` leaves in window 7: its block of the closed form. -/
theorem out7 (c : Dev nD) (t : Fin grid0.N) (hm : Causal (A3 m c)) (r : Fin 2048) (l : Fin 128) :
    (outsAt0 m c t).2.2 (ix3 0 r l) = G7 (A3 m c) (A4 m c) (ix3 (grid0.coords t 0) r (col (grid0.coords t 1) l)) := by
  unfold outsAt0
  dsimp only
  generalize h4 : iblk m c 4 t = x4
  have e4 : ∀ (Q : Fin 2048) (l : Fin 128), x4 (ix3 0 Q l) = A4 m c (ix3 (grid0.coords t 0) Q (col (grid0.coords t 1) l)) := fun Q l => h4 ▸ blk4 m c t Q l
  generalize h3 : iblk m c 3 t = x3
  have e3 : ∀ Q r : Fin 2048, x3 (ix4 0 0 Q r) = A3 m c (ix4 (grid0.coords t 0) (grid0.coords t 1) Q r) := fun Q r => h3 ▸ blk3 m c t Q r
  refine (Blk.t7 _ _ _ _ _ _ _ _ _ _ _ _ _ _ _ _ _ _ _ _ _ _ _ (fun Q r h => (e3 Q r).trans (hm _ _ _ _ h)) r l).trans ?_
  have key : ∀ (b : Fin 2) (h : Fin 8), G7 (A3 m c) (A4 m c) (ix3 b r (col h l)) = (∑ Q : Fin 2048, A3 m c (ix4 b h Q r) * A4 m c (ix3 b Q (col h l)) : EReal) := by
    intro b h; unfold G7; simp only [ix3_0, ix3_1, ix3_2, hd_col, lane_col]
  refine Eq.trans ?_ (key (grid0.coords t 0) (grid0.coords t 1)).symm
  skip
  simp only [e3, e4]

/-- Output array 7 after the run is its closed form. -/
theorem arr7 (c : Dev nD) (hm : Causal (A3 m c)) :
    (dats m 0 c).arrAt 7 cfg0.N = G7 (A3 m c) (A4 m c) := by
  refine (dats m 0 c).arrAt_eq_of_covers 7 _ (by decide +kernel) fun t hf y => ?_
  blk_simp
  rw [after0_7]
  have hy := blockIdx y
  refine (congrArg (outsAt0 m c t).2.2 hy).trans ((out7 m c t hm _ _).trans ?_)
  exact congrArg (G7 (A3 m c) (A4 m c)) (((congrArg (win0_7.blk t).view.emb hy)).trans (emb7 t _ _)).symm
end Cert.AttnBwdIdeal.Arr
-- ==== Proof.AttnEntry.lean ====
module

public import proofs.«01_k».proof.Proof.AttnArr
public import proofs.«01_k».proof.Proof.Gen.AttnGradIdeal.Read

@[expose] public section
set_option maxRecDepth 16384
noncomputable section
namespace Cert.AttnBwdIdeal.Arr
open Idealize.ShloMosaic Idealize.ShloMosaic.TcCoe Idealize.ShloMosaic.Tactic
open Cert.AttnBwdIdeal Cert.AttnBwdIdeal.Gen
variable (m : (ℓ : Loc nD τ sig) → Buf (Elt Ideal) ℓ)

/-! ## The entry arrays, as functions of the arguments -/

/-- A `d`-wide head, read at one of 128 lanes: zero past its width. -/
def wide {d : Nat} (x : (⟨4, ![2, 2048, 8, d]⟩ : Shape).Idx → EReal) (b : Fin 2) (r : Fin 2048) (h : Fin 8) (l : Fin 128) : EReal :=
  if hl : l.val < d then x (ix4 b r h ⟨l.val, hl⟩) else 0

/-- The host's widening and reshape, read at a head's lane. -/
theorem dite_wide {d : Nat} (x : (⟨4, ![2, 2048, 8, d]⟩ : Shape).Idx → EReal) (b : Fin 2) (r : Fin 2048) (h : Fin 8) (l : Fin 128) :
    (if hh : (128 * h.val + l.val) / 128 < 8 ∧ (128 * h.val + l.val) % 128 < d
      then x (ix4 b r ⟨(128 * h.val + l.val) / 128, hh.1⟩ ⟨(128 * h.val + l.val) % 128, hh.2⟩) else 0) = wide x b r h l := by
  unfold wide
  have e1 : (128 * h.val + l.val) / 128 = h.val := by omega
  have e2 : (128 * h.val + l.val) % 128 = l.val := by omega
  simp only [e1, e2, h.isLt, true_and]

/-- The padded queries, read at a head and a lane. -/
theorem entry0 (c : Dev nD) (b : Fin 2) (r : Fin 2048) (h : Fin 8) (l : Fin 128) :
    A0 m c (ix3 b r (col h l)) = wide (d := 96) (m ((c.tc : Thread nD τ).loc main_arg0)) b r h l := by
  show Gen.V m c main_v26 _ = _
  entry_read
  unfold col
  pointwise
  exact dite_wide _ b r h l
/-- The padded keys, read at a head and a lane. -/
theorem entry1 (c : Dev nD) (b : Fin 2) (r : Fin 2048) (h : Fin 8) (l : Fin 128) :
    A1 m c (ix3 b r (col h l)) = wide (d := 96) (m ((c.tc : Thread nD τ).loc main_arg1)) b r h l := by
  show Gen.V m c main_v29 _ = _
  entry_read
  unfold col
  pointwise
  exact dite_wide _ b r h l
/-- The padded values, read at a head and a lane. -/
theorem entry2 (c : Dev nD) (b : Fin 2) (r : Fin 2048) (h : Fin 8) (l : Fin 128) :
    A2 m c (ix3 b r (col h l)) = wide (d := 64) (m ((c.tc : Thread nD τ).loc main_arg2)) b r h l := by
  show Gen.V m c main_v32 _ = _
  entry_read
  unfold col
  pointwise
  exact dite_wide _ b r h l
/-- The padded cotangent, read at a head and a lane. -/
theorem entry4 (c : Dev nD) (b : Fin 2) (r : Fin 2048) (h : Fin 8) (l : Fin 128) :
    A4 m c (ix3 b r (col h l)) = wide (d := 64) (m ((c.tc : Thread nD τ).loc main_arg3)) b r h l := by
  show Gen.V m c main_v35 _ = _
  entry_read
  unfold col
  pointwise
  exact dite_wide _ b r h l

/-- The probabilities the host hands the kernel are the reference's own. -/
theorem entry3 (c : Dev nD) :
    A3 m c = Cert.AttnGradIdeal.Read.val_main_v37 (F := Ideal) (m ((c.tc : Thread nD τ).loc main_arg0)) (m ((c.tc : Thread nD τ).loc main_arg1)) := by
  show Gen.V m c main_v23 = _
  entry_read
  rfl
end Cert.AttnBwdIdeal.Arr
-- ==== Proof.AttnMath.lean ====
module

public import Idealize.ShloMosaic.Lib.IdealHost
public import Idealize.ShloMosaic.PureOps

@[expose] public section
noncomputable section
namespace Cert.Attn
open Idealize.ShloMosaic

/-! ## Softmax and its gradient over the extended reals -/

/-- The pattern of minus infinity. -/
theorem neg_inf : Ideal.ofBits .f32 0xFF800000#32 = ⊥ := by simp [Ideal.ofBits, Ideal.ieee]
/-- The scores' scale is a real number. -/
theorem scale_real : ∃ κ : ℝ, Ideal.ofBits .f32 0x3DD105EC#32 = (κ : EReal) := by
  simp only [Ideal.ofBits, Ideal.ieee]
  rw [if_neg (by decide), if_neg (by decide)]
  exact ⟨_, rfl⟩

/-- A maximum over finitely many values below plus infinity, one of them not minus infinity, is a real. -/
theorem fold_max_real {ι : Type*} (S : Finset ι) (f : ι → EReal) (hlt : ∀ i ∈ S, f i < ⊤) (i : ι) (hi : i ∈ S) (hb : f i ≠ ⊥) :
    ∃ M : ℝ, S.fold max ⊥ f = (M : EReal) := by
  have h1 : f i ≤ S.fold max ⊥ f := (Finset.le_fold_max _).mpr (Or.inr ⟨i, hi, le_rfl⟩)
  have h2 : S.fold max ⊥ f < ⊤ := (Finset.fold_max_lt _).mpr ⟨bot_lt_top, hlt⟩
  have h3 : S.fold max ⊥ f ≠ ⊥ := fun h => hb (le_bot_iff.mp (h ▸ h1))
  exact ⟨_, (EReal.coe_toReal h2.ne h3).symm⟩

/-- A sum of reals is a real. -/
theorem sum_coe {ι : Type*} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- A nonnegative real distributes over a sum of extended reals. -/
theorem mul_sum_nonneg {ι : Type*} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A quotient by a positive real is a product with its inverse. -/
theorem div_pos_real (x : EReal) (T : ℝ) (hT : 0 < T) : Ideal.div x (T : EReal) = x * ((T⁻¹ : ℝ) : EReal) := by
  unfold Ideal.div
  rw [if_neg (by exact_mod_cast hT.ne'), EReal.coe_inv]

/-- THE SOFTMAX GRADIENT. With the exponentials `E` and their sum `T`, the quotient rule's two terms are the
    probability times the difference of the probability's gradient and the row's mean of those gradients. -/
theorem softmax_grad {n : Nat} (E : Fin n → ℝ) (T : ℝ) (hE : ∀ r, 0 ≤ E r) (hT : 0 < T) (D : Fin n → EReal) (r : Fin n) :
    (Ideal.div (D r) (T : EReal) + -(∑ k, D k * Ideal.div 1 ((T : EReal) * (T : EReal)) * (E k : EReal))) * (E r : EReal)
      = ((E r * T⁻¹ : ℝ) : EReal) * (D r - ∑ k, ((E k * T⁻¹ : ℝ) : EReal) * D k) := by
  have hc : (0 : ℝ) ≤ T⁻¹ := (inv_pos.mpr hT).le
  have hs : (∑ k, D k * Ideal.div 1 ((T : EReal) * (T : EReal)) * (E k : EReal))
      = ((T⁻¹ : ℝ) : EReal) * ∑ k, ((E k * T⁻¹ : ℝ) : EReal) * D k := by
    rw [mul_sum_nonneg _ _ hc]
    refine Finset.sum_congr rfl fun k _ => ?_
    rw [← EReal.coe_mul, div_pos_real 1 (T * T) (mul_pos hT hT), one_mul, mul_inv, EReal.coe_mul, EReal.coe_mul]
    ac_rfl
  rw [hs, div_pos_real _ T hT, ← mul_neg, mul_comm (D r),
    ← EReal.left_distrib_of_nonneg_of_ne_top (by exact_mod_cast hc) (EReal.coe_ne_top _), sub_eq_add_neg, EReal.coe_mul]
  ac_rfl

/-- The exponential of a score less the row's maximum: a nonnegative real, zero at minus infinity and positive at a real. -/
theorem exp_row {n : Nat} (v : Fin n → EReal) (M : ℝ) (hv : ∀ r, v r < ⊤) (Q : Fin n) (hQ : v Q ≠ ⊥) :
    ∃ E : Fin n → ℝ, (∀ r, Ideal.exp (v r - (M : EReal)) = (E r : EReal)) ∧ (∀ r, 0 ≤ E r) ∧ (∀ r, v r = ⊥ → E r = 0) ∧ 0 < ∑ r, E r := by
  have key : ∀ r, ∃ e : ℝ, Ideal.exp (v r - (M : EReal)) = (e : EReal) ∧ 0 ≤ e ∧ (v r = ⊥ → e = 0) ∧ (v r ≠ ⊥ → 0 < e) := by
    intro r
    by_cases hb : v r = ⊥
    · refine ⟨0, ?_, le_rfl, fun _ => rfl, fun h => absurd hb h⟩
      rw [hb, EReal.bot_sub, Ideal.exp_bot, EReal.coe_zero]
    · refine ⟨Real.exp ((v r).toReal - M), ?_, (Real.exp_pos _).le, fun h => absurd h hb, fun _ => Real.exp_pos _⟩
      conv_lhs => rw [← EReal.coe_toReal (hv r).ne hb]
      rw [← EReal.coe_sub, Ideal.exp_coe]
  choose E h1 h2 h3 h4 using key
  exact ⟨E, h1, h2, h3, Finset.sum_pos' (fun r _ => h2 r) ⟨Q, Finset.mem_univ _, h4 Q hQ⟩⟩

end Cert.Attn
-- ==== Proof.AttnRef.lean ====
module

public import proofs.«01_k».proof.Proof.AttnMath
public import proofs.«01_k».proof.Proof.Gen.AttnGradIdeal.Read
public import Idealize.ShloMosaic.Lib.ValueIdxCoords
public import Idealize.ShloMosaic.Lib.WordCmp
public import Idealize.ShloMosaic.Lib.Pipeline.Value
public import Idealize.ShloMosaic.Lib.Pointwise

@[expose] public section
set_option maxRecDepth 16384
noncomputable section
namespace Cert.AttnGradIdeal.Ref
open Idealize.ShloMosaic Idealize.ShloMosaic.Tactic Cert.AttnGradIdeal Cert.AttnGradIdeal.Read

/-! ## The reference's values, read at a batch, a head, a query row and a key row -/

variable (x0 x1 : (⟨S2x2048x8x96, .f32⟩ : BufTy).Contents (Elt Ideal)) (x2 x3 : (⟨S2x2048x8x64, .f32⟩ : BufTy).Contents (Elt Ideal))

/-- An index of rank four is the one of its coordinates. -/
theorem idx_eq4 {n0 n1 n2 n3 : Nat} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d := by
  funext x
  match x with
  | ⟨0, _⟩ => exact Fin.ext h0
  | ⟨1, _⟩ => exact Fin.ext h1
  | ⟨2, _⟩ => exact Fin.ext h2
  | ⟨3, _⟩ => exact Fin.ext h3
/-- An index of rank three is the one of its coordinates. -/
theorem idx_eq3 {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext x
  match x with
  | ⟨0, _⟩ => exact Fin.ext h0
  | ⟨1, _⟩ => exact Fin.ext h1
  | ⟨2, _⟩ => exact Fin.ext h2

/-- The causal mask. -/
theorem mask_at (b : Fin 2) (h : Fin 8) (Q r : Fin 2048) :
    val_main_v9 (F := Ideal) (ix4 b h Q r) = BitVec.ofBool (decide (r.val ≤ Q.val)) := by
  rw [val_main_v9_apply, val_main_v8_apply, val_main_v6_apply, val_main_v7_apply, val_main_v4_apply, val_main_v5_apply,
    val_main_v3_apply, val_main_v3_apply]
  exact WordCmp.cmpi_sle_ofNat (w := 32) (by have := r.isLt; show r.val < 2 ^ 31; omega) (by have := Q.isLt; show Q.val < 2 ^ 31; omega)

/-- A masked score: the scaled product at a key that is not later than the query, minus infinity at a later one. -/
theorem masked_at (b : Fin 2) (h : Fin 8) (Q r : Fin 2048) :
    val_main_v11 (F := Ideal) x0 x1 (ix4 b h Q r) = if r.val ≤ Q.val then val_main_v2 (F := Ideal) x0 x1 (ix4 b h Q r) else (⊥ : EReal) := by
  rw [val_main_v11_apply, mask_at, val_main_v10_apply, val_main_cst_0_apply]
  by_cases hh : r.val ≤ Q.val
  · rw [if_pos hh, decide_eq_true hh]; rfl
  · rw [if_neg hh, decide_eq_false hh]; exact Cert.Attn.neg_inf

variable {x0 x1}

/-- A score of real queries and keys is a real. -/
theorem score_real (h0 : ∀ i, ∃ a : ℝ, x0 i = (a : EReal)) (h1 : ∀ i, ∃ a : ℝ, x1 i = (a : EReal)) (i : S2x8x2048x2048.Idx) :
    ∃ a : ℝ, val_main_v2 (F := Ideal) x0 x1 i = (a : EReal) := by
  obtain ⟨κ, hκ⟩ := Cert.Attn.scale_real
  choose f0 e0 using h0
  choose f1 e1 using h1
  rw [val_main_v2_apply, val_main_v0_apply, val_main_v1_apply, val_main_cst_apply]
  refine ⟨(∑ k : Fin 96, f0 (lidx_main_v0 i k) * f1 (ridx_main_v0 i k)) * κ, ?_⟩
  simp only [e0, e1]
  rw [EReal.coe_mul, ← Cert.Attn.sum_coe, ← hκ]
  simp only [EReal.coe_mul]
  rfl

/-- The shape fact of the reductions over the keys. -/
theorem dropRow : S2x8x2048x2048.ReducesTo [3] S2x8x2048 := Gen.reducesTo_S2x8x2048x2048_S2x8x2048_d3

/-- The running maximum of a row is a real. -/
theorem max_real (h0 : ∀ i, ∃ a : ℝ, x0 i = (a : EReal)) (h1 : ∀ i, ∃ a : ℝ, x1 i = (a : EReal)) (b : Fin 2) (h : Fin 8) (Q : Fin 2048) :
    ∃ M : ℝ, val_main_v20 (F := Ideal) x0 x1 (ix3 b h Q) = (M : EReal) := by
  have hlt : ∀ i, (val_main_v11 (F := Ideal) x0 x1 i : EReal) < ⊤ := by
    intro i
    obtain ⟨b, h, Q, r, rfl⟩ : ∃ (b : Fin 2) (h : Fin 8) (Q r : Fin 2048), i = ix4 b h Q r := ⟨i 0, i 1, i 2, i 3, idx_eq4 i _ _ _ _ rfl rfl rfl rfl⟩
    rw [masked_at]
    split
    · obtain ⟨a, ha⟩ := score_real h0 h1 (ix4 b h Q r); rw [ha]; exact EReal.coe_lt_top a
    · exact bot_lt_top
  obtain ⟨M, hM⟩ := Cert.Attn.fold_max_real (Finset.univ.filter fun i => dropRow.drop i = ix3 b h Q)
    (val_main_v11 (F := Ideal) x0 x1) (fun i _ => hlt i) (ix4 b h Q Q)
    (Finset.mem_filter.mpr ⟨Finset.mem_univ _, idx_eq3 _ _ _ _ (Shape.ReducesTo.drop_apply_val_of_eq dropRow (ix4 b h Q Q) 0 0)
      (Shape.ReducesTo.drop_apply_val_of_eq dropRow (ix4 b h Q Q) 1 1) (Shape.ReducesTo.drop_apply_val_of_eq dropRow (ix4 b h Q Q) 2 2)⟩)
    (by rw [masked_at, if_pos le_rfl]; obtain ⟨a, ha⟩ := score_real h0 h1 (ix4 b h Q Q); rw [ha]; exact EReal.coe_ne_bot a)
  refine ⟨M, ?_⟩
  rw [val_main_v20_apply, val_main_v19_apply, val_main_cst_4_apply]
  unfold val_main_v13
  rw [Host.reduce_eq_fold, val_main_cst_2_apply]
  have e : (FloatOps.ofBits (F := Ideal) .f32 0xFF800000#32 : EReal) = ⊥ := Cert.Attn.neg_inf
  rw [e]
  exact (max_eq_right bot_le).trans hM

/-- THE ROW. Of real queries and keys, a query's exponentials are nonnegative reals, zero at the later keys, with a
    positive sum. -/
theorem row (h0 : ∀ i, ∃ a : ℝ, x0 i = (a : EReal)) (h1 : ∀ i, ∃ a : ℝ, x1 i = (a : EReal)) (b : Fin 2) (h : Fin 8) (Q : Fin 2048) :
    ∃ E : Fin 2048 → ℝ, (∀ r, val_main_v33 (F := Ideal) x0 x1 (ix4 b h Q r) = (E r : EReal)) ∧ (∀ r, 0 ≤ E r)
      ∧ (∀ r : Fin 2048, Q.val < r.val → E r = 0) ∧ 0 < ∑ r, E r := by
  obtain ⟨M, hM⟩ := max_real h0 h1 b h Q
  obtain ⟨E, e1, e2, e3, e4⟩ := Cert.Attn.exp_row (fun r => (val_main_v11 (F := Ideal) x0 x1 (ix4 b h Q r) : EReal)) M
    (fun r => by
      simp only [masked_at]
      split
      · obtain ⟨a, ha⟩ := score_real h0 h1 (ix4 b h Q r); rw [ha]; exact EReal.coe_lt_top a
      · exact bot_lt_top) Q
    (by simp only [masked_at]; rw [if_pos le_rfl]; obtain ⟨a, ha⟩ := score_real h0 h1 (ix4 b h Q Q); rw [ha]; exact EReal.coe_ne_bot a)
  refine ⟨E, fun r => ?_, e2, fun r hr => e3 r ?_, e4⟩
  · rw [val_main_v33_apply, val_main_v32_apply, val_main_v31_apply, val_main_v30_apply,
      show idx_main_v30 (idx_main_v31 (ix4 b h Q r)) = ix3 b h Q from idx_eq3 _ _ _ _ rfl rfl rfl, hM]
    exact e1 r
  · simp only [masked_at]; rw [if_neg (by omega)]

/-- The sum of a row's exponentials. -/
theorem sum_at (b : Fin 2) (h : Fin 8) (Q : Fin 2048) :
    val_main_v34 (F := Ideal) x0 x1 (ix3 b h Q) = (∑ r : Fin 2048, val_main_v33 (F := Ideal) x0 x1 (ix4 b h Q r) : EReal) := by
  rw [val_main_v34_apply, val_main_cst_10_apply]
  simp only [show ∀ k, idx_main_v34 (ix3 b h Q) k = ix4 b h Q k from fun k => idx_eq4 _ _ _ _ _ rfl rfl rfl rfl]
  rw [show (FloatOps.ofBits (F := Ideal) .f32 0x00000000#32 : EReal) = 0 from Ideal.ofBits_zero_f32]
  exact zero_add _

/-- A probability: the exponential over the row's sum. -/
theorem prob_at (b : Fin 2) (h : Fin 8) (Q r : Fin 2048) :
    val_main_v37 (F := Ideal) x0 x1 (ix4 b h Q r)
      = Ideal.div (val_main_v33 (F := Ideal) x0 x1 (ix4 b h Q r)) (val_main_v34 (F := Ideal) x0 x1 (ix3 b h Q)) := by
  rw [val_main_v37_apply, val_main_v36_apply, val_main_v35_apply,
    show idx_main_v35 (idx_main_v36 (ix4 b h Q r)) = ix3 b h Q from idx_eq3 _ _ _ _ rfl rfl rfl]
  rfl

/-- The gradient of a probability: a row of the cotangent times a row of the values. -/
theorem dp_at (b : Fin 2) (h : Fin 8) (Q r : Fin 2048) :
    val_main_v44 (F := Ideal) x2 x3 (ix4 b h Q r) = (∑ l : Fin 64, x3 (ix4 b Q h l) * x2 (ix4 b r h l) : EReal) := by
  rw [val_main_v44_apply]
  refine Finset.sum_congr rfl fun l _ => ?_
  rw [val_main_v43_apply, show idx_main_v43 (lidx_main_v44 (ix4 b h Q r) l) = ix4 b Q h l from idx_eq4 _ _ _ _ _ rfl rfl rfl rfl,
    show ridx_main_v44 (ix4 b h Q r) l = ix4 b r h l from idx_eq4 _ _ _ _ _ rfl rfl rfl rfl]

/-- The sum the softmax's quotient rule subtracts. -/
theorem corr_at (b : Fin 2) (h : Fin 8) (Q r : Fin 2048) :
    val_main_v56 (F := Ideal) x0 x1 x2 x3 (ix4 b h Q r)
      = -(∑ k : Fin 2048, (val_main_v44 (F := Ideal) x2 x3 (ix4 b h Q k)
          * Ideal.div 1 (val_main_v34 (F := Ideal) x0 x1 (ix3 b h Q) * val_main_v34 (F := Ideal) x0 x1 (ix3 b h Q)))
          * val_main_v33 (F := Ideal) x0 x1 (ix4 b h Q k) : EReal) := by
  rw [val_main_v56_apply, show idx_main_v56 (ix4 b h Q r) = ix3 b h Q from idx_eq3 _ _ _ _ rfl rfl rfl, val_main_v55_apply,
    val_main_cst_13_apply, Fin.sum_univ_one, val_main_v52_apply, val_main_v51_apply,
    show idx_main_v51 (idx_main_v55 (ix3 b h Q) 0) = ix3 b h Q from idx_eq3 _ _ _ _
      (by show (((b.val * 8 + h.val) * 2048 + Q.val) * 1 + 0) / 16384 = b.val; omega)
      (by show (((b.val * 8 + h.val) * 2048 + Q.val) * 1 + 0) / 2048 % 8 = h.val; omega)
      (by show (((b.val * 8 + h.val) * 2048 + Q.val) * 1 + 0) % 2048 = Q.val; omega),
    val_main_v50_apply, val_main_cst_12_apply]
  rw [show (FloatOps.ofBits (F := Ideal) .f32 0x00000000#32 : EReal) = 0 from Ideal.ofBits_zero_f32]
  refine (zero_add _).trans (congrArg (fun z : EReal => -z) ((zero_add _).trans ?_))
  refine Finset.sum_congr rfl fun k _ => ?_
  rw [show idx_main_v50 (ix3 b h Q) k = ix4 b h Q k from idx_eq4 _ _ _ _ _ rfl rfl rfl rfl, val_main_v49_apply, val_main_v48_apply,
    val_main_v47_apply, val_main_v40_apply, val_main_v39_apply, val_main_cst_11_apply, val_main_v38_apply, val_main_v35_apply,
    show idx_main_v35 (idx_main_v47 (ix4 b h Q k)) = ix3 b h Q from idx_eq3 _ _ _ _ rfl rfl rfl]
  rw [show (FloatOps.ofBits (F := Ideal) .f32 0x3F800000#32 : EReal) = 1 from Ideal.ofBits_one_f32]
  rfl

/-- The gradient of a score, as the reference computes it. -/
theorem ds_at (b : Fin 2) (h : Fin 8) (Q r : Fin 2048) :
    val_main_v62 (F := Ideal) x0 x1 x2 x3 (ix4 b h Q r)
      = (if r.val ≤ Q.val then
          (Ideal.div (val_main_v44 (F := Ideal) x2 x3 (ix4 b h Q r)) (val_main_v34 (F := Ideal) x0 x1 (ix3 b h Q))
            + val_main_v56 (F := Ideal) x0 x1 x2 x3 (ix4 b h Q r)) * val_main_v33 (F := Ideal) x0 x1 (ix4 b h Q r)
         else (0 : EReal)) * Ideal.ofBits .f32 1037108716#32 := by
  rw [val_main_v62_apply, val_main_v61_apply, val_main_cst_15_apply, val_main_v60_apply, mask_at, val_main_v59_apply,
    val_main_cst_14_apply, val_main_v58_apply, val_main_v57_apply, val_main_v54_apply, val_main_v53_apply, val_main_v35_apply,
    show idx_main_v35 (idx_main_v53 (ix4 b h Q r)) = ix3 b h Q from idx_eq3 _ _ _ _ rfl rfl rfl]
  refine congrArg (fun z : EReal => z * Ideal.ofBits .f32 1037108716#32) ?_
  by_cases hh : r.val ≤ Q.val
  · rw [if_pos hh, decide_eq_true hh]; rfl
  · rw [if_neg hh, decide_eq_false hh]; exact Ideal.ofBits_zero_f32

/-- Of real queries and keys, no probability falls on a later key. -/
theorem prob_causal (h0 : ∀ i, ∃ a : ℝ, x0 i = (a : EReal)) (h1 : ∀ i, ∃ a : ℝ, x1 i = (a : EReal)) (b : Fin 2) (h : Fin 8)
    (Q r : Fin 2048) (hr : Q.val < r.val) : val_main_v37 (F := Ideal) x0 x1 (ix4 b h Q r) = (0 : EReal) := by
  obtain ⟨E, e1, e2, e3, e4⟩ := row h0 h1 b h Q
  rw [prob_at, sum_at]
  simp only [e1]
  rw [Cert.Attn.sum_coe, Cert.Attn.div_pos_real _ _ e4, e3 r hr, EReal.coe_zero, zero_mul]

/-- THE GRADIENT OF THE SCORES: the reference's quotient rule is the probability times the difference of its gradient
    and the row's mean. -/
theorem ds_eq (h0 : ∀ i, ∃ a : ℝ, x0 i = (a : EReal)) (h1 : ∀ i, ∃ a : ℝ, x1 i = (a : EReal)) (b : Fin 2) (h : Fin 8)
    (Q r : Fin 2048) :
    val_main_v62 (F := Ideal) x0 x1 x2 x3 (ix4 b h Q r)
      = (val_main_v37 (F := Ideal) x0 x1 (ix4 b h Q r) * (val_main_v44 (F := Ideal) x2 x3 (ix4 b h Q r)
          - ∑ k : Fin 2048, val_main_v37 (F := Ideal) x0 x1 (ix4 b h Q k) * val_main_v44 (F := Ideal) x2 x3 (ix4 b h Q k))
          * Ideal.ofBits .f32 1037108716#32 : EReal) := by
  obtain ⟨E, e1, e2, e3, e4⟩ := row h0 h1 b h Q
  have hp : ∀ k, (val_main_v37 (F := Ideal) x0 x1 (ix4 b h Q k) : EReal) = ((E k * (∑ r, E r)⁻¹ : ℝ) : EReal) := fun k => by
    rw [prob_at, sum_at]
    simp only [e1]
    rw [Cert.Attn.sum_coe, Cert.Attn.div_pos_real _ _ e4, EReal.coe_mul]
  rw [ds_at, corr_at, sum_at]
  simp only [hp, e1]
  rw [Cert.Attn.sum_coe]
  by_cases hh : r.val ≤ Q.val
  · rw [if_pos hh]
    exact congrArg (fun z : EReal => z * Ideal.ofBits .f32 1037108716#32)
      (Cert.Attn.softmax_grad E _ e2 e4 (fun k => val_main_v44 (F := Ideal) x2 x3 (ix4 b h Q k)) r)
  · rw [if_neg hh, e3 r (by omega), zero_mul, zero_mul (M₀ := ℝ), EReal.coe_zero, zero_mul, zero_mul]

end Cert.AttnGradIdeal.Ref
-- ==== Proof.AttnEq.lean ====
module

public import proofs.«01_k».proof.Proof.AttnEntry
public import proofs.«01_k».proof.Proof.AttnRef

@[expose] public section
set_option maxRecDepth 16384
noncomputable section
namespace Cert.Attn
open Idealize.ShloMosaic Idealize.ShloMosaic.Tactic Cert.AttnGradIdeal Cert.AttnGradIdeal.Read Cert.AttnGradIdeal.Ref
open Cert.AttnBwdIdeal.Arr (wide col hd lane dpA dsA G5 G6 G7)

variable {x0 x1 : (⟨S2x2048x8x96, .f32⟩ : BufTy).Contents (Elt Ideal)} {x2 x3 : (⟨S2x2048x8x64, .f32⟩ : BufTy).Contents (Elt Ideal)}

/-! ## The kernel's closed forms are the reference's results -/

/-- Heads laid side by side, each widened with zeros to 128 lanes: how both programs hold a gradient. -/
def Wide {d : Nat} (x : (⟨4, ![2, 2048, 8, d]⟩ : Shape).Idx → EReal) (X : (⟨3, ![2, 2048, 1024]⟩ : Shape).Idx → EReal) : Prop :=
  ∀ (b : Fin 2) (r : Fin 2048) (h : Fin 8) (l : Fin 128), X (ix3 b r (col h l)) = wide x b r h l

/-- An index of the 1024-wide arrays is a batch, a row, a head and a lane. -/
theorem idx_wide (i : S2x2048x1024.Idx) : ∃ (b : Fin 2) (r : Fin 2048) (h : Fin 8) (l : Fin 128), i = ix3 b r (col h l) :=
  ⟨i 0, i 1, hd (i 2), lane (i 2), idx_eq3 i _ _ _ rfl rfl (by show (i 2).val = 128 * ((i 2).val / 128) + (i 2).val % 128; omega)⟩

/-- Two arrays widened from the same heads are equal. -/
theorem Wide.unique {d : Nat} {x : (⟨4, ![2, 2048, 8, d]⟩ : Shape).Idx → EReal} {X Y : (⟨3, ![2, 2048, 1024]⟩ : Shape).Idx → EReal}
    (hX : Wide x X) (hY : Wide x Y) : X = Y := by
  funext i
  obtain ⟨b, r, h, l, rfl⟩ := idx_wide i
  rw [hX, hY]

/-- The reference's reshape of its widened heads, as an index. -/
theorem wide_idx (b : Fin 2) (r : Fin 2048) (h : Fin 8) (l : Fin 128) : idx_main_v69 (ix3 b r (col h l)) = ix4 b r h l := by
  have hb := b.isLt; have hr := r.isLt; have hh := h.isLt; have hl := l.isLt
  refine idx_eq4 _ _ _ _ _ ?_ ?_ ?_ ?_
  · show ((b.val * 2048 + r.val) * 1024 + (128 * h.val + l.val)) / 2097152 = b.val; omega
  · show ((b.val * 2048 + r.val) * 1024 + (128 * h.val + l.val)) / 1024 % 2048 = r.val; omega
  · show ((b.val * 2048 + r.val) * 1024 + (128 * h.val + l.val)) / 128 % 8 = h.val; omega
  · show ((b.val * 2048 + r.val) * 1024 + (128 * h.val + l.val)) % 128 = l.val; omega

/-- Heads joined with zeros along the lanes are the heads widened. -/
theorem concat_wide {d e : Nat} (x : (⟨4, ![2, 2048, 8, d]⟩ : Shape).Idx → EReal) (z : (⟨4, ![2, 2048, 8, e]⟩ : Shape).Idx → EReal)
    (hde : d + e = 128) (hz : ∀ i, z i = 0)
    (hc : Shape.Concatenates [(⟨4, ![2, 2048, 8, d]⟩ : Shape), (⟨4, ![2, 2048, 8, e]⟩ : Shape)] S2x2048x8x128 3)
    (b : Fin 2) (r : Fin 2048) (h : Fin 8) (l : Fin 128) :
    concatenate S2x2048x8x128 3 [⟨_, x⟩, ⟨_, z⟩] hc (ix4 b r h l) = wide x b r h l := by
  unfold wide
  by_cases hl : l.val < d
  · rw [dif_pos hl]
    exact concatenate_pair_apply_left (t := S2x2048x8x128) 3 x z hc (ix4 b r h l) rfl (ix4 b r h ⟨l.val, hl⟩) (fun a => match a with
      | ⟨0, _⟩ => rfl
      | ⟨1, _⟩ => rfl
      | ⟨2, _⟩ => rfl
      | ⟨3, _⟩ => rfl)
  · rw [dif_neg hl]
    have hl' := l.isLt
    refine (concatenate_pair_apply_right (t := S2x2048x8x128) 3 x z hc (ix4 b r h l) rfl rfl (ix4 b r h ⟨l.val - d, by omega⟩)
      (fun a ha => match a, ha with
      | ⟨0, _⟩, _ => rfl
      | ⟨1, _⟩, _ => rfl
      | ⟨2, _⟩, _ => rfl
      | ⟨3, _⟩, ha => absurd rfl ha) ?_).trans (hz _)
    show l.val - d + d = l.val
    omega

/-- The reference's gradient of the queries, by heads. -/
theorem ref_dq : Wide (val_main_v66 (F := Ideal) x0 x1 x2 x3) (val_main_v69 (F := Ideal) x0 x1 x2 x3) := by
  intro b r h l
  rw [val_main_v69_apply, wide_idx]
  exact concat_wide _ _ rfl (fun i => by rw [val_main_v67_apply]; exact Ideal.ofBits_zero_f32) _ b r h l
/-- The reference's gradient of the keys, by heads. -/
theorem ref_dk : Wide (val_main_v64 (F := Ideal) x0 x1 x2 x3) (val_main_v72 (F := Ideal) x0 x1 x2 x3) := by
  intro b r h l
  rw [val_main_v72_apply, show idx_main_v72 (ix3 b r (col h l)) = ix4 b r h l from wide_idx b r h l]
  exact concat_wide _ _ rfl (fun i => by rw [val_main_v70_apply]; exact Ideal.ofBits_zero_f32) _ b r h l
/-- The reference's gradient of the values, by heads. -/
theorem ref_dv : Wide (val_main_v46 (F := Ideal) x0 x1 x3) (val_main_v75 (F := Ideal) x0 x1 x3) := by
  intro b r h l
  rw [val_main_v75_apply, show idx_main_v75 (ix3 b r (col h l)) = ix4 b r h l from wide_idx b r h l]
  exact concat_wide _ _ rfl (fun i => by rw [val_main_v73_apply]; exact Ideal.ofBits_zero_f32) _ b r h l

section Kernel
variable {X0 X1 X2 : Vec Ideal Cert.AttnBwdIdeal.S2x2048x1024 .bf16} {X4 : Vec Ideal Cert.AttnBwdIdeal.S2x2048x1024 .bf16}

/-- A sum against widened heads is the sum against the heads, widened. -/
theorem sum_wide {d : Nat} (f : Fin 2048 → EReal) (x : (⟨4, ![2, 2048, 8, d]⟩ : Shape).Idx → EReal) (y : (⟨4, ![2, 2048, 8, d]⟩ : Shape).Idx → EReal)
    (b : Fin 2) (r : Fin 2048) (h : Fin 8) (l : Fin 128)
    (hy : ∀ l' : Fin d, y (ix4 b r h l') = ∑ k, f k * x (ix4 b k h l')) :
    ∑ k, f k * wide x b k h l = wide y b r h l := by
  unfold wide
  by_cases hl : l.val < d
  · simp only [dif_pos hl]; exact (hy _).symm
  · simp only [dif_neg hl, mul_zero, Finset.sum_const_zero]

/-- The kernel's products of cotangent and value rows, over the widened heads, are the reference's. -/
theorem dp_eq (h2 : Wide x2 X2) (h4 : Wide x3 X4) (b : Fin 2) (h : Fin 8) (Q r : Fin 2048) :
    dpA X2 X4 b h Q r = val_main_v44 (F := Ideal) x2 x3 (ix4 b h Q r) := by
  rw [dp_at]
  unfold dpA
  refine (Cert.AttnBwdIdeal.Blk.sum_trunc 64 128 (by decide) _ ?_).symm.trans ?_
  · intro l hl
    rw [show X4 (ix3 b Q (col h l)) = wide x3 b Q h l from h4 b Q h l]
    unfold wide; rw [dif_neg (by omega), zero_mul]
  · refine Finset.sum_congr rfl fun l _ => ?_
    have hl := l.isLt
    rw [show X4 (ix3 b Q (col h ⟨l.val, by omega⟩)) = wide x3 b Q h ⟨l.val, by omega⟩ from h4 b Q h _,
      show X2 (ix3 b r (col h ⟨l.val, by omega⟩)) = wide x2 b r h ⟨l.val, by omega⟩ from h2 b r h _]
    unfold wide; rw [dif_pos hl, dif_pos hl]

/-- The kernel's score gradients are the reference's. -/
theorem dsA_eq (h0 : ∀ i, ∃ a : ℝ, x0 i = (a : EReal)) (h1 : ∀ i, ∃ a : ℝ, x1 i = (a : EReal)) (h2 : Wide x2 X2) (h4 : Wide x3 X4)
    (b : Fin 2) (h : Fin 8) (Q r : Fin 2048) :
    dsA X2 (val_main_v37 (F := Ideal) x0 x1) X4 b h Q r = val_main_v62 (F := Ideal) x0 x1 x2 x3 (ix4 b h Q r) := by
  rw [ds_eq x2 x3 h0 h1]
  unfold dsA
  simp only [dp_eq h2 h4]

/-- The gradient of the queries. -/
theorem dq_eq (h0 : ∀ i, ∃ a : ℝ, x0 i = (a : EReal)) (h1 : ∀ i, ∃ a : ℝ, x1 i = (a : EReal)) (hk : Wide x1 X1) (h2 : Wide x2 X2)
    (h4 : Wide x3 X4) : G5 X1 X2 (val_main_v37 (F := Ideal) x0 x1) X4 = val_main_v69 (F := Ideal) x0 x1 x2 x3 := by
  refine Wide.unique (d := 96) (x := val_main_v66 (F := Ideal) x0 x1 x2 x3) ?_ ref_dq
  intro b r h l
  unfold G5
  simp only [ix3_0, ix3_1, ix3_2, Cert.AttnBwdIdeal.Arr.hd_col, Cert.AttnBwdIdeal.Arr.lane_col, dsA_eq h0 h1 h2 h4]
  refine (Finset.sum_congr rfl fun k _ => congrArg (fun z : EReal => _ * z) (hk b k h l)).trans (sum_wide _ x1 _ b r h l fun l' => ?_)
  rw [val_main_v66_apply, val_main_v65_apply]
  refine Finset.sum_congr rfl fun k _ => ?_
  rw [show lidx_main_v65 (idx_main_v66 (ix4 b r h l')) k = ix4 b h r k from idx_eq4 _ _ _ _ _ rfl rfl rfl rfl,
    show ridx_main_v65 (idx_main_v66 (ix4 b r h l')) k = ix4 b k h l' from idx_eq4 _ _ _ _ _ rfl rfl rfl rfl]

/-- The gradient of the keys. -/
theorem dk_eq (h0 : ∀ i, ∃ a : ℝ, x0 i = (a : EReal)) (h1 : ∀ i, ∃ a : ℝ, x1 i = (a : EReal)) (hq : Wide x0 X0) (h2 : Wide x2 X2)
    (h4 : Wide x3 X4) : G6 X0 X2 (val_main_v37 (F := Ideal) x0 x1) X4 = val_main_v72 (F := Ideal) x0 x1 x2 x3 := by
  refine Wide.unique (d := 96) (x := val_main_v64 (F := Ideal) x0 x1 x2 x3) ?_ ref_dk
  intro b r h l
  unfold G6
  simp only [ix3_0, ix3_1, ix3_2, Cert.AttnBwdIdeal.Arr.hd_col, Cert.AttnBwdIdeal.Arr.lane_col, dsA_eq h0 h1 h2 h4]
  refine (Finset.sum_congr rfl fun k _ => congrArg (fun z : EReal => _ * z) (hq b k h l)).trans (sum_wide _ x0 _ b r h l fun l' => ?_)
  rw [val_main_v64_apply, val_main_v63_apply]
  refine Finset.sum_congr rfl fun k _ => ?_
  rw [show lidx_main_v63 (idx_main_v64 (ix4 b r h l')) k = ix4 b h k r from idx_eq4 _ _ _ _ _ rfl rfl rfl rfl,
    show ridx_main_v63 (idx_main_v64 (ix4 b r h l')) k = ix4 b k h l' from idx_eq4 _ _ _ _ _ rfl rfl rfl rfl]

/-- The gradient of the values. -/
theorem dv_eq (h4 : Wide x3 X4) : G7 (val_main_v37 (F := Ideal) x0 x1) X4 = val_main_v75 (F := Ideal) x0 x1 x3 := by
  refine Wide.unique (d := 64) (x := val_main_v46 (F := Ideal) x0 x1 x3) ?_ ref_dv
  intro b r h l
  unfold G7
  simp only [ix3_0, ix3_1, ix3_2, Cert.AttnBwdIdeal.Arr.hd_col, Cert.AttnBwdIdeal.Arr.lane_col]
  refine (Finset.sum_congr rfl fun k _ => congrArg (fun z : EReal => _ * z) (h4 b k h l)).trans (sum_wide _ x3 _ b r h l fun l' => ?_)
  rw [val_main_v46_apply, val_main_v45_apply]
  refine Finset.sum_congr rfl fun k _ => ?_
  rw [val_main_v43_apply, show ridx_main_v45 (idx_main_v46 (ix4 b r h l')) k = ix4 b h k r from idx_eq4 _ _ _ _ _ rfl rfl rfl rfl,
    show idx_main_v43 (lidx_main_v45 (idx_main_v46 (ix4 b r h l')) k) = ix4 b k h l' from idx_eq4 _ _ _ _ _ rfl rfl rfl rfl]
  exact mul_comm _ _

end Kernel
end Cert.Attn
-- ==== Proof.AttnClaim.lean ====
module

public import proofs.«01_k».proof.Defs
public import proofs.«01_k».proof.Proof.AttnEq
public import Idealize.ShloMosaic.Lib.KernelVsHost

@[expose] public section
set_option maxRecDepth 16384
noncomputable section
namespace Cert.Attn
open Idealize.ShloMosaic Idealize.SL.Sem Idealize.ShloMosaic.TcCoe Idealize.ShloMosaic.Tactic Cert.AttnBwdIdeal Cert.AttnBwdIdeal.Gen

/-! ## The attention gradient's value claim -/

/-- The pattern of plus infinity. -/
theorem pos_inf : Ideal.ofBits .f32 0x7F800000#32 = ⊤ := by simp [Ideal.ofBits, Ideal.ieee]

/-- The precondition's shape fact. -/
theorem preFacts : Cert.Pre_finite.Facts := ⟨by decide⟩

/-- A value whose magnitude is below plus infinity is a real. -/
theorem real_of_abs (x : EReal) (h : max x (-x) < ⊤) : ∃ a : ℝ, x = (a : EReal) := by
  have h1 : x ≠ ⊤ := fun e => by rw [e] at h; simp at h
  have h2 : x ≠ ⊥ := fun e => by rw [e] at h; simp at h
  exact ⟨_, (EReal.coe_toReal h1 h2).symm⟩

/-- A conjunction of two bits is set only where both are. -/
theorem and_bits : ∀ a b : BitVec 1, a &&& b = 1#1 → a = 1#1 ∧ b = 1#1 := by decide

/-- The precondition makes the queries and the keys reals. -/
theorem pre_real [Cert.Pre_finite.Facts] (x0 x1 : FVec Ideal S2x2048x8x96 .f32) (x2 x3 : FVec Ideal S2x2048x8x64 .f32)
    (h : Cert.Pre_finite.fn (F := Ideal) x0 x1 x2 x3 = fun _ => 1#1) :
    (∀ i, ∃ a : ℝ, x0 i = (a : EReal)) ∧ (∀ i, ∃ a : ℝ, x1 i = (a : EReal)) := by
  have key : ∀ (x : EReal), BitVec.ofBool (decide (max x (-x) < Ideal.ofBits .f32 0x7F800000#32)) = 1#1 → ∃ a : ℝ, x = (a : EReal) := by
    intro x hx
    rw [pos_inf] at hx
    refine real_of_abs x ?_
    by_contra hc
    rw [decide_eq_false hc] at hx
    exact absurd hx (by decide)
  constructor
  · intro i
    exact key _ (and_bits _ _ (congrFun h i)).1
  · intro i
    exact key _ (and_bits _ _ (congrFun h i)).2

/-- What the kernel leaves in its three results is what the reference computes. -/
theorem results (m : (ℓ : Loc nD τ sig) → Buf (Elt Ideal) ℓ) (c : Dev nD)
    (h0 : ∀ i, ∃ a : ℝ, (m ((c.tc : Thread nD τ).loc main_arg0) : (⟨S2x2048x8x96, .f32⟩ : BufTy).Contents (Elt Ideal)) i = (a : EReal))
    (h1 : ∀ i, ∃ a : ℝ, (m ((c.tc : Thread nD τ).loc main_arg1) : (⟨S2x2048x8x96, .f32⟩ : BufTy).Contents (Elt Ideal)) i = (a : EReal)) :
    (dats m 0 c).arrAt 5 cfg0.N = Cert.AttnGradIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3))
    ∧ (dats m 0 c).arrAt 6 cfg0.N = Cert.AttnGradIdeal.Read.val_main_v72 (F := Ideal) (m ((c.tc : Thread nD τ).loc main_arg0)) (m ((c.tc : Thread nD τ).loc main_arg1)) (m ((c.tc : Thread nD τ).loc main_arg2)) (m ((c.tc : Thread nD τ).loc main_arg3))
    ∧ (dats m 0 c).arrAt 7 cfg0.N = Cert.AttnGradIdeal.Read.val_main_v75 (F := Ideal) (m ((c.tc : Thread nD τ).loc main_arg0)) (m ((c.tc : Thread nD τ).loc main_arg1)) (m ((c.tc : Thread nD τ).loc main_arg3)) := by
  have hc : Arr.Causal (Arr.A3 m c) := by
    intro b h Q r hr
    rw [Arr.entry3]
    exact Cert.AttnGradIdeal.Ref.prob_causal h0 h1 b h Q r hr
  refine ⟨(Arr.arr5 m c hc).trans ?_, (Arr.arr6 m c hc).trans ?_, (Arr.arr7 m c hc).trans ?_⟩
  · rw [Arr.entry3]
    exact dq_eq h0 h1 (Arr.entry1 m c) (Arr.entry2 m c) (Arr.entry4 m c)
  · rw [Arr.entry3]
    exact dk_eq h0 h1 (Arr.entry0 m c) (Arr.entry2 m c) (Arr.entry4 m c)
  · rw [Arr.entry3]
    exact dv_eq (Arr.entry4 m c)

/-- THE VALUE CLAIM of the attention's gradient. -/
theorem algebraic : algebraic_AttnBwdIdeal_AttnGradIdeal_pre_finite (hAttnBwdIdeal := Cert.AttnBwdIdeal.Gen.facts)
    (hAttnGradIdeal := Cert.AttnGradIdeal.Gen.facts) (hPre_finite := preFacts) := by
  intro m g m' g' hpre hagree
  have hr := fun c => @pre_real preFacts _ _ _ _ (hpre c)
  refine ⟨fun c => Cert.AttnGradIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)),
    fun c => Cert.AttnGradIdeal.Read.val_main_v72 (F := Ideal) (m ((c.tc : Thread nD τ).loc main_arg0)) (m ((c.tc : Thread nD τ).loc main_arg1)) (m ((c.tc : Thread nD τ).loc main_arg2)) (m ((c.tc : Thread nD τ).loc main_arg3)),
    fun c => Cert.AttnGradIdeal.Read.val_main_v75 (F := Ideal) (m ((c.tc : Thread nD τ).loc main_arg0)) (m ((c.tc : Thread nD τ).loc main_arg1)) (m ((c.tc : Thread nD τ).loc main_arg3)), ?_, ?_⟩
  · refine (θ_run _ _ _).mono (fun r h c => ?_) (Cert.AttnBwdIdeal.Value.run_blocks m g)
    obtain ⟨e5, e6, e7, k⟩ := h c
    obtain ⟨r5, r6, r7⟩ := results m c (hr c).1 (hr c).2
    exact ⟨e5.trans r5, e6.trans r6, e7.trans r7, k⟩
  · refine (θ_run _ _ _).mono (fun r h c => ?_) (Cert.AttnGradIdeal.Value.run m' g')
    obtain ⟨e0, e1, e2, k⟩ := h c
    obtain ⟨a0, a1, a2, a3⟩ := hagree c
    refine ⟨e0.trans ?_, e1.trans ?_, e2.trans ?_, k⟩
    · rw [Cert.AttnGradIdeal.Read.val_main_v69_eq, a0, a1, a2, a3]
    · rw [Cert.AttnGradIdeal.Read.val_main_v72_eq, a0, a1, a2, a3]
    · rw [Cert.AttnGradIdeal.Read.val_main_v75_eq, a0, a1, a3]

end Cert.Attn
-- ==== Proof.FfnMath.lean ====
module

public import Idealize.ShloMosaic.PureOps.Ideal.Laws
public import Idealize.ShloMosaic.Lib.ValueIdx
public import Idealize.ShloMosaic.Lib.Pointwise

@[expose] public section
noncomputable section
namespace Cert.Ffn
open Idealize.ShloMosaic Idealize.ShloMosaic.Tactic

/-! ## The feed-forward layer's indices and its row normalisation -/

/-- The batch a row of the flattened activations belongs to. -/
def bat (r : Fin 4096) : Fin 2 := ⟨r.val / 2048, by omega⟩
/-- The position a row of the flattened activations stands at. -/
def pos (r : Fin 4096) : Fin 2048 := ⟨r.val % 2048, by omega⟩

/-- The reciprocal root of a row's mean square. -/
def rms (x : Fin 1024 → EReal) : EReal :=
  Ideal.rsqrt (Ideal.div (∑ k, x k * x k) (Ideal.ofBits .f32 1149239296#32) + Ideal.ofBits .f32 897988541#32)

/-- An index of rank one is the one of its coordinate. -/
theorem idx_eq1 {n0 : Nat} (j : (⟨1, ![n0]⟩ : Shape).Idx) (a : Fin n0) (h0 : (j 0).val = a.val) : j = ix1 a := by
  funext x
  match x with
  | ⟨0, _⟩ => exact Fin.ext h0
/-- An index of rank two is the one of its coordinates. -/
theorem idx_eq2 {n0 n1 : Nat} (j : (⟨2, ![n0, n1]⟩ : Shape).Idx) (a : Fin n0) (b : Fin n1)
    (h0 : (j 0).val = a.val) (h1 : (j 1).val = b.val) : j = ix2 a b := by
  funext x
  match x with
  | ⟨0, _⟩ => exact Fin.ext h0
  | ⟨1, _⟩ => exact Fin.ext h1
/-- An index of rank three is the one of its coordinates. -/
theorem idx_eq3 {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext x
  match x with
  | ⟨0, _⟩ => exact Fin.ext h0
  | ⟨1, _⟩ => exact Fin.ext h1
  | ⟨2, _⟩ => exact Fin.ext h2

end Cert.Ffn
-- ==== Proof.WgradArr.lean ====
module

public import proofs.«01_k».proof.Proof.FfnMath
public import proofs.«01_k».proof.Proof.Gen.WgradIdeal.Value
public import Idealize.ShloMosaic.Lib.Pipeline.ValueKit
public import Idealize.ShloMosaic.Lib.Pipeline.ReadBack

@[expose] public section
set_option maxRecDepth 16384
noncomputable section
namespace Cert.WgradIdeal.Arr
open Idealize.ShloMosaic Idealize.ShloMosaic.TcCoe Idealize.ShloMosaic.Tactic
open Cert.WgradIdeal Cert.WgradIdeal.Gen Cert.Ffn
variable (m : (ℓ : Loc nD τ sig) → Buf (Elt Ideal) ℓ)

/-! ## What a grid point computes -/

/-- One tile's contribution to an entry of the gate weight's gradient. -/
theorem gate_part (x0 : Vec Ideal S1x1024x1024 .bf16) (x1 : Vec Ideal S1024x1408 .bf16) (l : Fin 1408) (k : Fin 1024) :
    k0_pay2 x0 x1 (ix2 l k) = (∑ r : Fin 1024, x1 (ix2 r l) * x0 (ix3 0 r k) : EReal) := by
  pointwise [k0_pay2, k0_pay1]
/-- One tile's contribution to an entry of the up weight's gradient. -/
theorem up_part (x0 : Vec Ideal S1x1024x1024 .bf16) (x1 : Vec Ideal S1024x1408 .bf16) (l : Fin 1408) (k : Fin 1024) :
    k0_pay5 x0 x1 (ix2 l k) = (∑ r : Fin 1024, x1 (ix2 r l) * x0 (ix3 0 r k) : EReal) := by
  pointwise [k0_pay5, k0_pay1]
/-- What the first tile leaves in the gate accumulator. -/
theorem gate_first (x0 : Vec Ideal S1x1024x1024 .bf16) (x1 : Vec Ideal S1024x1408 .bf16) : k0_pay3 x0 x1 = k0_pay2 x0 x1 := by
  funext i; pointwise [k0_pay3]
/-- What a later tile leaves in the gate accumulator. -/
theorem gate_next (x0 : Vec Ideal S1x1024x1024 .bf16) (x1 : Vec Ideal S1024x1408 .bf16) (a : Vec Ideal S1408x1024 .f32) (i : S1408x1024.Idx) :
    k0_pay4 x0 x1 a i = (a i + k0_pay2 x0 x1 i : EReal) := by
  pointwise [k0_pay4]
/-- What the first tile leaves in the up accumulator. -/
theorem up_first (x0 : Vec Ideal S1x1024x1024 .bf16) (x1 : Vec Ideal S1024x1408 .bf16) : k0_pay6 x0 x1 = k0_pay5 x0 x1 := by
  funext i; pointwise [k0_pay6]
/-- What a later tile leaves in the up accumulator. -/
theorem up_next (x0 : Vec Ideal S1x1024x1024 .bf16) (x1 : Vec Ideal S1024x1408 .bf16) (a : Vec Ideal S1408x1024 .f32) (i : S1408x1024.Idx) :
    k0_pay7 x0 x1 a i = (a i + k0_pay5 x0 x1 i : EReal) := by
  pointwise [k0_pay7]

/-- The gate accumulator after a first tile. -/
theorem accG_A (c : Dev nD) (t : Fin cfg0.N) (h : t.val % 4 = 0) :
    (outsAt0 m c t.val t.isLt).2.2.1 = k0_pay2 (iblk m c 0 t) (iblk m c 1 t) := by
  rw [outsAt0_A m c t h (by omega) h (by omega) (by omega)]
  frame_out
  exact gate_first _ _
/-- The up accumulator after a first tile. -/
theorem accU_A (c : Dev nD) (t : Fin cfg0.N) (h : t.val % 4 = 0) :
    (outsAt0 m c t.val t.isLt).2.2.2 = k0_pay5 (iblk m c 0 t) (iblk m c 2 t) := by
  rw [outsAt0_A m c t h (by omega) h (by omega) (by omega)]
  frame_out
  exact up_first _ _
/-- The gate accumulator after a later tile. -/
theorem accG_S (c : Dev nD) (t : Fin cfg0.N) (h : ¬t.val % 4 = 0) :
    (outsAt0 m c t.val t.isLt).2.2.1 = k0_pay4 (iblk m c 0 t) (iblk m c 1 t)
      (outsAt0 m c (t.val - 1) (Nat.lt_of_le_of_lt (Nat.sub_le _ _) t.isLt)).2.2.1 := by
  by_cases h3 : t.val % 4 = 3
  · rw [outsAt0_C m c t h (by omega) h (by omega) h3]
    frame_out
    try simp only [read_unread_whole]
  · rw [outsAt0_B m c t h (by omega) h (by omega) h3]
    frame_out
    try simp only [read_unread_whole]
/-- The up accumulator after a later tile. -/
theorem accU_S (c : Dev nD) (t : Fin cfg0.N) (h : ¬t.val % 4 = 0) :
    (outsAt0 m c t.val t.isLt).2.2.2 = k0_pay7 (iblk m c 0 t) (iblk m c 2 t)
      (outsAt0 m c (t.val - 1) (Nat.lt_of_le_of_lt (Nat.sub_le _ _) t.isLt)).2.2.2 := by
  by_cases h3 : t.val % 4 = 3
  · rw [outsAt0_C m c t h (by omega) h (by omega) h3]
    frame_out
    try simp only [read_unread_whole]
  · rw [outsAt0_B m c t h (by omega) h (by omega) h3]
    frame_out
    try simp only [read_unread_whole]
/-- A last tile writes the gate accumulator back. -/
theorem outG (c : Dev nD) (t : Fin cfg0.N) (h : t.val % 4 = 3) :
    (outsAt0 m c t.val t.isLt).1 = k0_pay8 (outsAt0 m c t.val t.isLt).2.2.1 := by
  rw [accG_S m c t (by omega), outsAt0_C m c t (by omega) (by omega) (by omega) (by omega) h]
  frame_out
  try simp only [read_unread_whole]
/-- A last tile writes the up accumulator back. -/
theorem outU (c : Dev nD) (t : Fin cfg0.N) (h : t.val % 4 = 3) :
    (outsAt0 m c t.val t.isLt).2.1 = k0_pay9 (outsAt0 m c t.val t.isLt).2.2.2 := by
  rw [accU_S m c t (by omega), outsAt0_C m c t (by omega) (by omega) (by omega) (by omega) h]
  frame_out
  try simp only [read_unread_whole]

/-! ## Where a grid point's blocks lie -/

/-- A row of the flattened activations from its tile and its place in the tile. -/
def row (i : Fin 4) (r : Fin 1024) : Fin 4096 := ⟨1024 * i.val + r.val, by omega⟩
/-- A hidden feature from its half and its place in the half. -/
def feat (f : Fin 2) (l : Fin 1408) : Fin 2816 := ⟨1408 * f.val + l.val, by omega⟩

/-- Which block of the activations a point reads. -/
theorem idx0 : ∀ t : Fin grid0.N, win0_0.index t = ![0, (grid0.coords t 1).val, 0] := by decide +kernel
/-- Which block of the gate derivative a point reads. -/
theorem idx1 : ∀ t : Fin grid0.N, win0_1.index t = ![(grid0.coords t 1).val, (grid0.coords t 0).val] := by decide +kernel
/-- Which block of the up derivative a point reads. -/
theorem idx2 : ∀ t : Fin grid0.N, win0_2.index t = ![(grid0.coords t 1).val, (grid0.coords t 0).val] := by decide +kernel
/-- Which block of the gate weight's gradient a point writes. -/
theorem idx3 : ∀ t : Fin grid0.N, win0_3.index t = ![(grid0.coords t 0).val, 0] := by decide +kernel
/-- Which block of the up weight's gradient a point writes. -/
theorem idx4 : ∀ t : Fin grid0.N, win0_4.index t = ![(grid0.coords t 0).val, 0] := by decide +kernel
/-- A point's tile. -/
theorem tile : ∀ t : Fin grid0.N, (grid0.coords t 1).val = t.val % 4 := by decide +kernel
/-- A point's half. -/
theorem half : ∀ t : Fin grid0.N, (grid0.coords t 0).val = t.val / 4 := by decide +kernel

/-- The normalised activations. -/
def A0 (c : Dev nD) : Vec Ideal S2x4096x1024 .bf16 := V m c main_v57
/-- The gate derivative. -/
def A1 (c : Dev nD) : Vec Ideal S4096x2816 .bf16 := V m c main_v59
/-- The up derivative. -/
def A2 (c : Dev nD) : Vec Ideal S4096x2816 .bf16 := V m c main_v61

/-- Where the block of the activations lies. -/
theorem emb0 (t : Fin grid0.N) (r k : Fin 1024) : (win0_0.blk t).view.emb (ix3 0 r k) = ix3 0 (row (grid0.coords t 1) r) k := by
  blk_ext [idx0 t, row]
/-- What the block of the activations reads. -/
theorem read0 (X : Vec Ideal S2x4096x1024 .bf16) (t : Fin grid0.N) (r k : Fin 1024) :
    (win0_0.blk t).view.read (Elt Ideal) X (ix3 0 r k) = X (ix3 0 (row (grid0.coords t 1) r) k) := congrArg X (emb0 t r k)
/-- What a point reads of the activations. -/
theorem blk0 (c : Dev nD) (t : Fin grid0.N) (r k : Fin 1024) : iblk m c 0 t (ix3 0 r k) = A0 m c (ix3 0 (row (grid0.coords t 1) r) k) :=
  read0 (A0 m c) t r k
/-- Where the block of the gate derivative lies. -/
theorem emb1 (t : Fin grid0.N) (r : Fin 1024) (l : Fin 1408) :
    (win0_1.blk t).view.emb (ix2 r l) = ix2 (row (grid0.coords t 1) r) (feat (grid0.coords t 0) l) := by
  blk_ext [idx1 t, row, feat]
/-- What the block of the gate derivative reads. -/
theorem read1 (X : Vec Ideal S4096x2816 .bf16) (t : Fin grid0.N) (r : Fin 1024) (l : Fin 1408) :
    (win0_1.blk t).view.read (Elt Ideal) X (ix2 r l) = X (ix2 (row (grid0.coords t 1) r) (feat (grid0.coords t 0) l)) := congrArg X (emb1 t r l)
/-- What a point reads of the gate derivative. -/
theorem blk1 (c : Dev nD) (t : Fin grid0.N) (r : Fin 1024) (l : Fin 1408) :
    iblk m c 1 t (ix2 r l) = A1 m c (ix2 (row (grid0.coords t 1) r) (feat (grid0.coords t 0) l)) := read1 (A1 m c) t r l
/-- Where the block of the up derivative lies. -/
theorem emb2 (t : Fin grid0.N) (r : Fin 1024) (l : Fin 1408) :
    (win0_2.blk t).view.emb (ix2 r l) = ix2 (row (grid0.coords t 1) r) (feat (grid0.coords t 0) l) := by
  blk_ext [idx2 t, row, feat]
/-- What the block of the up derivative reads. -/
theorem read2 (X : Vec Ideal S4096x2816 .bf16) (t : Fin grid0.N) (r : Fin 1024) (l : Fin 1408) :
    (win0_2.blk t).view.read (Elt Ideal) X (ix2 r l) = X (ix2 (row (grid0.coords t 1) r) (feat (grid0.coords t 0) l)) := congrArg X (emb2 t r l)
/-- What a point reads of the up derivative. -/
theorem blk2 (c : Dev nD) (t : Fin grid0.N) (r : Fin 1024) (l : Fin 1408) :
    iblk m c 2 t (ix2 r l) = A2 m c (ix2 (row (grid0.coords t 1) r) (feat (grid0.coords t 0) l)) := read2 (A2 m c) t r l
/-- Where the block of the gate weight's gradient lies. -/
theorem emb3 (t : Fin grid0.N) (l : Fin 1408) (k : Fin 1024) : (win0_3.blk t).view.emb (ix2 l k) = ix2 (feat (grid0.coords t 0) l) k := by
  blk_ext [idx3 t, feat]
/-- Where the block of the up weight's gradient lies. -/
theorem emb4 (t : Fin grid0.N) (l : Fin 1408) (k : Fin 1024) : (win0_4.blk t).view.emb (ix2 l k) = ix2 (feat (grid0.coords t 0) l) k := by
  blk_ext [idx4 t, feat]

/-! ## The two output arrays, as functions of the entry arrays -/

/-- A derivative, transposed, times the normalised activations. -/
def grad (D : Vec Ideal S4096x2816 .bf16) (H : Vec Ideal S2x4096x1024 .bf16) : Vec Ideal S2816x1024 .bf16 :=
  fun i => (∑ r : Fin 4096, D (ix2 r (i 0)) * H (ix3 0 r (i 1)) : EReal)

/-- A sum over tiles and rows of a tile is the sum over all rows. -/
theorem rows_sum (g : Fin 4096 → EReal) : (∑ i : Fin 4, ∑ r : Fin 1024, g (row i r)) = ∑ r, g r := by
  have e := Fin.sum_mul_add_fin (M := EReal) (L := 4096) (f := g) (S := 4) (n := 1024)
  refine Eq.trans ?_ e
  refine Finset.sum_congr rfl fun i _ => Finset.sum_congr rfl fun r _ => congrArg g (Fin.ext ?_)
  simp [row, Nat.mul_comm]

/-- The rows of a run's `s`-th point are those of tile `s`. -/
theorem run_tile (t : Fin grid0.N) (s : Fin 4) (hp : 4 * (t.val / 4) + s.val < grid0.N) (r : Fin 1024) :
    row (grid0.coords ⟨4 * (t.val / 4) + s.val, hp⟩ 1) r = row s r := by
  have e := tile ⟨4 * (t.val / 4) + s.val, hp⟩
  refine Fin.ext ?_
  show 1024 * (grid0.coords ⟨4 * (t.val / 4) + s.val, hp⟩ 1).val + r.val = 1024 * s.val + r.val
  rw [e]
  show 1024 * ((4 * (t.val / 4) + s.val) % 4) + r.val = 1024 * s.val + r.val
  omega
/-- The features of a run's points are those of its last one. -/
theorem run_half (t : Fin grid0.N) (s : Fin 4) (hp : 4 * (t.val / 4) + s.val < grid0.N) (l : Fin 1408) :
    feat (grid0.coords ⟨4 * (t.val / 4) + s.val, hp⟩ 0) l = feat (grid0.coords t 0) l := by
  have e := half ⟨4 * (t.val / 4) + s.val, hp⟩
  have e' := half t
  refine Fin.ext ?_
  show 1408 * (grid0.coords ⟨4 * (t.val / 4) + s.val, hp⟩ 0).val + l.val = 1408 * (grid0.coords t 0).val + l.val
  rw [e, e']
  show 1408 * ((4 * (t.val / 4) + s.val) / 4) + l.val = 1408 * (t.val / 4) + l.val
  omega

/-- What a half's last point writes of the gate weight's gradient: its block of the closed form. -/
theorem out3 (c : Dev nD) (t : Fin grid0.N) (h : t.val % 4 = 3) (l : Fin 1408) (k : Fin 1024) :
    (outsAt0 m c t.val t.isLt).1 (ix2 l k) = grad (A1 m c) (A0 m c) (ix2 (feat (grid0.coords t 0) l) k) := by
  rw [outG m c t h]
  have e := Pipeline.eq_sum_fin_of_reset_step_apply_of_flush (M := EReal) (fun n h (j : S1408x1024.Idx) => ((outsAt0 m c n h).2.2.1 j : EReal)) 4 (fun _ => 0)
    (fun t j => (k0_pay2 (iblk m c 0 t) (iblk m c 1 t) j : EReal))
    (fun t h j => by simp only [zero_add]; rw [accG_A m c t h])
    (fun t h j => by rw [accG_S m c t h, gate_next]) t h (ix2 l k)
  refine Eq.trans (show _ = ((outsAt0 m c t.val t.isLt).2.2.1 (ix2 l k) : EReal) from rfl) (e.trans ?_)
  rw [zero_add]
  refine Eq.trans ?_ (rows_sum fun r => (A1 m c (ix2 r (feat (grid0.coords t 0) l)) * A0 m c (ix3 0 r k) : EReal))
  refine Finset.sum_congr rfl fun s _ => ?_
  rw [gate_part]
  refine Finset.sum_congr rfl fun r _ => ?_
  rw [blk0, blk1, run_tile, run_half]

/-- What a half's last point writes of the up weight's gradient: its block of the closed form. -/
theorem out4 (c : Dev nD) (t : Fin grid0.N) (h : t.val % 4 = 3) (l : Fin 1408) (k : Fin 1024) :
    (outsAt0 m c t.val t.isLt).2.1 (ix2 l k) = grad (A2 m c) (A0 m c) (ix2 (feat (grid0.coords t 0) l) k) := by
  rw [outU m c t h]
  have e := Pipeline.eq_sum_fin_of_reset_step_apply_of_flush (M := EReal) (fun n h (j : S1408x1024.Idx) => ((outsAt0 m c n h).2.2.2 j : EReal)) 4 (fun _ => 0)
    (fun t j => (k0_pay5 (iblk m c 0 t) (iblk m c 2 t) j : EReal))
    (fun t h j => by simp only [zero_add]; rw [accU_A m c t h])
    (fun t h j => by rw [accU_S m c t h, up_next]) t h (ix2 l k)
  refine Eq.trans (show _ = ((outsAt0 m c t.val t.isLt).2.2.2 (ix2 l k) : EReal) from rfl) (e.trans ?_)
  rw [zero_add]
  refine Eq.trans ?_ (rows_sum fun r => (A2 m c (ix2 r (feat (grid0.coords t 0) l)) * A0 m c (ix3 0 r k) : EReal))
  refine Finset.sum_congr rfl fun s _ => ?_
  rw [up_part]
  refine Finset.sum_congr rfl fun r _ => ?_
  rw [blk0, blk2, run_tile, run_half]

/-- An index of an output block is the one of its coordinates. -/
theorem blockIdx (y : S1408x1024.Idx) : y = ix2 (y 0) (y 1) := idx_eq2 y _ _ rfl rfl

/-- The gate weight's gradient after the last point. -/
theorem arr3 (c : Dev nD) : (dats m 0 c).arrAt 3 cfg0.N = grad (A1 m c) (A0 m c) := by
  refine (dats m 0 c).arrAt_eq_of_covers 3 _ (by decide +kernel) fun t hf y => ?_
  blk_simp
  rw [after0_3]
  have hy := blockIdx y
  refine (congrArg (outsAt0 m c t.val t.isLt).1 hy).trans ((out3 m c t ((flush0_3 t).mp hf) _ _).trans ?_)
  exact congrArg (grad (A1 m c) (A0 m c)) (((congrArg (win0_3.blk t).view.emb hy)).trans (emb3 t _ _)).symm
/-- The up weight's gradient after the last point. -/
theorem arr4 (c : Dev nD) : (dats m 0 c).arrAt 4 cfg0.N = grad (A2 m c) (A0 m c) := by
  refine (dats m 0 c).arrAt_eq_of_covers 4 _ (by decide +kernel) fun t hf y => ?_
  blk_simp
  rw [after0_4]
  have hy := blockIdx y
  refine (congrArg (outsAt0 m c t.val t.isLt).2.1 hy).trans ((out4 m c t ((flush0_4 t).mp hf) _ _).trans ?_)
  exact congrArg (grad (A2 m c) (A0 m c)) (((congrArg (win0_4.blk t).view.emb hy)).trans (emb4 t _ _)).symm

end Cert.WgradIdeal.Arr
-- ==== Proof.WgradClaim.lean ====
module

public import proofs.«01_k».proof.Defs
public import proofs.«01_k».proof.Proof.WgradArr
public import proofs.«01_k».proof.Proof.Gen.WgradRefIdeal.Read
public import Idealize.ShloMosaic.Lib.KernelVsHost

@[expose] public section
set_option maxRecDepth 16384
noncomputable section
namespace Cert.WgradRefIdeal.Ref
open Idealize.ShloMosaic Idealize.ShloMosaic.Tactic Cert.WgradRefIdeal Cert.WgradRefIdeal.Read Cert.Ffn

/-! ## The reference's two gradients, read at a feature and a channel -/

variable (x0 : (⟨S2x2048x1024, .f32⟩ : BufTy).Contents (Elt Ideal)) (x1 : (⟨S1024, .f32⟩ : BufTy).Contents (Elt Ideal))
  (x2 : (⟨S3x2816, .f32⟩ : BufTy).Contents (Elt Ideal)) (x3 x4 : (⟨S2x2048x2816, .f32⟩ : BufTy).Contents (Elt Ideal))

/-- A contraction over batches and positions. -/
theorem dot_at (D : (⟨S2x2048x2816, .f32⟩ : BufTy).Contents (Elt Ideal)) (H : (⟨S2x2048x1024, .f32⟩ : BufTy).Contents (Elt Ideal))
    (f : Fin 2816) (k : Fin 1024) :
    (Host.dotGeneral (F := Ideal) (φ₁ := .f32) (φ₂ := .f32) dot_S2x2048x2816_S2x2048x1024_S2816x1024_01_01_2_2_n_n none (D : FVec Ideal S2x2048x2816 .f32) (H : FVec Ideal S2x2048x1024 .f32) : FVec Ideal S2816x1024 .f32) (ix2 f k)
      = (∑ b : Fin 2, ∑ s : Fin 2048, D (ix3 b s f) * H (ix3 b s k) : EReal) := by
  pointwise

/-- The reference's gradient of the gate weight. -/
theorem gate_at (f : Fin 2816) (k : Fin 1024) : val_main_v63 (F := Ideal) x0 x1 x2 x3 (ix2 f k)
    = (∑ b : Fin 2, ∑ s : Fin 2048, val_main_v59 (F := Ideal) x2 x3 (ix3 b s f) * val_main_v14 (F := Ideal) x0 x1 (ix3 b s k) : EReal) := by
  rw [val_main_v63_apply, val_main_v62_apply, show idx_main_v62 (ix2 f k) = ix2 k f from idx_eq2 _ _ _ rfl rfl, val_main_v61_apply,
    show idx_main_v61 (ix2 k f) = ix2 f k from idx_eq2 _ _ _ rfl rfl]
  exact dot_at _ _ f k
/-- The reference's gradient of the up weight. -/
theorem up_at (f : Fin 2816) (k : Fin 1024) : val_main_v65 (F := Ideal) x0 x1 x4 (ix2 f k)
    = (∑ b : Fin 2, ∑ s : Fin 2048, x4 (ix3 b s f) * val_main_v14 (F := Ideal) x0 x1 (ix3 b s k) : EReal) := by
  rw [val_main_v65_apply, val_main_v64_apply, show idx_main_v64 (ix2 f k) = ix2 k f from idx_eq2 _ _ _ rfl rfl, val_main_v44_apply,
    show idx_main_v44 (ix2 k f) = ix2 f k from idx_eq2 _ _ _ rfl rfl]
  exact dot_at _ _ f k

/-- A sum over all rows is a sum over batches and positions. -/
theorem rows_sum (g : Fin 2 → Fin 2048 → EReal) : (∑ r : Fin 4096, g (bat r) (pos r)) = ∑ b, ∑ s, g b s :=
  Fin.sum_divmod_congr (S := 2048) fun _ _ _ => rfl

end Cert.WgradRefIdeal.Ref

namespace Cert.WgradEq
open Idealize.ShloMosaic Idealize.SL.Sem Idealize.ShloMosaic.TcCoe Idealize.ShloMosaic.Tactic Cert.WgradIdeal Cert.WgradIdeal.Gen Cert.Ffn

/-! ## The value claim of the feed-forward layer's weight gradients -/

/-- The host's flattening of an array of the hidden width. -/
theorem flat (X : FVec Ideal S2x2048x2816 .f32) (r : Fin 4096) (f : Fin 2816) :
    (truncf .bf16 (shapeCast S4096x2816 X shapeCasts_S2x2048x2816_S4096x2816 : FVec Ideal S4096x2816 .f32) bitsLt_bf16_f32 : FVec Ideal S4096x2816 .bf16) (ix2 r f)
      = X (ix3 (bat r) (pos r) f) := by
  pointwise
  rfl
/-- The host's flattening of an array of the model's width. -/
theorem flatten (X : FVec Ideal S2x2048x1024 .f32) (r : Fin 4096) (k : Fin 1024) :
    broadcastInDim S2x4096x1024 ![1, 2] bcast_S4096x1024_S2x4096x1024_1_2
      (truncf .bf16 (shapeCast S4096x1024 X shapeCasts_S2x2048x1024_S4096x1024 : FVec Ideal S4096x1024 .f32) bitsLt_bf16_f32 : FVec Ideal S4096x1024 .bf16) (ix3 0 r k)
      = X (ix3 (bat r) (pos r) k) := by
  pointwise
  rfl

/-- The host's normalised activations are the reference's. -/
theorem hn_eq (m : (ℓ : Loc nD τ sig) → Buf (Elt Ideal) ℓ) (c : Dev nD) (r : Fin 4096) (k : Fin 1024) :
    Arr.A0 m c (ix3 0 r k) = Cert.WgradRefIdeal.Read.val_main_v14 (F := Ideal) (m ((c.tc : Thread nD τ).loc main_arg0)) (m ((c.tc : Thread nD τ).loc main_arg1)) (ix3 (bat r) (pos r) k) := by
  show Gen.V m c main_v57 _ = _
  entry_read
  exact flatten (Cert.WgradRefIdeal.Read.val_main_v14 (F := Ideal) (m ((c.tc : Thread nD τ).loc main_arg0)) (m ((c.tc : Thread nD τ).loc main_arg1))) r k
/-- The host's gate derivative is the reference's. -/
theorem dg_eq (m : (ℓ : Loc nD τ sig) → Buf (Elt Ideal) ℓ) (c : Dev nD) (r : Fin 4096) (f : Fin 2816) :
    Arr.A1 m c (ix2 r f) = Cert.WgradRefIdeal.Read.val_main_v59 (F := Ideal) (m ((c.tc : Thread nD τ).loc main_arg2)) (m ((c.tc : Thread nD τ).loc main_arg3)) (ix3 (bat r) (pos r) f) := by
  show Gen.V m c main_v59 _ = _
  entry_read
  exact flat (Cert.WgradRefIdeal.Read.val_main_v59 (F := Ideal) (m ((c.tc : Thread nD τ).loc main_arg2)) (m ((c.tc : Thread nD τ).loc main_arg3))) r f
/-- The host's up derivative is the argument. -/
theorem du_eq (m : (ℓ : Loc nD τ sig) → Buf (Elt Ideal) ℓ) (c : Dev nD) (r : Fin 4096) (f : Fin 2816) :
    Arr.A2 m c (ix2 r f) = m ((c.tc : Thread nD τ).loc main_arg4) (ix3 (bat r) (pos r) f) := by
  show Gen.V m c main_v61 _ = _
  entry_read
  exact flat (m ((c.tc : Thread nD τ).loc main_arg4)) r f

/-- What the kernel leaves in its two results is what the reference computes. -/
theorem results (m : (ℓ : Loc nD τ sig) → Buf (Elt Ideal) ℓ) (c : Dev nD) :
    (dats m 0 c).arrAt 3 cfg0.N = Cert.WgradRefIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3))
    ∧ (dats m 0 c).arrAt 4 cfg0.N = Cert.WgradRefIdeal.Read.val_main_v65 (F := Ideal) (m ((c.tc : Thread nD τ).loc main_arg0)) (m ((c.tc : Thread nD τ).loc main_arg1)) (m ((c.tc : Thread nD τ).loc main_arg4)) := by
  refine ⟨(Arr.arr3 m c).trans ?_, (Arr.arr4 m c).trans ?_⟩
  · funext i
    rw [idx_eq2 i (i 0) (i 1) rfl rfl]
    refine Eq.trans ?_ (Cert.WgradRefIdeal.Ref.gate_at _ _ _ _ _ _).symm
    refine Eq.trans ?_ (Cert.WgradRefIdeal.Ref.rows_sum _)
    refine Finset.sum_congr rfl fun r _ => ?_
    exact congrArg₂ (fun a b : EReal => a * b) (dg_eq m c r _) (hn_eq m c r _)
  · funext i
    rw [idx_eq2 i (i 0) (i 1) rfl rfl]
    refine Eq.trans ?_ (Cert.WgradRefIdeal.Ref.up_at _ _ _ _ _).symm
    refine Eq.trans ?_ (Cert.WgradRefIdeal.Ref.rows_sum _)
    refine Finset.sum_congr rfl fun r _ => ?_
    exact congrArg₂ (fun a b : EReal => a * b) (du_eq m c r _) (hn_eq m c r _)

/-- THE VALUE CLAIM of the feed-forward layer's weight gradients. -/
theorem algebraic : algebraic_WgradIdeal_WgradRefIdeal (hWgradIdeal := Cert.WgradIdeal.Gen.facts)
    (hWgradRefIdeal := Cert.WgradRefIdeal.Gen.facts) := by
  intro m g m' g' _ hagree
  refine ⟨fun c => Cert.WgradRefIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)),
    fun c => Cert.WgradRefIdeal.Read.val_main_v65 (F := Ideal) (m ((c.tc : Thread nD τ).loc main_arg0)) (m ((c.tc : Thread nD τ).loc main_arg1)) (m ((c.tc : Thread nD τ).loc main_arg4)), ?_, ?_⟩
  · refine (θ_run _ _ _).mono (fun r h c => ?_) (Cert.WgradIdeal.Value.run_blocks m g)
    obtain ⟨e3, e4, k⟩ := h c
    obtain ⟨r3, r4⟩ := results m c
    exact ⟨e3.trans r3, e4.trans r4, k⟩
  · refine (θ_run _ _ _).mono (fun r h c => ?_) (Cert.WgradRefIdeal.Value.run m' g')
    obtain ⟨e0, e1, k⟩ := h c
    obtain ⟨a0, a1, a2, a3, a4⟩ := hagree c
    refine ⟨e0.trans ?_, e1.trans ?_, k⟩
    · rw [Cert.WgradRefIdeal.Read.val_main_v63_eq, a0, a1, a2, a3]
    · rw [Cert.WgradRefIdeal.Read.val_main_v65_eq, a0, a1, a4]

end Cert.WgradEq
-- ==== Proof.FfnFwdArr.lean ====
module

public import proofs.«01_k».proof.Proof.FfnMath
public import proofs.«01_k».proof.Proof.Gen.FfnFwdIdeal.Value
public import Idealize.ShloMosaic.Lib.Pipeline.ValueKit
public import Idealize.ShloMosaic.Lib.Pipeline.ReadBack

@[expose] public section
set_option maxRecDepth 16384
noncomputable section
namespace Cert.FfnFwdIdeal.Arr
open Idealize.ShloMosaic Idealize.ShloMosaic.TcCoe Idealize.ShloMosaic.Tactic
open Cert.FfnFwdIdeal Cert.FfnFwdIdeal.Gen Cert.Ffn
variable (m : (ℓ : Loc nD τ sig) → Buf (Elt Ideal) ℓ)

/-! ## What a grid point computes -/

section Block
variable (x0 : Vec Ideal S1024x1024 .f32) (x1 : Vec Ideal S1x1024 .f32) (x2 x3 : Vec Ideal S1408x1024 .bf16)

/-- An entry of the normalised block. -/
theorem normed (r k : Fin 1024) :
    k0_pay1 x0 x1 (ix2 r k) = (x0 (ix2 r k) * rms (fun x => x0 (ix2 r x)) * x1 (ix2 0 k) : EReal) := by
  pointwise [k0_pay1]
  rfl

/-- A load of a whole block reads it, and one store of a whole block leaves what was stored. -/
theorem whole4 : out0_4 x0 x1 x2 x3 = k0_pay3 x0 x1 x2 := by
  have h : (![0, 0] : Fin 2 → Nat) = fun _ => 0 := by decide
  unfold out0_4
  rw [View.ld_unit_zero h, View.ld_unit_zero h, View.ld_unit_zero h]
  exact View.canon_unit_zero h _ _
/-- The same of the second product. -/
theorem whole5 : out0_5 x0 x1 x2 x3 = k0_pay4 x0 x1 x3 := by
  have h : (![0, 0] : Fin 2 → Nat) = fun _ => 0 := by decide
  unfold out0_5
  rw [View.ld_unit_zero h, View.ld_unit_zero h, View.ld_unit_zero h]
  exact View.canon_unit_zero h _ _
/-- The same of the stored normalised block. -/
theorem whole6 : out0_6 x0 x1 x2 x3 = k0_pay2 x0 x1 := by
  have h : (![0, 0] : Fin 2 → Nat) = fun _ => 0 := by decide
  have h3 : (![0, 0, 0] : Fin 3 → Nat) = fun _ => 0 := by decide
  unfold out0_6
  rw [View.ld_unit_zero h, View.ld_unit_zero h]
  exact View.canon_unit_zero h3 _ _

/-- An entry of the gate block: a normalised row times a row of the transposed weight. -/
theorem gate_at (r : Fin 1024) (l : Fin 1408) :
    out0_4 x0 x1 x2 x3 (ix2 r l) = (∑ k, x0 (ix2 r k) * rms (fun x => x0 (ix2 r x)) * x1 (ix2 0 k) * x2 (ix2 l k) : EReal) := by
  rw [whole4]
  pointwise [k0_pay3]
  exact Finset.sum_congr rfl fun k _ => by rw [normed]
/-- An entry of the up block. -/
theorem up_at (r : Fin 1024) (l : Fin 1408) :
    out0_5 x0 x1 x2 x3 (ix2 r l) = (∑ k, x0 (ix2 r k) * rms (fun x => x0 (ix2 r x)) * x1 (ix2 0 k) * x3 (ix2 l k) : EReal) := by
  rw [whole5]
  pointwise [k0_pay4]
  exact Finset.sum_congr rfl fun k _ => by rw [normed]
/-- An entry of the stored normalised block. -/
theorem norm_at (r k : Fin 1024) :
    out0_6 x0 x1 x2 x3 (ix3 0 r k) = (x0 (ix2 r k) * rms (fun x => x0 (ix2 r x)) * x1 (ix2 0 k) : EReal) := by
  rw [whole6]
  pointwise [k0_pay2]
  exact normed x0 x1 r k

end Block

/-! ## Where a grid point's blocks lie -/

/-- A row of the flattened activations from its tile and its place in the tile. -/
def row (i : Fin 4) (r : Fin 1024) : Fin 4096 := ⟨1024 * i.val + r.val, by omega⟩
/-- A hidden feature from its half and its place in the half. -/
def feat (f : Fin 2) (l : Fin 1408) : Fin 2816 := ⟨1408 * f.val + l.val, by omega⟩

/-- Which block of the activations a point reads. -/
theorem idx0 : ∀ t : Fin grid0.N, win0_0.index t = ![(grid0.coords t 1).val, 0] := by decide +kernel
/-- Which block of the scale a point reads. -/
theorem idx1 : ∀ t : Fin grid0.N, win0_1.index t = ![0, 0] := by decide +kernel
/-- Which block of the gate weight a point reads. -/
theorem idx2 : ∀ t : Fin grid0.N, win0_2.index t = ![(grid0.coords t 0).val, 0] := by decide +kernel
/-- Which block of the up weight a point reads. -/
theorem idx3 : ∀ t : Fin grid0.N, win0_3.index t = ![(grid0.coords t 0).val, 0] := by decide +kernel
/-- Which block of the gate product a point writes. -/
theorem idx4 : ∀ t : Fin grid0.N, win0_4.index t = ![(grid0.coords t 1).val, (grid0.coords t 0).val] := by decide +kernel
/-- Which block of the up product a point writes. -/
theorem idx5 : ∀ t : Fin grid0.N, win0_5.index t = ![(grid0.coords t 1).val, (grid0.coords t 0).val] := by decide +kernel
/-- Which block of the normalised activations a point writes. -/
theorem idx6 : ∀ t : Fin grid0.N, win0_6.index t = ![(grid0.coords t 0).val, (grid0.coords t 1).val, 0] := by decide +kernel

/-- The entry arrays the windows 0 to 3 read. -/
def A0 (c : Dev nD) : Vec Ideal S4096x1024 .f32 := V m c main_v0
/-- The scale, as one row. -/
def A1 (c : Dev nD) : Vec Ideal S1x1024 .f32 := V m c main_v1
/-- The transposed gate weight. -/
def A2 (c : Dev nD) : Vec Ideal S2816x1024 .bf16 := V m c main_v3
/-- The transposed up weight. -/
def A3 (c : Dev nD) : Vec Ideal S2816x1024 .bf16 := V m c main_v5

/-- Where the block of the activations lies. -/
theorem emb0 (t : Fin grid0.N) (r k : Fin 1024) : (win0_0.blk t).view.emb (ix2 r k) = ix2 (row (grid0.coords t 1) r) k := by
  blk_ext [idx0 t, row]
/-- What the block of the activations reads. -/
theorem read0 (X : Vec Ideal S4096x1024 .f32) (t : Fin grid0.N) (r k : Fin 1024) :
    (win0_0.blk t).view.read (Elt Ideal) X (ix2 r k) = X (ix2 (row (grid0.coords t 1) r) k) := congrArg X (emb0 t r k)
/-- What a point reads of the activations. -/
theorem blk0 (c : Dev nD) (t : Fin grid0.N) (r k : Fin 1024) : iblk m c 0 t (ix2 r k) = A0 m c (ix2 (row (grid0.coords t 1) r) k) :=
  read0 (A0 m c) t r k
/-- Where the block of the scale lies. -/
theorem emb1 (t : Fin grid0.N) (k : Fin 1024) : (win0_1.blk t).view.emb (ix2 0 k) = ix2 0 k := by
  blk_ext [idx1 t]
/-- What the block of the scale reads. -/
theorem read1 (X : Vec Ideal S1x1024 .f32) (t : Fin grid0.N) (k : Fin 1024) :
    (win0_1.blk t).view.read (Elt Ideal) X (ix2 0 k) = X (ix2 0 k) := congrArg X (emb1 t k)
/-- What a point reads of the scale. -/
theorem blk1 (c : Dev nD) (t : Fin grid0.N) (k : Fin 1024) : iblk m c 1 t (ix2 0 k) = A1 m c (ix2 0 k) :=
  read1 (A1 m c) t k
/-- Where the block of the gate weight lies. -/
theorem emb2 (t : Fin grid0.N) (l : Fin 1408) (k : Fin 1024) : (win0_2.blk t).view.emb (ix2 l k) = ix2 (feat (grid0.coords t 0) l) k := by
  blk_ext [idx2 t, feat]
/-- What the block of the gate weight reads. -/
theorem read2 (X : Vec Ideal S2816x1024 .bf16) (t : Fin grid0.N) (l : Fin 1408) (k : Fin 1024) :
    (win0_2.blk t).view.read (Elt Ideal) X (ix2 l k) = X (ix2 (feat (grid0.coords t 0) l) k) := congrArg X (emb2 t l k)
/-- What a point reads of the gate weight. -/
theorem blk2 (c : Dev nD) (t : Fin grid0.N) (l : Fin 1408) (k : Fin 1024) : iblk m c 2 t (ix2 l k) = A2 m c (ix2 (feat (grid0.coords t 0) l) k) :=
  read2 (A2 m c) t l k
/-- Where the block of the up weight lies. -/
theorem emb3 (t : Fin grid0.N) (l : Fin 1408) (k : Fin 1024) : (win0_3.blk t).view.emb (ix2 l k) = ix2 (feat (grid0.coords t 0) l) k := by
  blk_ext [idx3 t, feat]
/-- What the block of the up weight reads. -/
theorem read3 (X : Vec Ideal S2816x1024 .bf16) (t : Fin grid0.N) (l : Fin 1408) (k : Fin 1024) :
    (win0_3.blk t).view.read (Elt Ideal) X (ix2 l k) = X (ix2 (feat (grid0.coords t 0) l) k) := congrArg X (emb3 t l k)
/-- What a point reads of the up weight. -/
theorem blk3 (c : Dev nD) (t : Fin grid0.N) (l : Fin 1408) (k : Fin 1024) : iblk m c 3 t (ix2 l k) = A3 m c (ix2 (feat (grid0.coords t 0) l) k) :=
  read3 (A3 m c) t l k
/-- Where the block of the gate product lies. -/
theorem emb4 (t : Fin grid0.N) (r : Fin 1024) (l : Fin 1408) :
    (win0_4.blk t).view.emb (ix2 r l) = ix2 (row (grid0.coords t 1) r) (feat (grid0.coords t 0) l) := by
  blk_ext [idx4 t, row, feat]
/-- Where the block of the up product lies. -/
theorem emb5 (t : Fin grid0.N) (r : Fin 1024) (l : Fin 1408) :
    (win0_5.blk t).view.emb (ix2 r l) = ix2 (row (grid0.coords t 1) r) (feat (grid0.coords t 0) l) := by
  blk_ext [idx5 t, row, feat]
/-- Where the block of the normalised activations lies. -/
theorem emb6 (t : Fin grid0.N) (r k : Fin 1024) :
    (win0_6.blk t).view.emb (ix3 0 r k) = ix3 (grid0.coords t 0) (row (grid0.coords t 1) r) k := by
  blk_ext [idx6 t, row]

/-! ## The three output arrays, as functions of the entry arrays -/

section Closed
variable (H : Vec Ideal S4096x1024 .f32) (N : Vec Ideal S1x1024 .f32) (W : Vec Ideal S2816x1024 .bf16)

/-- A normalised activation. -/
def hn (r : Fin 4096) (k : Fin 1024) : EReal := H (ix2 r k) * rms (fun x => H (ix2 r x)) * N (ix2 0 k)
/-- The normalised activations times a transposed weight. -/
def prod : Vec Ideal S4096x2816 .f32 := fun i => (∑ k, hn H N (i 0) k * W (ix2 (i 1) k) : EReal)
/-- The normalised activations, twice. -/
def twice : Vec Ideal S2x4096x1024 .bf16 := fun i => (hn H N (i 1) (i 2) : EReal)

end Closed

/-- An index of a product block is the one of its coordinates. -/
theorem prodIdx (y : S1024x1408.Idx) : y = ix2 (y 0) (y 1) := idx_eq2 y _ _ rfl rfl
/-- An index of a stored normalised block is the one of its coordinates. -/
theorem normIdx (y : S1x1024x1024.Idx) : y = ix3 0 (y 1) (y 2) :=
  idx_eq3 y _ _ _ (by have h : (y 0).val < 1 := (y 0).isLt; simpa using h) rfl rfl

/-- What grid point `t` leaves in window 4: its block of the closed form. -/
theorem out4 (c : Dev nD) (t : Fin grid0.N) (r : Fin 1024) (l : Fin 1408) :
    out0_4 (iblk m c 0 t) (iblk m c 1 t) (iblk m c 2 t) (iblk m c 3 t) (ix2 r l)
      = prod (A0 m c) (A1 m c) (A2 m c) (ix2 (row (grid0.coords t 1) r) (feat (grid0.coords t 0) l)) := by
  refine (gate_at _ _ _ _ r l).trans (Finset.sum_congr rfl fun k _ => ?_)
  simp only [blk0, blk1, blk2]
  rfl
/-- What grid point `t` leaves in window 5: its block of the closed form. -/
theorem out5 (c : Dev nD) (t : Fin grid0.N) (r : Fin 1024) (l : Fin 1408) :
    out0_5 (iblk m c 0 t) (iblk m c 1 t) (iblk m c 2 t) (iblk m c 3 t) (ix2 r l)
      = prod (A0 m c) (A1 m c) (A3 m c) (ix2 (row (grid0.coords t 1) r) (feat (grid0.coords t 0) l)) := by
  refine (up_at _ _ _ _ r l).trans (Finset.sum_congr rfl fun k _ => ?_)
  simp only [blk0, blk1, blk3]
  rfl
/-- What grid point `t` leaves in window 6: its block of the closed form. -/
theorem out6 (c : Dev nD) (t : Fin grid0.N) (r k : Fin 1024) :
    out0_6 (iblk m c 0 t) (iblk m c 1 t) (iblk m c 2 t) (iblk m c 3 t) (ix3 0 r k)
      = twice (A0 m c) (A1 m c) (ix3 (grid0.coords t 0) (row (grid0.coords t 1) r) k) := by
  refine (norm_at _ _ _ _ r k).trans ?_
  simp only [blk0, blk1]
  rfl

/-- The gate product after the last point. -/
theorem arr4 (c : Dev nD) : (dats m 0 c).arrAt 4 cfg0.N = prod (A0 m c) (A1 m c) (A2 m c) := by
  refine (dats m 0 c).arrAt_eq_of_covers 4 _ (by decide +kernel) fun t hf y => ?_
  blk_simp
  rw [after0_4]
  have hy := prodIdx y
  refine (congrArg (out0_4 (iblk m c 0 t) (iblk m c 1 t) (iblk m c 2 t) (iblk m c 3 t)) hy).trans ((out4 m c t _ _).trans ?_)
  exact congrArg (prod (A0 m c) (A1 m c) (A2 m c)) (((congrArg (win0_4.blk t).view.emb hy)).trans (emb4 t _ _)).symm
/-- The up product after the last point. -/
theorem arr5 (c : Dev nD) : (dats m 0 c).arrAt 5 cfg0.N = prod (A0 m c) (A1 m c) (A3 m c) := by
  refine (dats m 0 c).arrAt_eq_of_covers 5 _ (by decide +kernel) fun t hf y => ?_
  blk_simp
  rw [after0_5]
  have hy := prodIdx y
  refine (congrArg (out0_5 (iblk m c 0 t) (iblk m c 1 t) (iblk m c 2 t) (iblk m c 3 t)) hy).trans ((out5 m c t _ _).trans ?_)
  exact congrArg (prod (A0 m c) (A1 m c) (A3 m c)) (((congrArg (win0_5.blk t).view.emb hy)).trans (emb5 t _ _)).symm
/-- The normalised activations after the last point. -/
theorem arr6 (c : Dev nD) : (dats m 0 c).arrAt 6 cfg0.N = twice (A0 m c) (A1 m c) := by
  refine (dats m 0 c).arrAt_eq_of_covers 6 _ (by decide +kernel) fun t hf y => ?_
  blk_simp
  rw [after0_6]
  have hy := normIdx y
  refine (congrArg (out0_6 (iblk m c 0 t) (iblk m c 1 t) (iblk m c 2 t) (iblk m c 3 t)) hy).trans ((out6 m c t _ _).trans ?_)
  exact congrArg (twice (A0 m c) (A1 m c)) (((congrArg (win0_6.blk t).view.emb hy)).trans (emb6 t _ _)).symm

/-! ## The entry arrays, as functions of the arguments -/

/-- The flattened activations at a row. -/
theorem entry0 (c : Dev nD) (r : Fin 4096) (k : Fin 1024) :
    A0 m c (ix2 r k) = m ((c.tc : Thread nD τ).loc main_arg0) (ix3 (bat r) (pos r) k) := by
  show Gen.V m c main_v0 _ = _
  entry_read
  pointwise
  rfl
/-- The scale. -/
theorem entry1 (c : Dev nD) (k : Fin 1024) : A1 m c (ix2 0 k) = m ((c.tc : Thread nD τ).loc main_arg1) (ix1 k) := by
  show Gen.V m c main_v1 _ = _
  entry_read
  pointwise
/-- The transposed gate weight. -/
theorem entry2 (c : Dev nD) (f : Fin 2816) (k : Fin 1024) : A2 m c (ix2 f k) = m ((c.tc : Thread nD τ).loc main_arg2) (ix2 k f) := by
  show Gen.V m c main_v3 _ = _
  entry_read
  pointwise
/-- The transposed up weight. -/
theorem entry3 (c : Dev nD) (f : Fin 2816) (k : Fin 1024) : A3 m c (ix2 f k) = m ((c.tc : Thread nD τ).loc main_arg3) (ix2 k f) := by
  show Gen.V m c main_v5 _ = _
  entry_read
  pointwise
end Cert.FfnFwdIdeal.Arr
-- ==== Proof.FfnFwdClaim.lean ====
module

public import proofs.«01_k».proof.Defs
public import proofs.«01_k».proof.Proof.FfnFwdArr
public import proofs.«01_k».proof.Proof.Gen.FfnFwdRefIdeal.Read
public import Idealize.ShloMosaic.Lib.KernelVsHost

@[expose] public section
set_option maxRecDepth 16384
noncomputable section
namespace Cert.FfnFwdRefIdeal.Ref
open Idealize.ShloMosaic Idealize.ShloMosaic.Tactic Cert.FfnFwdRefIdeal Cert.FfnFwdRefIdeal.Read Cert.Ffn

/-! ## The reference's values, read at a row and a feature -/

variable (x0 : (⟨S2x2048x1024, .f32⟩ : BufTy).Contents (Elt Ideal)) (x1 : (⟨S1024, .f32⟩ : BufTy).Contents (Elt Ideal))
  (x2 x3 : (⟨S1024x2816, .f32⟩ : BufTy).Contents (Elt Ideal))

/-- The reference's normalised activations. -/
theorem normed (b : Fin 2) (s : Fin 2048) (k : Fin 1024) :
    val_main_v12 (F := Ideal) x0 x1 (ix3 b s k) = (x0 (ix3 b s k) * rms (fun x => x0 (ix3 b s x)) * x1 (ix1 k) : EReal) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply,
    show ∀ q, idx_main_v1 (idx_main_v2 (idx_main_v8 (ix3 b s k))) q = ix3 b s q from fun q => idx_eq3 _ _ _ _ rfl rfl rfl,
    show idx_main_v10 (idx_main_v11 (ix3 b s k)) = ix1 k from idx_eq1 _ _ rfl]
  rw [show (FloatOps.ofBits (F := Ideal) .f32 0x00000000#32 : EReal) = 0 from Ideal.ofBits_zero_f32]
  exact congrArg (fun z : EReal => x0 (ix3 b s k) * Ideal.rsqrt (Ideal.div z (Ideal.ofBits .f32 1149239296#32) + Ideal.ofBits .f32 897988541#32) * x1 (ix1 k)) (zero_add _)

/-- The reference's gate product. -/
theorem gate_at (r : Fin 4096) (f : Fin 2816) : val_main_v14 (F := Ideal) x0 x1 x2 (ix2 r f)
    = (∑ k : Fin 1024, val_main_v12 (F := Ideal) x0 x1 (ix3 (bat r) (pos r) k) * x2 (ix2 k f) : EReal) := by
  rw [val_main_v14_apply, show idx_main_v14 (ix2 r f) = ix3 (bat r) (pos r) f from idx_eq3 _ _ _ _ (by simp [bat]; omega) (by simp [pos]; omega) (by simp <;> omega),
    val_main_v13_apply]
  refine Finset.sum_congr rfl fun k _ => ?_
  rw [show lidx_main_v13 (ix3 (bat r) (pos r) f) k = ix3 (bat r) (pos r) k from idx_eq3 _ _ _ _ rfl rfl rfl,
    show ridx_main_v13 (ix3 (bat r) (pos r) f) k = ix2 k f from idx_eq2 _ _ _ rfl rfl]
/-- The reference's up product. -/
theorem up_at (r : Fin 4096) (f : Fin 2816) : val_main_v16 (F := Ideal) x0 x1 x3 (ix2 r f)
    = (∑ k : Fin 1024, val_main_v12 (F := Ideal) x0 x1 (ix3 (bat r) (pos r) k) * x3 (ix2 k f) : EReal) := by
  rw [val_main_v16_apply, show idx_main_v16 (ix2 r f) = ix3 (bat r) (pos r) f from idx_eq3 _ _ _ _ (by simp [bat]; omega) (by simp [pos]; omega) (by simp <;> omega),
    val_main_v15_apply]
  refine Finset.sum_congr rfl fun k _ => ?_
  rw [show lidx_main_v15 (ix3 (bat r) (pos r) f) k = ix3 (bat r) (pos r) k from idx_eq3 _ _ _ _ rfl rfl rfl,
    show ridx_main_v15 (ix3 (bat r) (pos r) f) k = ix2 k f from idx_eq2 _ _ _ rfl rfl]

/-- The reference's stored normalised activations: both halves of the stack are the same. -/
theorem twice_at (f : Fin 2) (r : Fin 4096) (k : Fin 1024) : val_main_v21 (F := Ideal) x0 x1 (ix3 f r k)
    = val_main_v12 (F := Ideal) x0 x1 (ix3 (bat r) (pos r) k) := by
  have h : ∀ r k, val_main_v18 (F := Ideal) x0 x1 (ix2 r k) = val_main_v12 (F := Ideal) x0 x1 (ix3 (bat r) (pos r) k) := by
    intro r k
    rw [val_main_v18_apply, val_main_v17_apply, show idx_main_v17 (ix2 r k) = ix3 (bat r) (pos r) k from
      idx_eq3 _ _ _ _ (by simp [bat]; omega) (by simp [pos]; omega) (by simp <;> omega)]
    rfl
  unfold val_main_v21
  fin_cases f
  · refine (concatenate_pair_apply_left (t := S2x4096x1024) (s₁ := S1x4096x1024) (s₂ := S1x4096x1024) (0 : Fin 3) _ _ _ (ix3 0 r k) rfl (ix3 0 r k) (by intro a; match a with | ⟨0, _⟩ => rfl | ⟨1, _⟩ => rfl | ⟨2, _⟩ => rfl)).trans ?_
    rw [val_main_v19_apply, show idx_main_v19 (ix3 0 r k) = ix2 r k from idx_eq2 _ _ _ rfl rfl, h]
  · refine (concatenate_pair_apply_right (t := S2x4096x1024) (s₁ := S1x4096x1024) (s₂ := S1x4096x1024) (0 : Fin 3) _ _ _ (ix3 1 r k) rfl rfl (ix3 0 r k) (by intro a h; match a with | ⟨0, _⟩ => exact absurd rfl h | ⟨1, _⟩ => rfl | ⟨2, _⟩ => rfl) rfl).trans ?_
    rw [val_main_v20_apply, show idx_main_v20 (ix3 0 r k) = ix2 r k from idx_eq2 _ _ _ rfl rfl, h]

end Cert.FfnFwdRefIdeal.Ref

namespace Cert.FfnFwdEq
open Idealize.ShloMosaic Idealize.SL.Sem Idealize.ShloMosaic.TcCoe Idealize.ShloMosaic.Tactic Cert.FfnFwdIdeal Cert.FfnFwdIdeal.Gen Cert.Ffn

/-! ## The value claim of the feed-forward layer's first products -/

/-- A normalised activation is the reference's. -/
theorem hn_eq (m : (ℓ : Loc nD τ sig) → Buf (Elt Ideal) ℓ) (c : Dev nD) (r : Fin 4096) (k : Fin 1024) :
    Arr.hn (Arr.A0 m c) (Arr.A1 m c) r k = Cert.FfnFwdRefIdeal.Read.val_main_v12 (F := Ideal) (m ((c.tc : Thread nD τ).loc main_arg0)) (m ((c.tc : Thread nD τ).loc main_arg1)) (ix3 (bat r) (pos r) k) := by
  rw [Cert.FfnFwdRefIdeal.Ref.normed]
  unfold Arr.hn
  simp only [Arr.entry0, Arr.entry1]

/-- What the kernel leaves in its three results is what the reference computes. -/
theorem results (m : (ℓ : Loc nD τ sig) → Buf (Elt Ideal) ℓ) (c : Dev nD) :
    (dats m 0 c).arrAt 4 cfg0.N = Cert.FfnFwdRefIdeal.Read.val_main_v14 (F := Ideal) (m ((c.tc : Thread nD τ).loc main_arg0)) (m ((c.tc : Thread nD τ).loc main_arg1)) (m ((c.tc : Thread nD τ).loc main_arg2))
    ∧ (dats m 0 c).arrAt 5 cfg0.N = Cert.FfnFwdRefIdeal.Read.val_main_v16 (F := Ideal) (m ((c.tc : Thread nD τ).loc main_arg0)) (m ((c.tc : Thread nD τ).loc main_arg1)) (m ((c.tc : Thread nD τ).loc main_arg3))
    ∧ (dats m 0 c).arrAt 6 cfg0.N = Cert.FfnFwdRefIdeal.Read.val_main_v21 (F := Ideal) (m ((c.tc : Thread nD τ).loc main_arg0)) (m ((c.tc : Thread nD τ).loc main_arg1)) := by
  refine ⟨(Arr.arr4 m c).trans ?_, (Arr.arr5 m c).trans ?_, (Arr.arr6 m c).trans ?_⟩
  · funext i
    rw [idx_eq2 i (i 0) (i 1) rfl rfl]
    refine Eq.trans ?_ (Cert.FfnFwdRefIdeal.Ref.gate_at _ _ _ _ _).symm
    refine Finset.sum_congr rfl fun k _ => ?_
    exact congrArg₂ (fun a b : EReal => a * b) (hn_eq m c _ k) (Arr.entry2 m c _ k)
  · funext i
    rw [idx_eq2 i (i 0) (i 1) rfl rfl]
    refine Eq.trans ?_ (Cert.FfnFwdRefIdeal.Ref.up_at _ _ _ _ _).symm
    refine Finset.sum_congr rfl fun k _ => ?_
    exact congrArg₂ (fun a b : EReal => a * b) (hn_eq m c _ k) (Arr.entry3 m c _ k)
  · funext i
    rw [idx_eq3 i (i 0) (i 1) (i 2) rfl rfl rfl]
    exact (hn_eq m c _ _).trans (Cert.FfnFwdRefIdeal.Ref.twice_at _ _ _ _ _).symm

/-- THE VALUE CLAIM of the feed-forward layer's first products. -/
theorem algebraic : algebraic_FfnFwdIdeal_FfnFwdRefIdeal (hFfnFwdIdeal := Cert.FfnFwdIdeal.Gen.facts)
    (hFfnFwdRefIdeal := Cert.FfnFwdRefIdeal.Gen.facts) := by
  intro m g m' g' _ hagree
  refine ⟨fun c => Cert.FfnFwdRefIdeal.Read.val_main_v14 (F := Ideal) (m ((c.tc : Thread nD τ).loc main_arg0)) (m ((c.tc : Thread nD τ).loc main_arg1)) (m ((c.tc : Thread nD τ).loc main_arg2)),
    fun c => Cert.FfnFwdRefIdeal.Read.val_main_v16 (F := Ideal) (m ((c.tc : Thread nD τ).loc main_arg0)) (m ((c.tc : Thread nD τ).loc main_arg1)) (m ((c.tc : Thread nD τ).loc main_arg3)),
    fun c => Cert.FfnFwdRefIdeal.Read.val_main_v21 (F := Ideal) (m ((c.tc : Thread nD τ).loc main_arg0)) (m ((c.tc : Thread nD τ).loc main_arg1)), ?_, ?_⟩
  · refine (θ_run _ _ _).mono (fun r h c => ?_) (Cert.FfnFwdIdeal.Value.run_blocks m g)
    obtain ⟨e4, e5, e6, k⟩ := h c
    obtain ⟨r4, r5, r6⟩ := results m c
    exact ⟨e4.trans r4, e5.trans r5, e6.trans r6, k⟩
  · refine (θ_run _ _ _).mono (fun r h c => ?_) (Cert.FfnFwdRefIdeal.Value.run m' g')
    obtain ⟨e0, e1, e2, k⟩ := h c
    obtain ⟨a0, a1, a2, a3⟩ := hagree c
    refine ⟨e0.trans ?_, e1.trans ?_, e2.trans ?_, k⟩
    · rw [Cert.FfnFwdRefIdeal.Read.val_main_v14_eq, a0, a1, a2]
    · rw [Cert.FfnFwdRefIdeal.Read.val_main_v16_eq, a0, a1, a3]
    · rw [Cert.FfnFwdRefIdeal.Read.val_main_v21_eq, a0, a1]

end Cert.FfnFwdEq
-- ==== Proof.DgradArr.lean ====
module

public import proofs.«01_k».proof.Proof.FfnMath
public import proofs.«01_k».proof.Proof.Gen.DgradIdeal.Value
public import Idealize.ShloMosaic.Lib.Pipeline.ValueKit
public import Idealize.ShloMosaic.Lib.Pipeline.ReadBack

@[expose] public section
set_option maxRecDepth 16384
noncomputable section
namespace Cert.Ffn
open Idealize.ShloMosaic Idealize.ShloMosaic.Tactic

/-! ## The derivative of the row normalisation -/

/-- A row's mean square, with the normalisation's small constant. -/
def msq (x : Fin 1024 → EReal) : EReal :=
  Ideal.div (∑ k, x k * x k) (Ideal.ofBits .f32 1149239296#32) + Ideal.ofBits .f32 897988541#32
/-- What every entry of a row receives through the row's mean square. -/
def share (x n g : Fin 1024 → EReal) : EReal :=
  Ideal.div ((∑ k, x k * (g k * n k)) * (Ideal.ofBits .f32 3204448256#32 * Ideal.div (rms x) (msq x))) (Ideal.ofBits .f32 1149239296#32)
/-- The derivative of a row's normalisation with scale `n`, applied to `g`. -/
def back (x n g : Fin 1024 → EReal) (k : Fin 1024) : EReal :=
  g k * n k * rms x + x k * share x n g + share x n g * x k

end Cert.Ffn

namespace Cert.DgradIdeal.Arr
open Idealize.ShloMosaic Idealize.ShloMosaic.TcCoe Idealize.ShloMosaic.Tactic
open Cert.DgradIdeal Cert.DgradIdeal.Gen Cert.Ffn
variable (m : (ℓ : Loc nD τ sig) → Buf (Elt Ideal) ℓ)

/-! ## What a grid point computes -/

section Block
variable (x0 x5 : Vec Ideal S256x1024 .f32) (x1 a : Vec Ideal S1x1024 .f32) (x2 v28 v33 : Vec Ideal S256x2816 .f32) (x3 : Vec Ideal S8x2816 .f32)
  (x4 : Vec Ideal S256x2816 .bf16) (x6 : Vec Ideal S3x2816 .f32) (x7 x8 : Vec Ideal S2816x1024 .bf16)

/-- An entry of the convolution's transpose, from the tile and the tile read one and two rows later. -/
theorem dg_at (r : Fin 256) (f : Fin 2816) : k0_pay8 (k0_pay6 x2 x6 v28) v33 (k0_pay7 x6) (ix2 r f)
    = (x6 (ix2 2 f) * x2 (ix2 r f) + x6 (ix2 0 f) * v28 (ix2 r f) + x6 (ix2 1 f) * v33 (ix2 r f) : EReal) := by
  pointwise [k0_pay8, k0_pay6, k0_pay7, k0_pay3]
/-- An entry of the derivative of the normalised activations. -/
theorem cot_at (v31 v34 : FVec Ideal S256x2816 .f32) (r : Fin 256) (k : Fin 1024) : k0_pay13 v31 v33 v34 x7 x4 x8 (ix2 r k)
    = ((∑ f : Fin 2816, k0_pay8 v31 v33 v34 (ix2 r f) * x7 (ix2 f k)) + ∑ f : Fin 2816, x4 (ix2 r f) * x8 (ix2 f k) : EReal) := by
  pointwise [k0_pay13]
/-- A row's mean square. -/
theorem msq_at (r : Fin 256) : k0_pay10 x0 (ix2 r 0) = (msq fun k => x0 (ix2 r k) : EReal) := by
  pointwise [k0_pay10, k0_pay9]
  rfl
/-- The reciprocal root of a row's mean square. -/
theorem rms_at (r : Fin 256) : k0_pay11 x0 (ix2 r 0) = (rms fun k => x0 (ix2 r k) : EReal) := by
  pointwise [k0_pay11]
  rw [msq_at]
  rfl
/-- The derivative of the reciprocal root. -/
theorem half_at (r : Fin 256) : k0_pay12 x0 (ix2 r 0)
    = (Ideal.ofBits .f32 3204448256#32 * Ideal.div (rms fun k => x0 (ix2 r k)) (msq fun k => x0 (ix2 r k)) : EReal) := by
  pointwise [k0_pay12]
  rw [msq_at, rms_at]
/-- The derivative of the normalised activations, scaled. -/
theorem scaled_at (v31 v34 : FVec Ideal S256x2816 .f32) (r : Fin 256) (k : Fin 1024) : k0_pay15 v31 v33 v34 x1 x7 x4 x8 (ix2 r k)
    = (k0_pay13 v31 v33 v34 x7 x4 x8 (ix2 r k) * x1 (ix2 0 k) : EReal) := by
  pointwise [k0_pay15]
/-- A row's inner product with that. -/
theorem inner_at (v31 v34 : FVec Ideal S256x2816 .f32) (r : Fin 256) : k0_pay16 v31 v33 v34 x0 x1 x7 x4 x8 (ix2 r 0)
    = (∑ k : Fin 1024, x0 (ix2 r k) * (k0_pay13 v31 v33 v34 x7 x4 x8 (ix2 r k) * x1 (ix2 0 k)) : EReal) := by
  pointwise [k0_pay16, k0_pay9]
  exact Finset.sum_congr rfl fun k _ => by rw [scaled_at]
/-- The reciprocal root along a row. -/
theorem spread_at (r : Fin 256) (k : Fin 1024) : k0_pay17 x0 (ix2 r k) = (rms fun k => x0 (ix2 r k) : EReal) := by
  pointwise [k0_pay17]
  rw [rms_at]
/-- A tile's contribution to the derivative of the scale. -/
theorem norm_part (v31 v34 : FVec Ideal S256x2816 .f32) (k : Fin 1024) : k0_pay14 v31 v33 v34 x0 x7 x4 x8 (ix2 0 k)
    = (∑ r : Fin 256, x0 (ix2 r k) * (rms fun k => x0 (ix2 r k)) * k0_pay13 v31 v33 v34 x7 x4 x8 (ix2 r k) : EReal) := by
  pointwise [k0_pay14, k0_pay9]
  exact Finset.sum_congr rfl fun r _ => by rw [rms_at]
/-- A later tile adds its contribution. -/
theorem norm_next (p : FVec Ideal S1x1024 .f32) (j : S1x1024.Idx) : k0_pay2 p a j = (a j + p j : EReal) := by
  pointwise [k0_pay2]
/-- An entry of the derivative of the activations. -/
theorem dh_at (v31 v34 : FVec Ideal S256x2816 .f32) (r : Fin 256) (k : Fin 1024) :
    k0_pay1 (k0_pay9 x0) (k0_pay12 x0) (k0_pay15 v31 v33 v34 x1 x7 x4 x8) (k0_pay16 v31 v33 v34 x0 x1 x7 x4 x8) (k0_pay17 x0) x5 (ix2 r k)
    = (back (fun k => x0 (ix2 r k)) (fun k => x1 (ix2 0 k)) (fun k => k0_pay13 v31 v33 v34 x7 x4 x8 (ix2 r k)) k + x5 (ix2 r k) : EReal) := by
  pointwise [k0_pay1, k0_pay9]
  simp only [Fin.sum_univ_one, scaled_at, spread_at]
  have e := inner_at x0 x1 v33 x4 x7 x8 v31 v34 r
  have e' := half_at x0 r
  rw [show ∀ q : Fin 1, ix2 r q = ix2 r 0 from fun q => by rw [Subsingleton.elim q 0]]
  rw [e, e']
  rfl

/-! ## The tile with the rows after it -/

/-- Whether a point's tile ends a sequence, as the kernel's word. -/
def lastWord (i : grid0.Coords) : BitVec 1 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 7#32
/-- The word is set exactly at the tiles that end a sequence. -/
theorem lastWord_eq : ∀ t : Fin grid0.N, lastWord (grid0.coords t) = if t.val % 8 = 7 then 1#1 else 0#1 := by decide +kernel

/-- The rows after a tile: nothing at the end of a sequence. -/
def halo (t : Fin grid0.N) : Vec Ideal S8x2816 .f32 := fun j => if t.val % 8 = 7 then (0 : EReal) else x3 j
/-- What the kernel stores after the tile. -/
theorem halo_eq (t : Fin grid0.N) : k0_pay5 (grid0.coords t) x3 = halo x3 t := by
  funext j
  show shapeCast S8x2816 (Scalar.select (lastWord (grid0.coords t)) (broadcast S8x2816 (Scalar.ofBits .f32 0x00000000#32)) (shapeCast S8x2816 x3 shapeCasts_S8x2816_S8x2816) : FVec Ideal S8x2816 .f32) shapeCasts_S8x2816_S8x2816 j = _
  rw [lastWord_eq]
  unfold halo
  split
  · pointwise
  · pointwise

/-- The tile with the rows after it. -/
def tall (p : Vec Ideal S8x2816 .f32) : S264x2816.Idx → EReal := fun i =>
  if h : (i 0).val < 256 then x2 (ix2 ⟨(i 0).val, h⟩ (i 1)) else p (ix2 ⟨(i 0).val - 256, by have : (i 0).val < 264 := (i 0).isLt; omega⟩ (i 1))

/-- The kernel stores the tile as it is. -/
theorem store_eq : k0_pay4 x2 = x2 := by
  funext j
  pointwise [k0_pay4, k0_pay3]

/-- The tile's own rows. -/
theorem tall_lo (p : Vec Ideal S8x2816 .f32) (r : Fin 256) (f : Fin 2816) : tall x2 p (ix2 ⟨r.val, by omega⟩ f) = x2 (ix2 r f) :=
  dif_pos r.isLt
/-- The rows after it. -/
theorem tall_hi (p : Vec Ideal S8x2816 .f32) (q : Fin 8) (f : Fin 2816) : tall x2 p (ix2 ⟨256 + q.val, by omega⟩ f) = p (ix2 q f) :=
  (dif_neg (by show ¬256 + q.val < 256; omega)).trans (congrArg p (idx_eq2 _ _ _ (by show 256 + q.val - 256 = q.val; omega) rfl))
/-- The two stores fill the scratch. -/
theorem cover (p : Vec Ideal S8x2816 .f32) (y : S264x2816.Idx) :
    ∃ q ∈ ([⟨Rect.unit (s := S264x2816) ![256, 0] ![8, 2816] inb_S264x2816_S8x2816_256_0, p⟩,
      ⟨Rect.unit (s := S264x2816) ![0, 0] ![256, 2816] inb_S264x2816_S256x2816_0_0, x2⟩] : List (View.Piece (Elt Ideal) S264x2816 .f32)), y ∈ q.1.set := by
  have h0 : (y 0).val < 264 := (y 0).isLt
  have h1 : (y 1).val < 2816 := (y 1).isLt
  by_cases h : (y 0).val < 256
  · refine ⟨_, List.mem_cons_of_mem _ List.mem_cons_self, (Rect.mem_set_unit (inb := inb_S264x2816_S256x2816_0_0)).mpr fun x => ?_⟩
    match x with
    | ⟨0, _⟩ => exact ⟨Nat.zero_le _, by show (y 0).val < 0 + 256; omega⟩
    | ⟨1, _⟩ => exact ⟨Nat.zero_le _, by show (y 1).val < 0 + 2816; omega⟩
  · refine ⟨_, List.mem_cons_self, (Rect.mem_set_unit (inb := inb_S264x2816_S8x2816_256_0)).mpr fun x => ?_⟩
    match x with
    | ⟨0, _⟩ => exact ⟨by show 256 ≤ (y 0).val; omega, by show (y 0).val < 256 + 8; omega⟩
    | ⟨1, _⟩ => exact ⟨Nat.zero_le _, by show (y 1).val < 0 + 2816; omega⟩
/-- What the two stores leave in the scratch. -/
theorem canon_eq (p : Vec Ideal S8x2816 .f32) (y : S264x2816.Idx) :
    View.canon (Val := Elt Ideal) (e := .f32) [⟨Rect.unit (s := S264x2816) ![256, 0] ![8, 2816] inb_S264x2816_S8x2816_256_0, p⟩,
      ⟨Rect.unit (s := S264x2816) ![0, 0] ![256, 2816] inb_S264x2816_S256x2816_0_0, x2⟩] y = tall x2 p y := by
  refine View.canon_append_of_piecesOf (Val := Elt Ideal) (e := .f32) (tall x2 p) [] [⟨Rect.unit (s := S264x2816) ![256, 0] ![8, 2816] inb_S264x2816_S8x2816_256_0, p⟩,
      ⟨Rect.unit (s := S264x2816) ![0, 0] ![256, 2816] inb_S264x2816_S256x2816_0_0, x2⟩] ⟨fun x => ?_, fun x => ?_, trivial⟩ y (cover x2 p y)
  · refine (congrArg p (idx_eq2 (n0 := 8) (n1 := 2816) x (x 0) (x 1) rfl rfl)).trans ((tall_hi x2 p (x 0) (x 1)).symm.trans (congrArg (tall x2 p) ?_))
    exact (idx_eq2 _ _ _ (Rect.idx_unit_val (s := S264x2816) _ _ inb_S264x2816_S8x2816_256_0 x 0) ((Rect.idx_unit_val (s := S264x2816) _ _ inb_S264x2816_S8x2816_256_0 x 1).trans (Nat.zero_add _))).symm
  · refine (congrArg x2 (idx_eq2 (n0 := 256) (n1 := 2816) x (x 0) (x 1) rfl rfl)).trans ((tall_lo x2 p (x 0) (x 1)).symm.trans (congrArg (tall x2 p) ?_))
    exact (idx_eq2 _ _ _ ((Rect.idx_unit_val (s := S264x2816) _ _ inb_S264x2816_S256x2816_0_0 x 0).trans (Nat.zero_add _)) ((Rect.idx_unit_val (s := S264x2816) _ _ inb_S264x2816_S256x2816_0_0 x 1).trans (Nat.zero_add _))).symm
/-- The scratch read some rows later. -/
def later (p : Vec Ideal S8x2816 .f32) (o : Fin 9) : Vec Ideal S256x2816 .f32 :=
  fun j => tall x2 p (ix2 ⟨o.val + (j 0).val, by have : (j 0).val < 256 := (j 0).isLt; omega⟩ (j 1))
/-- A load from the scratch, some rows later. -/
theorem load_eq (p : Vec Ideal S8x2816 .f32) (o : Fin 9) (inb : ∀ a, (![o.val, 0] : Fin 2 → Nat) a + ![256, 2816] a ≤ S264x2816.size a) :
    (View.whole cc0_scratch0).readCov (Val := Elt Ideal) [⟨Rect.unit (s := S264x2816) ![256, 0] ![8, 2816] inb_S264x2816_S8x2816_256_0, p⟩,
      ⟨Rect.unit (s := S264x2816) ![0, 0] ![256, 2816] inb_S264x2816_S256x2816_0_0, x2⟩] (Rect.unit (s := S264x2816) ![o.val, 0] ![256, 2816] inb).toLoadRect
      = later x2 p o := by
  rw [View.readCov_eq_canon']
  funext j
  refine (canon_eq x2 p _).trans (congrArg (tall x2 p) (idx_eq2 _ _ _ (Rect.idx_unit_val _ _ _ _ _) ((Rect.idx_unit_val _ _ _ _ _).trans (Nat.zero_add _))))

end Block

/-! ## What the outputs hold after a point -/

/-- The tile two rows later. -/
def by2 (c : Dev nD) (t : Fin cfg0.N) : Vec Ideal S256x2816 .f32 := later (iblk m c 2 t) (halo (iblk m c 3 t) t) 2
/-- The tile one row later. -/
def by1 (c : Dev nD) (t : Fin cfg0.N) : Vec Ideal S256x2816 .f32 := later (iblk m c 2 t) (halo (iblk m c 3 t) t) 1
/-- The first two terms of the convolution's transpose. -/
def two (c : Dev nD) (t : Fin cfg0.N) : Vec Ideal S256x2816 .f32 := k0_pay6 (iblk m c 2 t) (iblk m c 6 t) (by2 m c t)
/-- The middle weight along the tile. -/
def mid (c : Dev nD) (t : Fin cfg0.N) : Vec Ideal S256x2816 .f32 := k0_pay7 (iblk m c 6 t)

/-- A point's derivative of the activations. -/
def dhBlk (c : Dev nD) (t : Fin cfg0.N) : Vec Ideal S256x1024 .f32 :=
  k0_pay1 (k0_pay9 (iblk m c 0 t)) (k0_pay12 (iblk m c 0 t))
    (k0_pay15 (two m c t) (by1 m c t) (mid m c t) (iblk m c 1 t) (iblk m c 7 t) (iblk m c 4 t) (iblk m c 8 t))
    (k0_pay16 (two m c t) (by1 m c t) (mid m c t) (iblk m c 0 t) (iblk m c 1 t) (iblk m c 7 t) (iblk m c 4 t) (iblk m c 8 t))
    (k0_pay17 (iblk m c 0 t)) (iblk m c 5 t)
/-- A point's derivative of the gate product. -/
def dgBlk (c : Dev nD) (t : Fin cfg0.N) : Vec Ideal S256x2816 .bf16 := k0_pay8 (two m c t) (by1 m c t) (mid m c t)
/-- A point's contribution to the derivative of the scale. -/
def dnBlk (c : Dev nD) (t : Fin cfg0.N) : Vec Ideal S1x1024 .f32 :=
  k0_pay14 (two m c t) (by1 m c t) (mid m c t) (iblk m c 0 t) (iblk m c 7 t) (iblk m c 4 t) (iblk m c 8 t)

/-- There are sixteen points. -/
theorem points (t : Fin cfg0.N) : t.val < 16 := lt_of_lt_of_eq t.isLt N_0

/-- The first output after a point. -/
theorem after9 (c : Dev nD) (t : Fin cfg0.N) : (outsAt0 m c t.val t.isLt).1 = dhBlk m c t := by
  have hN := points t
  by_cases h : t.val % 16 = 0
  · rw [outsAt0_A m c t h (by omega)]
    frame_out
    rw [halo_eq, store_eq]
    exact congrArg₂ (fun a b => k0_pay1 (k0_pay9 (iblk m c 0 t)) (k0_pay12 (iblk m c 0 t))
      (k0_pay15 (k0_pay6 (iblk m c 2 t) (iblk m c 6 t) a) b (mid m c t) (iblk m c 1 t) (iblk m c 7 t) (iblk m c 4 t) (iblk m c 8 t))
      (k0_pay16 (k0_pay6 (iblk m c 2 t) (iblk m c 6 t) a) b (mid m c t) (iblk m c 0 t) (iblk m c 1 t) (iblk m c 7 t) (iblk m c 4 t) (iblk m c 8 t))
      (k0_pay17 (iblk m c 0 t)) (iblk m c 5 t)) (load_eq _ _ 2 _) (load_eq _ _ 1 _)
  · rw [outsAt0_B m c t h (by omega)]
    frame_out
    rw [halo_eq, store_eq]
    exact congrArg₂ (fun a b => k0_pay1 (k0_pay9 (iblk m c 0 t)) (k0_pay12 (iblk m c 0 t))
      (k0_pay15 (k0_pay6 (iblk m c 2 t) (iblk m c 6 t) a) b (mid m c t) (iblk m c 1 t) (iblk m c 7 t) (iblk m c 4 t) (iblk m c 8 t))
      (k0_pay16 (k0_pay6 (iblk m c 2 t) (iblk m c 6 t) a) b (mid m c t) (iblk m c 0 t) (iblk m c 1 t) (iblk m c 7 t) (iblk m c 4 t) (iblk m c 8 t))
      (k0_pay17 (iblk m c 0 t)) (iblk m c 5 t)) (load_eq _ _ 2 _) (load_eq _ _ 1 _)
/-- The second output after a point. -/
theorem after10 (c : Dev nD) (t : Fin cfg0.N) : (outsAt0 m c t.val t.isLt).2.1 = dgBlk m c t := by
  have hN := points t
  by_cases h : t.val % 16 = 0
  · rw [outsAt0_A m c t h (by omega)]
    frame_out
    rw [halo_eq, store_eq]
    exact congrArg₂ (fun a b => k0_pay8 (k0_pay6 (iblk m c 2 t) (iblk m c 6 t) a) b (mid m c t)) (load_eq _ _ 2 _) (load_eq _ _ 1 _)
  · rw [outsAt0_B m c t h (by omega)]
    frame_out
    rw [halo_eq, store_eq]
    exact congrArg₂ (fun a b => k0_pay8 (k0_pay6 (iblk m c 2 t) (iblk m c 6 t) a) b (mid m c t)) (load_eq _ _ 2 _) (load_eq _ _ 1 _)
/-- The third output after the first point. -/
theorem after11_A (c : Dev nD) (t : Fin cfg0.N) (h : t.val % 16 = 0) : (outsAt0 m c t.val t.isLt).2.2 = dnBlk m c t := by
  have hN := points t
  rw [outsAt0_A m c t h (by omega)]
  frame_out
  rw [halo_eq, store_eq]
  exact congrArg₂ (fun a b => k0_pay14 (k0_pay6 (iblk m c 2 t) (iblk m c 6 t) a) b (mid m c t) (iblk m c 0 t) (iblk m c 7 t) (iblk m c 4 t) (iblk m c 8 t))
    (load_eq _ _ 2 _) (load_eq _ _ 1 _)
/-- The third output after a later point. -/
theorem after11_B (c : Dev nD) (t : Fin cfg0.N) (h : ¬t.val % 16 = 0) : (outsAt0 m c t.val t.isLt).2.2 = k0_pay2 (dnBlk m c t)
      (outsAt0 m c (t.val - 1) (Nat.lt_of_le_of_lt (Nat.sub_le _ _) t.isLt)).2.2 := by
  have hN := points t
  rw [outsAt0_B m c t h (by omega)]
  frame_out
  rw [halo_eq, store_eq]
  exact congrArg₂ (fun a b => k0_pay2 (k0_pay14 (k0_pay6 (iblk m c 2 t) (iblk m c 6 t) a) b (mid m c t) (iblk m c 0 t) (iblk m c 7 t) (iblk m c 4 t) (iblk m c 8 t))
      (outsAt0 m c (t.val - 1) (Nat.lt_of_le_of_lt (Nat.sub_le _ _) t.isLt)).2.2)
    (load_eq _ _ 2 _) (load_eq _ _ 1 _)

/-! ## Where a grid point's blocks lie -/

/-- A row of the flattened activations from its tile and its place in the tile. -/
def row (i : Fin 16) (r : Fin 256) : Fin 4096 := ⟨256 * i.val + r.val, by omega⟩
/-- A row of the block read after a tile. -/
def hrow (i : Fin 16) (q : Fin 8) : Fin 4096 := ⟨8 * min (32 * (i.val + 1)) 511 + q.val, by omega⟩

/-- Which block of the activations a point reads. -/
theorem idx0 : ∀ t : Fin grid0.N, win0_0.index t = ![(grid0.coords t 0).val, 0] := by decide +kernel
/-- Which block of the scale a point reads. -/
theorem idx1 : ∀ t : Fin grid0.N, win0_1.index t = ![0, 0] := by decide +kernel
/-- Which block of the convolution's derivative a point reads. -/
theorem idx2 : ∀ t : Fin grid0.N, win0_2.index t = ![(grid0.coords t 0).val, 0] := by decide +kernel
/-- Which rows after the tile a point reads. -/
theorem idx3 : ∀ t : Fin grid0.N, win0_3.index t = ![min (32 * ((grid0.coords t 0).val + 1)) 511, 0] := by decide +kernel
/-- Which block of the up derivative a point reads. -/
theorem idx4 : ∀ t : Fin grid0.N, win0_4.index t = ![(grid0.coords t 0).val, 0] := by decide +kernel
/-- Which block of the residual derivative a point reads. -/
theorem idx5 : ∀ t : Fin grid0.N, win0_5.index t = ![(grid0.coords t 0).val, 0] := by decide +kernel
/-- Which block of the convolution's weights a point reads. -/
theorem idx6 : ∀ t : Fin grid0.N, win0_6.index t = ![0, 0] := by decide +kernel
/-- Which block of the gate weight a point reads. -/
theorem idx7 : ∀ t : Fin grid0.N, win0_7.index t = ![0, 0] := by decide +kernel
/-- Which block of the up weight a point reads. -/
theorem idx8 : ∀ t : Fin grid0.N, win0_8.index t = ![0, 0] := by decide +kernel
/-- Which block of the first output a point writes. -/
theorem idx9 : ∀ t : Fin grid0.N, win0_9.index t = ![(grid0.coords t 0).val, 0] := by decide +kernel
/-- Which block of the second output a point writes. -/
theorem idx10 : ∀ t : Fin grid0.N, win0_10.index t = ![(grid0.coords t 0).val, 0] := by decide +kernel
/-- Which block of the third output a point writes. -/
theorem idx11 : ∀ t : Fin grid0.N, win0_11.index t = ![0, 0] := by decide +kernel
/-- A point's tile. -/
theorem tile : ∀ t : Fin grid0.N, (grid0.coords t 0).val = t.val := by decide +kernel

/-- The activations. -/
def A0 (c : Dev nD) : Vec Ideal S4096x1024 .f32 := V m c main_v0
/-- The scale, as one row. -/
def A1 (c : Dev nD) : Vec Ideal S1x1024 .f32 := V m c main_v1
/-- The convolution's derivative. -/
def A2 (c : Dev nD) : Vec Ideal S4096x2816 .f32 := V m c main_v2
/-- The up derivative. -/
def A4 (c : Dev nD) : Vec Ideal S4096x2816 .bf16 := V m c main_v4
/-- The residual derivative. -/
def A5 (c : Dev nD) : Vec Ideal S4096x1024 .f32 := V m c main_v5
/-- The convolution's weights. -/
def A6 (c : Dev nD) : Vec Ideal S3x2816 .f32 := V m c main_arg4
/-- The transposed gate weight. -/
def A7 (c : Dev nD) : Vec Ideal S2816x1024 .bf16 := V m c main_v7
/-- The transposed up weight. -/
def A8 (c : Dev nD) : Vec Ideal S2816x1024 .bf16 := V m c main_v9

/-- Where the block of the activations lies. -/
theorem emb0 (t : Fin grid0.N) (r : Fin 256) (k : Fin 1024) : (win0_0.blk t).view.emb (ix2 r k) = (ix2 (row (grid0.coords t 0) r) k) := by
  blk_ext [idx0 t, row, hrow]
/-- What the block of the activations reads. -/
theorem read0 (X : Vec Ideal S4096x1024 .f32) (t : Fin grid0.N) (r : Fin 256) (k : Fin 1024) : (win0_0.blk t).view.read (Elt Ideal) X (ix2 r k) = X (ix2 (row (grid0.coords t 0) r) k) := congrArg X (emb0 t r k)
/-- What a point reads of the activations. -/
theorem blk0 (c : Dev nD) (t : Fin grid0.N) (r : Fin 256) (k : Fin 1024) : iblk m c 0 t (ix2 r k) = A0 m c (ix2 (row (grid0.coords t 0) r) k) := read0 (A0 m c) t r k
/-- Where the block of the scale lies. -/
theorem emb1 (t : Fin grid0.N) (k : Fin 1024) : (win0_1.blk t).view.emb (ix2 0 k) = (ix2 0 k) := by
  blk_ext [idx1 t, row, hrow]
/-- What the block of the scale reads. -/
theorem read1 (X : Vec Ideal S1x1024 .f32) (t : Fin grid0.N) (k : Fin 1024) : (win0_1.blk t).view.read (Elt Ideal) X (ix2 0 k) = X (ix2 0 k) := congrArg X (emb1 t k)
/-- What a point reads of the scale. -/
theorem blk1 (c : Dev nD) (t : Fin grid0.N) (k : Fin 1024) : iblk m c 1 t (ix2 0 k) = A1 m c (ix2 0 k) := read1 (A1 m c) t k
/-- Where the block of the convolution's derivative lies. -/
theorem emb2 (t : Fin grid0.N) (r : Fin 256) (f : Fin 2816) : (win0_2.blk t).view.emb (ix2 r f) = (ix2 (row (grid0.coords t 0) r) f) := by
  blk_ext [idx2 t, row, hrow]
/-- What the block of the convolution's derivative reads. -/
theorem read2 (X : Vec Ideal S4096x2816 .f32) (t : Fin grid0.N) (r : Fin 256) (f : Fin 2816) : (win0_2.blk t).view.read (Elt Ideal) X (ix2 r f) = X (ix2 (row (grid0.coords t 0) r) f) := congrArg X (emb2 t r f)
/-- What a point reads of the convolution's derivative. -/
theorem blk2 (c : Dev nD) (t : Fin grid0.N) (r : Fin 256) (f : Fin 2816) : iblk m c 2 t (ix2 r f) = A2 m c (ix2 (row (grid0.coords t 0) r) f) := read2 (A2 m c) t r f
/-- Where the block of the rows after the tile lies. -/
theorem emb3 (t : Fin grid0.N) (q : Fin 8) (f : Fin 2816) : (win0_3.blk t).view.emb (ix2 q f) = (ix2 (hrow (grid0.coords t 0) q) f) := by
  blk_ext [idx3 t, row, hrow]
/-- What the block of the rows after the tile reads. -/
theorem read3 (X : Vec Ideal S4096x2816 .f32) (t : Fin grid0.N) (q : Fin 8) (f : Fin 2816) : (win0_3.blk t).view.read (Elt Ideal) X (ix2 q f) = X (ix2 (hrow (grid0.coords t 0) q) f) := congrArg X (emb3 t q f)
/-- What a point reads of the rows after the tile. -/
theorem blk3 (c : Dev nD) (t : Fin grid0.N) (q : Fin 8) (f : Fin 2816) : iblk m c 3 t (ix2 q f) = A2 m c (ix2 (hrow (grid0.coords t 0) q) f) := read3 (A2 m c) t q f
/-- Where the block of the up derivative lies. -/
theorem emb4 (t : Fin grid0.N) (r : Fin 256) (f : Fin 2816) : (win0_4.blk t).view.emb (ix2 r f) = (ix2 (row (grid0.coords t 0) r) f) := by
  blk_ext [idx4 t, row, hrow]
/-- What the block of the up derivative reads. -/
theorem read4 (X : Vec Ideal S4096x2816 .bf16) (t : Fin grid0.N) (r : Fin 256) (f : Fin 2816) : (win0_4.blk t).view.read (Elt Ideal) X (ix2 r f) = X (ix2 (row (grid0.coords t 0) r) f) := congrArg X (emb4 t r f)
/-- What a point reads of the up derivative. -/
theorem blk4 (c : Dev nD) (t : Fin grid0.N) (r : Fin 256) (f : Fin 2816) : iblk m c 4 t (ix2 r f) = A4 m c (ix2 (row (grid0.coords t 0) r) f) := read4 (A4 m c) t r f
/-- Where the block of the residual derivative lies. -/
theorem emb5 (t : Fin grid0.N) (r : Fin 256) (k : Fin 1024) : (win0_5.blk t).view.emb (ix2 r k) = (ix2 (row (grid0.coords t 0) r) k) := by
  blk_ext [idx5 t, row, hrow]
/-- What the block of the residual derivative reads. -/
theorem read5 (X : Vec Ideal S4096x1024 .f32) (t : Fin grid0.N) (r : Fin 256) (k : Fin 1024) : (win0_5.blk t).view.read (Elt Ideal) X (ix2 r k) = X (ix2 (row (grid0.coords t 0) r) k) := congrArg X (emb5 t r k)
/-- What a point reads of the residual derivative. -/
theorem blk5 (c : Dev nD) (t : Fin grid0.N) (r : Fin 256) (k : Fin 1024) : iblk m c 5 t (ix2 r k) = A5 m c (ix2 (row (grid0.coords t 0) r) k) := read5 (A5 m c) t r k
/-- Where the block of the convolution's weights lies. -/
theorem emb6 (t : Fin grid0.N) (q : Fin 3) (f : Fin 2816) : (win0_6.blk t).view.emb (ix2 q f) = (ix2 q f) := by
  blk_ext [idx6 t, row, hrow]
/-- What the block of the convolution's weights reads. -/
theorem read6 (X : Vec Ideal S3x2816 .f32) (t : Fin grid0.N) (q : Fin 3) (f : Fin 2816) : (win0_6.blk t).view.read (Elt Ideal) X (ix2 q f) = X (ix2 q f) := congrArg X (emb6 t q f)
/-- What a point reads of the convolution's weights. -/
theorem blk6 (c : Dev nD) (t : Fin grid0.N) (q : Fin 3) (f : Fin 2816) : iblk m c 6 t (ix2 q f) = A6 m c (ix2 q f) := read6 (A6 m c) t q f
/-- Where the block of the gate weight lies. -/
theorem emb7 (t : Fin grid0.N) (f : Fin 2816) (k : Fin 1024) : (win0_7.blk t).view.emb (ix2 f k) = (ix2 f k) := by
  blk_ext [idx7 t, row, hrow]
/-- What the block of the gate weight reads. -/
theorem read7 (X : Vec Ideal S2816x1024 .bf16) (t : Fin grid0.N) (f : Fin 2816) (k : Fin 1024) : (win0_7.blk t).view.read (Elt Ideal) X (ix2 f k) = X (ix2 f k) := congrArg X (emb7 t f k)
/-- What a point reads of the gate weight. -/
theorem blk7 (c : Dev nD) (t : Fin grid0.N) (f : Fin 2816) (k : Fin 1024) : iblk m c 7 t (ix2 f k) = A7 m c (ix2 f k) := read7 (A7 m c) t f k
/-- Where the block of the up weight lies. -/
theorem emb8 (t : Fin grid0.N) (f : Fin 2816) (k : Fin 1024) : (win0_8.blk t).view.emb (ix2 f k) = (ix2 f k) := by
  blk_ext [idx8 t, row, hrow]
/-- What the block of the up weight reads. -/
theorem read8 (X : Vec Ideal S2816x1024 .bf16) (t : Fin grid0.N) (f : Fin 2816) (k : Fin 1024) : (win0_8.blk t).view.read (Elt Ideal) X (ix2 f k) = X (ix2 f k) := congrArg X (emb8 t f k)
/-- What a point reads of the up weight. -/
theorem blk8 (c : Dev nD) (t : Fin grid0.N) (f : Fin 2816) (k : Fin 1024) : iblk m c 8 t (ix2 f k) = A8 m c (ix2 f k) := read8 (A8 m c) t f k
/-- Where the block of the first output lies. -/
theorem emb9 (t : Fin grid0.N) (r : Fin 256) (k : Fin 1024) : (win0_9.blk t).view.emb (ix2 r k) = (ix2 (row (grid0.coords t 0) r) k) := by
  blk_ext [idx9 t, row, hrow]
/-- Where the block of the second output lies. -/
theorem emb10 (t : Fin grid0.N) (r : Fin 256) (f : Fin 2816) : (win0_10.blk t).view.emb (ix2 r f) = (ix2 (row (grid0.coords t 0) r) f) := by
  blk_ext [idx10 t, row, hrow]
/-- Where the block of the third output lies. -/
theorem emb11 (t : Fin grid0.N) (k : Fin 1024) : (win0_11.blk t).view.emb (ix2 0 k) = (ix2 0 k) := by
  blk_ext [idx11 t, row, hrow]

/-! ## The three output arrays, as functions of the entry arrays -/

section Closed
variable (H R : Vec Ideal S4096x1024 .f32) (N : Vec Ideal S1x1024 .f32) (D : Vec Ideal S4096x2816 .f32) (U : Vec Ideal S4096x2816 .bf16)
  (W : Vec Ideal S3x2816 .f32) (Wg Wu : Vec Ideal S2816x1024 .bf16)

/-- A feature some positions later in the same sequence: nothing after its end. -/
def ahead (o : Nat) (r : Fin 4096) (f : Fin 2816) : EReal := if h : r.val % 2048 + o < 2048 then D (ix2 ⟨r.val + o, by omega⟩ f) else 0
/-- Within the sequence it is read there. -/
theorem ahead_in (o : Nat) (r : Fin 4096) (f : Fin 2816) (h : r.val % 2048 + o < 2048) (r' : Fin 4096) (e : r'.val = r.val + o) :
    D (ix2 r' f) = ahead D o r f := by
  unfold ahead
  rw [dif_pos h]
  exact congrArg D (idx_eq2 (ix2 r' f) ⟨r.val + o, by omega⟩ f e rfl)
/-- After its end there is nothing. -/
theorem ahead_out (o : Nat) (r : Fin 4096) (f : Fin 2816) (h : ¬r.val % 2048 + o < 2048) : ahead D o r f = 0 := dif_neg h
/-- The derivative of the gate product: the causal convolution's transpose. -/
def dgA : Vec Ideal S4096x2816 .bf16 := fun i =>
  (W (ix2 2 (i 1)) * D (ix2 (i 0) (i 1)) + W (ix2 0 (i 1)) * ahead D 2 (i 0) (i 1) + W (ix2 1 (i 1)) * ahead D 1 (i 0) (i 1) : EReal)
/-- The derivative of the normalised activations. -/
def cot (r : Fin 4096) (k : Fin 1024) : EReal := (∑ f : Fin 2816, dgA D W (ix2 r f) * Wg (ix2 f k)) + ∑ f : Fin 2816, U (ix2 r f) * Wu (ix2 f k)
/-- The derivative of the activations. -/
def dhA : Vec Ideal S4096x1024 .f32 := fun i =>
  (back (fun k => H (ix2 (i 0) k)) (fun k => N (ix2 0 k)) (cot D U W Wg Wu (i 0)) (i 1) + R (ix2 (i 0) (i 1)) : EReal)
/-- The derivative of the scale. -/
def dnA : Vec Ideal S1x1024 .f32 := fun i =>
  (∑ r : Fin 4096, H (ix2 r (i 1)) * (rms fun k => H (ix2 r k)) * cot D U W Wg Wu r (i 1) : EReal)

end Closed

/-- The tile read some rows later is the array read some positions later. -/
theorem later_at (c : Dev nD) (t : Fin grid0.N) (o : Fin 9) (r : Fin 256) (f : Fin 2816) :
    later (iblk m c 2 t) (halo (iblk m c 3 t) t) o (ix2 r f) = ahead (A2 m c) o.val (row (grid0.coords t 0) r) f := by
  have hN := points t
  have ht := tile t
  by_cases h : o.val + r.val < 256
  · refine (tall_lo (iblk m c 2 t) (halo (iblk m c 3 t) t) ⟨o.val + r.val, h⟩ f).trans ((blk2 m c t ⟨o.val + r.val, h⟩ f).trans ?_)
    have hp : (row (grid0.coords t 0) r).val % 2048 + o.val < 2048 := by
      show (256 * (grid0.coords t 0).val + r.val) % 2048 + o.val < 2048
      omega
    refine ahead_in (A2 m c) o.val _ f hp _ ?_
    show 256 * (grid0.coords t 0).val + (o.val + r.val) = 256 * (grid0.coords t 0).val + r.val + o.val
    omega
  · have hq : o.val + r.val - 256 < 8 := by omega
    have e : later (iblk m c 2 t) (halo (iblk m c 3 t) t) o (ix2 r f) = halo (iblk m c 3 t) t (ix2 ⟨o.val + r.val - 256, hq⟩ f) := by
      refine Eq.trans (congrArg (tall (iblk m c 2 t) (halo (iblk m c 3 t) t)) (idx_eq2 _ _ _ ?_ rfl)) (tall_hi (iblk m c 2 t) (halo (iblk m c 3 t) t) ⟨o.val + r.val - 256, hq⟩ f)
      show o.val + r.val = 256 + (o.val + r.val - 256)
      omega
    refine e.trans ?_
    by_cases h7 : t.val % 8 = 7
    · have hp : ¬(row (grid0.coords t 0) r).val % 2048 + o.val < 2048 := by
        show ¬(256 * (grid0.coords t 0).val + r.val) % 2048 + o.val < 2048
        omega
      exact (if_pos h7).trans (ahead_out (A2 m c) o.val _ f hp).symm
    · have hp : (row (grid0.coords t 0) r).val % 2048 + o.val < 2048 := by
        show (256 * (grid0.coords t 0).val + r.val) % 2048 + o.val < 2048
        omega
      refine (if_neg h7).trans ((blk3 m c t ⟨o.val + r.val - 256, hq⟩ f).trans (ahead_in (A2 m c) o.val _ f hp _ ?_))
      show 8 * min (32 * ((grid0.coords t 0).val + 1)) 511 + (o.val + r.val - 256) = 256 * (grid0.coords t 0).val + r.val + o.val
      omega

/-- A point's derivative of the gate product: its block of the closed form. -/
theorem out10 (c : Dev nD) (t : Fin grid0.N) (r : Fin 256) (f : Fin 2816) :
    dgBlk m c t (ix2 r f) = dgA (A2 m c) (A6 m c) (ix2 (row (grid0.coords t 0) r) f) := by
  refine (dg_at (iblk m c 2 t) (by2 m c t) (by1 m c t) (iblk m c 6 t) r f).trans ?_
  have e2 := later_at m c t 2 r f
  have e1 := later_at m c t 1 r f
  rw [blk2, blk6, blk6, blk6, show by2 m c t (ix2 r f) = _ from e2, show by1 m c t (ix2 r f) = _ from e1]
  rfl
/-- A point's derivative of the normalised activations. -/
theorem cot_out (c : Dev nD) (t : Fin grid0.N) (r : Fin 256) (k : Fin 1024) :
    k0_pay13 (two m c t) (by1 m c t) (mid m c t) (iblk m c 7 t) (iblk m c 4 t) (iblk m c 8 t) (ix2 r k)
      = cot (A2 m c) (A4 m c) (A6 m c) (A7 m c) (A8 m c) (row (grid0.coords t 0) r) k := by
  refine (cot_at (by1 m c t) (iblk m c 4 t) (iblk m c 7 t) (iblk m c 8 t) (two m c t) (mid m c t) r k).trans ?_
  refine congrArg₂ (fun a b : EReal => a + b) (Finset.sum_congr rfl fun f _ => ?_) (Finset.sum_congr rfl fun f _ => ?_)
  · exact congrArg₂ (fun a b : EReal => a * b) (out10 m c t r f) (blk7 m c t f k)
  · exact congrArg₂ (fun a b : EReal => a * b) (blk4 m c t r f) (blk8 m c t f k)
/-- A point's derivative of the activations: its block of the closed form. -/
theorem out9 (c : Dev nD) (t : Fin grid0.N) (r : Fin 256) (k : Fin 1024) :
    dhBlk m c t (ix2 r k) = dhA (A0 m c) (A5 m c) (A1 m c) (A2 m c) (A4 m c) (A6 m c) (A7 m c) (A8 m c) (ix2 (row (grid0.coords t 0) r) k) := by
  refine (dh_at (iblk m c 0 t) (iblk m c 5 t) (iblk m c 1 t) (by1 m c t) (iblk m c 4 t) (iblk m c 7 t) (iblk m c 8 t) (two m c t) (mid m c t) r k).trans ?_
  simp only [blk0, blk1, blk5, cot_out]
  rfl
/-- A point's contribution to the derivative of the scale. -/
theorem part11 (c : Dev nD) (t : Fin grid0.N) (k : Fin 1024) : dnBlk m c t (ix2 0 k)
    = (∑ r : Fin 256, A0 m c (ix2 (row (grid0.coords t 0) r) k) * (rms fun k => A0 m c (ix2 (row (grid0.coords t 0) r) k))
        * cot (A2 m c) (A4 m c) (A6 m c) (A7 m c) (A8 m c) (row (grid0.coords t 0) r) k : EReal) := by
  refine (norm_part (iblk m c 0 t) (by1 m c t) (iblk m c 4 t) (iblk m c 7 t) (iblk m c 8 t) (two m c t) (mid m c t) k).trans ?_
  simp only [blk0, cot_out]

/-- A sum over tiles and rows of a tile is the sum over all rows. -/
theorem rows_sum (g : Fin 4096 → EReal) : (∑ i : Fin 16, ∑ r : Fin 256, g (row i r)) = ∑ r, g r := by
  have e := Fin.sum_mul_add_fin (M := EReal) (L := 4096) (f := g) (S := 16) (n := 256)
  refine Eq.trans ?_ e
  refine Finset.sum_congr rfl fun i _ => Finset.sum_congr rfl fun r _ => congrArg g (Fin.ext ?_)
  simp [row, Nat.mul_comm]
/-- The rows of the `s`-th point are those of tile `s`. -/
theorem run_tile (t : Fin grid0.N) (s : Fin 16) (hp : 16 * (t.val / 16) + s.val < grid0.N) (r : Fin 256) :
    row (grid0.coords ⟨16 * (t.val / 16) + s.val, hp⟩ 0) r = row s r := by
  have e := tile ⟨16 * (t.val / 16) + s.val, hp⟩
  have hN := points t
  refine Fin.ext ?_
  show 256 * (grid0.coords ⟨16 * (t.val / 16) + s.val, hp⟩ 0).val + r.val = 256 * s.val + r.val
  rw [e]
  show 256 * (16 * (t.val / 16) + s.val) + r.val = 256 * s.val + r.val
  omega

/-- What the last point writes of the derivative of the scale: the closed form. -/
theorem out11 (c : Dev nD) (t : Fin grid0.N) (h : t.val % 16 = 15) (k : Fin 1024) :
    (outsAt0 m c t.val t.isLt).2.2 (ix2 0 k) = dnA (A0 m c) (A2 m c) (A4 m c) (A6 m c) (A7 m c) (A8 m c) (ix2 0 k) := by
  have e := Pipeline.eq_sum_fin_of_reset_step_apply_of_flush (M := EReal) (fun n h (j : S1x1024.Idx) => ((outsAt0 m c n h).2.2 j : EReal)) 16 (fun _ => 0)
    (fun t j => (dnBlk m c t j : EReal))
    (fun t h j => by simp only [zero_add]; rw [after11_A m c t h])
    (fun t h j => by rw [after11_B m c t h, norm_next]) t h (ix2 0 k)
  refine Eq.trans (show _ = ((outsAt0 m c t.val t.isLt).2.2 (ix2 0 k) : EReal) from rfl) (e.trans ?_)
  rw [zero_add]
  refine Eq.trans ?_ (rows_sum fun r => (A0 m c (ix2 r k) * (rms fun k => A0 m c (ix2 r k)) * cot (A2 m c) (A4 m c) (A6 m c) (A7 m c) (A8 m c) r k : EReal))
  refine Finset.sum_congr rfl fun s _ => ?_
  rw [part11]
  refine Finset.sum_congr rfl fun r _ => ?_
  rw [run_tile]

/-- An index of the first output's block is the one of its coordinates. -/
theorem idxH (y : S256x1024.Idx) : y = ix2 (y 0) (y 1) := idx_eq2 y _ _ rfl rfl
/-- An index of the second output's block is the one of its coordinates. -/
theorem idxG (y : S256x2816.Idx) : y = ix2 (y 0) (y 1) := idx_eq2 y _ _ rfl rfl
/-- An index of the third output's block is the one of its coordinates. -/
theorem idxN (y : S1x1024.Idx) : y = ix2 0 (y 1) := idx_eq2 y _ _ (by have h : (y 0).val < 1 := (y 0).isLt; simpa using h) rfl

/-- The derivative of the activations after the last point. -/
theorem arr9 (c : Dev nD) : (dats m 0 c).arrAt 9 cfg0.N = dhA (A0 m c) (A5 m c) (A1 m c) (A2 m c) (A4 m c) (A6 m c) (A7 m c) (A8 m c) := by
  refine (dats m 0 c).arrAt_eq_of_covers 9 _ (by decide +kernel) fun t hf y => ?_
  blk_simp
  rw [after0_9, after9]
  have hy := idxH y
  refine (congrArg (dhBlk m c t) hy).trans ((out9 m c t _ _).trans ?_)
  exact congrArg (dhA (A0 m c) (A5 m c) (A1 m c) (A2 m c) (A4 m c) (A6 m c) (A7 m c) (A8 m c)) (((congrArg (win0_9.blk t).view.emb hy)).trans (emb9 t _ _)).symm
/-- The derivative of the gate product after the last point. -/
theorem arr10 (c : Dev nD) : (dats m 0 c).arrAt 10 cfg0.N = dgA (A2 m c) (A6 m c) := by
  refine (dats m 0 c).arrAt_eq_of_covers 10 _ (by decide +kernel) fun t hf y => ?_
  blk_simp
  rw [after0_10, after10]
  have hy := idxG y
  refine (congrArg (dgBlk m c t) hy).trans ((out10 m c t _ _).trans ?_)
  exact congrArg (dgA (A2 m c) (A6 m c)) (((congrArg (win0_10.blk t).view.emb hy)).trans (emb10 t _ _)).symm
/-- The derivative of the scale after the last point. -/
theorem arr11 (c : Dev nD) : (dats m 0 c).arrAt 11 cfg0.N = dnA (A0 m c) (A2 m c) (A4 m c) (A6 m c) (A7 m c) (A8 m c) := by
  refine (dats m 0 c).arrAt_eq_of_covers 11 _ (by decide +kernel) fun t hf y => ?_
  blk_simp
  rw [after0_11]
  have hy := idxN y
  refine (congrArg (outsAt0 m c t.val t.isLt).2.2 hy).trans ((out11 m c t ((flush0_11 t).mp hf) _).trans ?_)
  exact congrArg (dnA (A0 m c) (A2 m c) (A4 m c) (A6 m c) (A7 m c) (A8 m c)) (((congrArg (win0_11.blk t).view.emb hy)).trans (emb11 t _)).symm

/-! ## The entry arrays, as functions of the arguments -/

/-- The flattened activations at a row. -/
theorem entry0 (c : Dev nD) (r : Fin 4096) (k : Fin 1024) :
    A0 m c (ix2 r k) = m ((c.tc : Thread nD τ).loc main_arg0) (ix3 (bat r) (pos r) k) := by
  show Gen.V m c main_v0 _ = _
  entry_read
  pointwise
  rfl
/-- The scale. -/
theorem entry1 (c : Dev nD) (k : Fin 1024) : A1 m c (ix2 0 k) = m ((c.tc : Thread nD τ).loc main_arg1) (ix1 k) := by
  show Gen.V m c main_v1 _ = _
  entry_read
  pointwise
/-- The flattened derivative of the convolution at a row. -/
theorem entry2 (c : Dev nD) (r : Fin 4096) (f : Fin 2816) :
    A2 m c (ix2 r f) = m ((c.tc : Thread nD τ).loc main_arg5) (ix3 (bat r) (pos r) f) := by
  show Gen.V m c main_v2 _ = _
  entry_read
  pointwise
  rfl
/-- The flattened up derivative at a row. -/
theorem entry4 (c : Dev nD) (r : Fin 4096) (f : Fin 2816) :
    A4 m c (ix2 r f) = m ((c.tc : Thread nD τ).loc main_arg6) (ix3 (bat r) (pos r) f) := by
  show Gen.V m c main_v4 _ = _
  entry_read
  pointwise
  rfl
/-- The flattened residual derivative at a row. -/
theorem entry5 (c : Dev nD) (r : Fin 4096) (k : Fin 1024) :
    A5 m c (ix2 r k) = m ((c.tc : Thread nD τ).loc main_arg7) (ix3 (bat r) (pos r) k) := by
  show Gen.V m c main_v5 _ = _
  entry_read
  pointwise
  rfl
/-- The convolution's weights. -/
theorem entry6 (c : Dev nD) (q : Fin 3) (f : Fin 2816) : A6 m c (ix2 q f) = m ((c.tc : Thread nD τ).loc main_arg4) (ix2 q f) :=
  congrFun (V_main_arg4 m c) (ix2 q f)
/-- The transposed gate weight. -/
theorem entry7 (c : Dev nD) (f : Fin 2816) (k : Fin 1024) : A7 m c (ix2 f k) = m ((c.tc : Thread nD τ).loc main_arg2) (ix2 k f) := by
  show Gen.V m c main_v7 _ = _
  entry_read
  pointwise
/-- The transposed up weight. -/
theorem entry8 (c : Dev nD) (f : Fin 2816) (k : Fin 1024) : A8 m c (ix2 f k) = m ((c.tc : Thread nD τ).loc main_arg3) (ix2 k f) := by
  show Gen.V m c main_v9 _ = _
  entry_read
  pointwise

end Cert.DgradIdeal.Arr
-- ==== Proof.DgradClaim.lean ====
module

public import proofs.«01_k».proof.Defs
public import proofs.«01_k».proof.Proof.DgradArr
public import proofs.«01_k».proof.Proof.Gen.DgradRefIdeal.Read
public import Idealize.ShloMosaic.Lib.KernelVsHost

@[expose] public section
set_option maxRecDepth 16384
noncomputable section
namespace Cert.DgradRefIdeal.Ref
open Idealize.ShloMosaic Idealize.ShloMosaic.Tactic Cert.DgradRefIdeal Cert.DgradRefIdeal.Gen Cert.DgradRefIdeal.Read Cert.Ffn

/-! ## The reference's derivatives, read at a row and a channel -/

variable (x0 x7 : (⟨S2x2048x1024, .f32⟩ : BufTy).Contents (Elt Ideal)) (x1 : (⟨S1024, .f32⟩ : BufTy).Contents (Elt Ideal))
  (x2 x3 : (⟨S1024x2816, .f32⟩ : BufTy).Contents (Elt Ideal))
  (x4 : (⟨S3x2816, .f32⟩ : BufTy).Contents (Elt Ideal)) (x5 x6 : (⟨S2x2048x2816, .f32⟩ : BufTy).Contents (Elt Ideal))

/-- The convolution's last row of weights, spread over the positions. -/
theorem last_at (b : Fin 2) (s : Fin 2048) (f : Fin 2816) : val_main_v48 (F := Ideal) x4 (ix3 b s f) = x4 (ix2 2 f) := by
  unfold val_main_v48 val_main_v37 val_main_v36 val_main_v35
  pointwise
/-- The convolution's middle row of weights, spread over the positions. -/
theorem middle_at (b : Fin 2) (s : Fin 2048) (f : Fin 2816) : val_main_v51 (F := Ideal) x4 (ix3 b s f) = x4 (ix2 1 f) := by
  unfold val_main_v51 val_main_v30 val_main_v29 val_main_v28
  pointwise
/-- The convolution's first row of weights, spread over the positions. -/
theorem first_at (b : Fin 2) (s : Fin 2048) (f : Fin 2816) : val_main_v55 (F := Ideal) x4 (ix3 b s f) = x4 (ix2 0 f) := by
  unfold val_main_v55 val_main_v24 val_main_v23 val_main_v22
  pointwise
/-- Reshaping to the same shape changes nothing. -/
theorem same_at (b : Fin 2) (s : Fin 2048) (f : Fin 2816) : val_main_v46 (F := Ideal) x5 (ix3 b s f) = x5 (ix3 b s f) := by
  unfold val_main_v46
  pointwise

/-- The transposed convolution, as the sum of three shifted arrays. -/
theorem shifts (P Q R : (⟨S2x2048x2816, .f32⟩ : BufTy).Contents (Elt Ideal)) (z z' z'' : (⟨S_, .f32⟩ : BufTy).Contents (Elt Ideal)) (b : Fin 2) (s : Fin 2048) (f : Fin 2816) :
    (extractStridedSlice S2x2048x2816 ![0, 2, 0] (addf (addf
      (pad S2x2050x2816 ![0, 2, 0] ![0, 0, 0] ![0, 0, 0] (P : FVec Ideal S2x2048x2816 .f32) (z : FVec Ideal S_ .f32) pads_S2x2048x2816_S2x2050x2816_000_200_000 h_S_)
      (pad S2x2050x2816 ![0, 1, 0] ![0, 1, 0] ![0, 0, 0] (Q : FVec Ideal S2x2048x2816 .f32) (z' : FVec Ideal S_ .f32) pads_S2x2048x2816_S2x2050x2816_000_110_000 h_S_))
      (pad S2x2050x2816 ![0, 0, 0] ![0, 2, 0] ![0, 0, 0] (R : FVec Ideal S2x2048x2816 .f32) (z'' : FVec Ideal S_ .f32) pads_S2x2048x2816_S2x2050x2816_000_020_000 h_S_) : FVec Ideal S2x2050x2816 .f32)
      slices_S2x2050x2816_S2x2048x2816_0_2_0 : FVec Ideal S2x2048x2816 .f32) (ix3 b s f)
    = (P (ix3 b s f) + (if h : s.val + 1 < 2048 then Q (ix3 b ⟨s.val + 1, h⟩ f) else z' (Shape.Idx.first h_S_))
        + (if h : s.val + 2 < 2048 then R (ix3 b ⟨s.val + 2, h⟩ f) else z'' (Shape.Idx.first h_S_)) : EReal) := by
  pointwise
  congr 1
  · congr 1
    by_cases h : s.val + 1 < 2048
    · rw [dif_pos ⟨by omega, by omega⟩, dif_pos h]
      exact congrArg Q (idx_eq3 _ _ _ _ rfl (by show 2 + s.val - 1 = s.val + 1; omega) rfl)
    · rw [dif_neg (by omega), dif_neg h]
  · by_cases h : s.val + 2 < 2048
    · rw [dif_pos (by omega), dif_pos h]
      exact congrArg R (idx_eq3 _ _ _ _ rfl (by show 2 + s.val = s.val + 2; omega) rfl)
    · rw [dif_neg (by omega), dif_neg h]

/-- The reference's transposed convolution at a position. -/
theorem conv_at (b : Fin 2) (s : Fin 2048) (f : Fin 2816) : val_main_v60 (F := Ideal) x4 x5 (ix3 b s f)
    = (x5 (ix3 b s f) * x4 (ix2 2 f) + (if h : s.val + 1 < 2048 then x5 (ix3 b ⟨s.val + 1, h⟩ f) * x4 (ix2 1 f) else 0)
        + (if h : s.val + 2 < 2048 then x5 (ix3 b ⟨s.val + 2, h⟩ f) * x4 (ix2 0 f) else 0) : EReal) := by
  unfold val_main_v60 val_main_v58 val_main_v54 val_main_v50 val_main_v53 val_main_v57
  refine (shifts _ _ _ _ _ _ b s f).trans ?_
  have e : ∀ s', val_main_v47 (F := Ideal) x5 (ix3 b s' f) = x5 (ix3 b s' f) := fun s' => same_at x5 b s' f
  simp only [val_main_v49_apply, val_main_v52_apply, val_main_v56_apply, last_at, middle_at, first_at, same_at, e,
    val_main_cst_6_apply, val_main_cst_7_apply, val_main_cst_8_apply]
  rw [show (FloatOps.ofBits (F := Ideal) .f32 0x00000000#32 : EReal) = 0 from Ideal.ofBits_zero_f32]
  rfl

/-- Which indices a sum over the first two axes of three gathers. -/
theorem fiber {n0 n1 n2 : Nat} (h : (⟨3, ![n0, n1, n2]⟩ : Shape).ReducesTo [0, 1] ⟨1, ![n2]⟩) (k : Fin n2) (i : (⟨3, ![n0, n1, n2]⟩ : Shape).Idx) :
    h.drop i = ix1 k ↔ ∃ p : Fin n0 × Fin n1, ix3 p.1 p.2 k = i := by
  constructor
  · intro e
    refine ⟨(i 0, i 1), ?_⟩
    exact (idx_eq3 i _ _ _ rfl rfl (congrArg Fin.val (congrFun e 0))).symm
  · rintro ⟨p, rfl⟩
    exact idx_eq1 _ _ rfl
/-- A sum over the first two axes of three. -/
theorem both {n0 n1 n2 : Nat} (h : (⟨3, ![n0, n1, n2]⟩ : Shape).ReducesTo [0, 1] ⟨1, ![n2]⟩) (X : FVec Ideal ⟨3, ![n0, n1, n2]⟩ .f32) (z : FVec Ideal S_ .f32) (k : Fin n2) :
    (Host.reduceAdd (F := Ideal) X z h h_S_ : FVec Ideal ⟨1, ![n2]⟩ .f32) (ix1 k)
      = (z (Shape.Idx.first h_S_) + ∑ b : Fin n0, ∑ s : Fin n1, X (ix3 b s k) : EReal) := by
  show Ideal.hostReduceAdd h X (z (Shape.Idx.first h_S_)) (ix1 k) = _
  unfold Ideal.hostReduceAdd
  refine congrArg (z (Shape.Idx.first h_S_) + ·) ?_
  refine (Finset.sum_filter_eq_sum_of_fiber _ (fun p : Fin n0 × Fin n1 => ix3 p.1 p.2 k) ?_ (fiber h k) X).trans ?_
  · intro p q e
    exact Prod.ext (congrFun e 0) (congrFun e 1)
  · exact Fintype.sum_prod_type (fun p : Fin n0 × Fin n1 => X (ix3 p.1 p.2 k))

/-- The reference's mean square of a row. -/
theorem msq_at (b : Fin 2) (s : Fin 2048) : val_main_v7 (F := Ideal) x0 (ix3 b s 0) = (msq fun k => x0 (ix3 b s k) : EReal) := by
  rw [val_main_v7_apply, val_main_v5_apply, val_main_v3_apply, val_main_v2_apply, val_main_v4_apply, val_main_v6_apply]
  simp only [val_main_v1_apply, val_main_cst_apply, val_main_cst_0_apply, val_main_cst_1_apply,val_main_cst_2_apply,
    show ∀ q, idx_main_v2 (idx_main_v3 (ix3 b s 0)) q = ix3 b s q from fun q => idx_eq3 _ _ _ _ rfl rfl rfl]
  rw [show (FloatOps.ofBits (F := Ideal) .f32 0x00000000#32 : EReal) = 0 from Ideal.ofBits_zero_f32]
  exact congrArg (fun z : EReal => Ideal.div z (Ideal.ofBits .f32 1149239296#32) + Ideal.ofBits .f32 897988541#32) (zero_add _)
/-- The reference's reciprocal root of a row's mean square. -/
theorem rms_at (b : Fin 2) (s : Fin 2048) : val_main_v8 (F := Ideal) x0 (ix3 b s 0) = (rms fun k => x0 (ix3 b s k) : EReal) := by
  rw [val_main_v8_apply, msq_at]
  rfl
/-- The reference's derivative of the reciprocal root. -/
theorem half_at (b : Fin 2) (s : Fin 2048) : val_main_v11 (F := Ideal) x0 (ix3 b s 0)
    = (Ideal.ofBits .f32 3204448256#32 * Ideal.div (rms fun k => x0 (ix3 b s k)) (msq fun k => x0 (ix3 b s k)) : EReal) := by
  rw [val_main_v11_apply, val_main_v10_apply, val_main_v9_apply, rms_at, msq_at]
  simp only [val_main_cst_3_apply]
  rfl

/-- The reference's derivative of the normalised activations. -/
theorem cot_at (b : Fin 2) (s : Fin 2048) (k : Fin 1024) : val_main_v62 (F := Ideal) x2 x3 x4 x5 x6 (ix3 b s k)
    = ((∑ f : Fin 2816, x6 (ix3 b s f) * x3 (ix2 k f)) + ∑ f : Fin 2816, val_main_v60 (F := Ideal) x4 x5 (ix3 b s f) * x2 (ix2 k f) : EReal) := by
  rw [val_main_v62_apply, val_main_v45_apply, val_main_v61_apply]
  simp only [show ∀ f, lidx_main_v45 (ix3 b s k) f = ix3 b s f from fun f => idx_eq3 _ _ _ _ rfl rfl rfl,
    show ∀ f, ridx_main_v45 (ix3 b s k) f = ix2 k f from fun f => idx_eq2 _ _ _ rfl rfl,
    show ∀ f, lidx_main_v61 (ix3 b s k) f = ix3 b s f from fun f => idx_eq3 _ _ _ _ rfl rfl rfl,
    show ∀ f, ridx_main_v61 (ix3 b s k) f = ix2 k f from fun f => idx_eq2 _ _ _ rfl rfl]
  rfl

/-- The normalised row before its scale, times its derivative. -/
theorem part_at (b : Fin 2) (s : Fin 2048) (k : Fin 1024) : val_main_v63 (F := Ideal) x0 x2 x3 x4 x5 x6 (ix3 b s k)
    = (x0 (ix3 b s k) * (rms fun q => x0 (ix3 b s q)) * val_main_v62 (F := Ideal) x2 x3 x4 x5 x6 (ix3 b s k) : EReal) := by
  rw [val_main_v63_apply, val_main_v13_apply, val_main_v12_apply, show idx_main_v12 (ix3 b s k) = ix3 b s 0 from idx_eq3 _ _ _ _ rfl rfl rfl, rms_at]
  rfl
/-- The reference's gradient of the normalisation's scale. -/
theorem norm_at (k : Fin 1024) : val_main_v128 (F := Ideal) x0 x2 x3 x4 x5 x6 (ix2 0 k)
    = (∑ b : Fin 2, ∑ s : Fin 2048, x0 (ix3 b s k) * (rms fun q => x0 (ix3 b s q)) * val_main_v62 (F := Ideal) x2 x3 x4 x5 x6 (ix3 b s k) : EReal) := by
  rw [val_main_v128_apply, show idx_main_v128 (ix2 0 k) = ix1 k from idx_eq1 _ _ rfl]
  unfold val_main_v68
  refine (both _ _ _ k).trans ?_
  rw [Fin.sum_univ_one, Fin.sum_univ_one, val_main_v65_apply, show idx_main_v65 (ix3 0 0 k) = ix1 k from idx_eq1 _ _ (by simp)]
  unfold val_main_v64
  rw [both]
  simp only [val_main_cst_9_apply, val_main_cst_10_apply, part_at]
  rw [show (FloatOps.ofBits (F := Ideal) .f32 0x00000000#32 : EReal) = 0 from Ideal.ofBits_zero_f32, zero_add, zero_add]

/-- The derivative times the normalisation's scale. -/
theorem scaled_at (b : Fin 2) (s : Fin 2048) (k : Fin 1024) : val_main_v67 (F := Ideal) x1 x2 x3 x4 x5 x6 (ix3 b s k)
    = (val_main_v62 (F := Ideal) x2 x3 x4 x5 x6 (ix3 b s k) * x1 (ix1 k) : EReal) := by
  rw [val_main_v67_apply, val_main_v66_apply, val_main_v14_apply, show idx_main_v14 (idx_main_v66 (ix3 b s k)) = ix1 k from idx_eq1 _ _ rfl]
  rfl
/-- What every entry of a row receives through the row's mean square. -/
theorem share_at (b : Fin 2) (s : Fin 2048) (k : Fin 1024) : val_main_v79 (F := Ideal) x0 x1 x2 x3 x4 x5 x6 (ix3 b s k)
    = (share (fun q => x0 (ix3 b s q)) (fun q => x1 (ix1 q)) (fun q => val_main_v62 (F := Ideal) x2 x3 x4 x5 x6 (ix3 b s q)) : EReal) := by
  rw [val_main_v79_apply, val_main_v78_apply, Fin.sum_univ_one, val_main_v77_apply, val_main_v75_apply, val_main_v76_apply, val_main_v71_apply, val_main_v70_apply,
    show idx_main_v78 (idx_main_v79 (ix3 b s k)) 0 = ix3 b s 0 from idx_eq3 _ _ _ _ rfl rfl rfl,
    show idx_main_v71 (ix3 b s 0) = ix2 b s from idx_eq2 _ _ _ (by simp <;> omega) (by simp <;> omega), half_at]
  simp only [val_main_cst_11_apply, val_main_cst_12_apply, val_main_cst_13_apply, val_main_v69_apply,
    show ∀ q, idx_main_v70 (ix2 b s) q = ix3 b s q from fun q => idx_eq3 _ _ _ _ rfl rfl rfl, scaled_at]
  rw [show (FloatOps.ofBits (F := Ideal) .f32 0x00000000#32 : EReal) = 0 from Ideal.ofBits_zero_f32, zero_add, zero_add]
  rfl
/-- The reference's gradient of the hidden state. -/
theorem dh_at (b : Fin 2) (s : Fin 2048) (k : Fin 1024) : val_main_v83 (F := Ideal) x0 x1 x2 x3 x4 x5 x6 x7 (ix3 b s k)
    = (back (fun q => x0 (ix3 b s q)) (fun q => x1 (ix1 q)) (fun q => val_main_v62 (F := Ideal) x2 x3 x4 x5 x6 (ix3 b s q)) k + x7 (ix3 b s k) : EReal) := by
  rw [val_main_v83_apply, val_main_v81_apply, val_main_v82_apply, val_main_v80_apply, val_main_v74_apply, val_main_v73_apply, val_main_v72_apply,
    share_at, scaled_at, show idx_main_v72 (ix3 b s k) = ix3 b s 0 from idx_eq3 _ _ _ _ rfl rfl rfl, rms_at]
  unfold back
  rw [add_comm _ (x7 (ix3 b s k) : EReal)]
  show (_ + _ + _ + _ : EReal) = _
  rw [add_assoc, add_assoc, add_assoc]
  rfl

/-- A sum over all rows is a sum over batches and positions. -/
theorem rows_sum (g : Fin 2 → Fin 2048 → EReal) : (∑ r : Fin 4096, g (bat r) (pos r)) = ∑ b, ∑ s, g b s :=
  Fin.sum_divmod_congr (S := 2048) fun _ _ _ => rfl

end Cert.DgradRefIdeal.Ref

namespace Cert.DgradEq
open Idealize.ShloMosaic Idealize.SL.Sem Idealize.ShloMosaic.TcCoe Idealize.ShloMosaic.Tactic Cert.DgradIdeal Cert.DgradIdeal.Gen Cert.Ffn

/-! ## The value claim of the feed-forward layer's activation gradients -/

section Tie
variable (m : (ℓ : Loc nD τ sig) → Buf (Elt Ideal) ℓ) (c : Dev nD)

/-- An entry some rows later within its batch, or zero. -/
theorem ahead_eq (o : Nat) (r : Fin 4096) (f : Fin 2816) : Arr.ahead (Arr.A2 m c) o r f
    = (if h : (pos r).val + o < 2048 then m ((c.tc : Thread nD τ).loc main_arg5) (ix3 (bat r) ⟨(pos r).val + o, h⟩ f) else 0 : EReal) := by
  by_cases h : r.val % 2048 + o < 2048
  · refine Eq.trans ?_ (dif_pos (show (pos r).val + o < 2048 from h)).symm
    refine (Arr.ahead_in (Arr.A2 m c) o r f h ⟨r.val + o, by omega⟩ rfl).symm.trans ?_
    refine (Arr.entry2 m c _ f).trans ?_
    exact congrArg (m ((c.tc : Thread nD τ).loc main_arg5)) (idx_eq3 _ _ _ _
      (by show (r.val + o) / 2048 = r.val / 2048; omega) (by show (r.val + o) % 2048 = r.val % 2048 + o; omega) rfl)
  · rw [dif_neg (show ¬(pos r).val + o < 2048 from h)]
    exact Arr.ahead_out _ o r f h

/-- The kernel's gate derivative is the reference's. -/
theorem dg_eq (r : Fin 4096) (f : Fin 2816) : Arr.dgA (Arr.A2 m c) (Arr.A6 m c) (ix2 r f)
    = Cert.DgradRefIdeal.Read.val_main_v60 (F := Ideal) (m ((c.tc : Thread nD τ).loc main_arg4)) (m ((c.tc : Thread nD τ).loc main_arg5)) (ix3 (bat r) (pos r) f) := by
  refine Eq.trans ?_ (Cert.DgradRefIdeal.Ref.conv_at _ _ _ _ _).symm
  show (Arr.A6 m c (ix2 2 f) * Arr.A2 m c (ix2 r f) + Arr.A6 m c (ix2 0 f) * Arr.ahead (Arr.A2 m c) 2 r f
    + Arr.A6 m c (ix2 1 f) * Arr.ahead (Arr.A2 m c) 1 r f : EReal) = _
  rw [add_right_comm, Arr.entry2, Arr.entry6, Arr.entry6, Arr.entry6, ahead_eq, ahead_eq]
  refine congrArg₂ (fun a b : EReal => a + b) (congrArg₂ (fun a b : EReal => a + b) (mul_comm _ _) ?_) ?_
  · split
    · exact mul_comm _ _
    · exact mul_zero _
  · split
    · exact mul_comm _ _
    · exact mul_zero _

/-- The kernel's derivative of the normalised activations is the reference's. -/
theorem cot_eq (r : Fin 4096) (k : Fin 1024) : Arr.cot (Arr.A2 m c) (Arr.A4 m c) (Arr.A6 m c) (Arr.A7 m c) (Arr.A8 m c) r k
    = Cert.DgradRefIdeal.Read.val_main_v62 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 (bat r) (pos r) k) := by
  refine Eq.trans ?_ (Cert.DgradRefIdeal.Ref.cot_at _ _ _ _ _ _ _ _).symm
  unfold Arr.cot
  rw [add_comm]
  refine congrArg₂ (fun a b : EReal => a + b) (Finset.sum_congr rfl fun f _ => ?_) (Finset.sum_congr rfl fun f _ => ?_)
  · exact congrArg₂ (fun a b : EReal => a * b) (Arr.entry4 m c r f) (Arr.entry8 m c f k)
  · exact congrArg₂ (fun a b : EReal => a * b) (dg_eq m c r f) (Arr.entry7 m c f k)

/-- The kernel's gradient of the hidden state is the reference's. -/
theorem result9 : (dats m 0 c).arrAt 9 cfg0.N = Cert.DgradRefIdeal.Read.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (Arr.arr9 m c).trans ?_
  funext i
  obtain ⟨r, k, rfl⟩ : ∃ (r : Fin 4096) (k : Fin 1024), i = ix2 r k := ⟨i 0, i 1, idx_eq2 i _ _ rfl rfl⟩
  rw [Cert.DgradRefIdeal.Read.val_main_v125_apply, show Cert.DgradRefIdeal.Read.idx_main_v125 (ix2 r k) = ix3 (bat r) (pos r) k from
    idx_eq3 _ _ _ _ (by simp [bat]; omega) (by simp [pos]; omega) (by simp <;> omega)]
  refine Eq.trans ?_ (Cert.DgradRefIdeal.Ref.dh_at _ _ _ _ _ _ _ _ _ _ _).symm
  show (back (fun q => Arr.A0 m c (ix2 r q)) (fun q => Arr.A1 m c (ix2 0 q)) (Arr.cot (Arr.A2 m c) (Arr.A4 m c) (Arr.A6 m c) (Arr.A7 m c) (Arr.A8 m c) r) k
    + Arr.A5 m c (ix2 r k) : EReal) = _
  refine congrArg₂ (fun a b : EReal => a + b) ?_ (Arr.entry5 m c r k)
  exact congrFun (congr (congrArg₂ back (funext fun q => Arr.entry0 m c r q) (funext fun q => Arr.entry1 m c q)) (funext fun q => cot_eq m c r q)) k

/-- The kernel's stored gate derivative is the reference's. -/
theorem result10 : (dats m 0 c).arrAt 10 cfg0.N = Cert.DgradRefIdeal.Read.val_main_v127 (F := Ideal) (m ((c.tc : Thread nD τ).loc main_arg4)) (m ((c.tc : Thread nD τ).loc main_arg5)) := by
  refine (Arr.arr10 m c).trans ?_
  funext i
  obtain ⟨r, f, rfl⟩ : ∃ (r : Fin 4096) (f : Fin 2816), i = ix2 r f := ⟨i 0, i 1, idx_eq2 i _ _ rfl rfl⟩
  refine (dg_eq m c r f).trans ?_
  rw [Cert.DgradRefIdeal.Read.val_main_v127_apply, Cert.DgradRefIdeal.Read.val_main_v126_apply, show Cert.DgradRefIdeal.Read.idx_main_v126 (ix2 r f) = ix3 (bat r) (pos r) f from
    idx_eq3 _ _ _ _ (by simp [bat]; omega) (by simp [pos]; omega) (by simp <;> omega)]
  rfl

/-- The kernel's gradient of the normalisation's scale is the reference's. -/
theorem result11 : (dats m 0 c).arrAt 11 cfg0.N = Cert.DgradRefIdeal.Read.val_main_v128 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (Arr.arr11 m c).trans ?_
  funext i
  obtain ⟨k, rfl⟩ : ∃ k : Fin 1024, i = ix2 0 k := ⟨i 1, Arr.idxN i⟩
  refine Eq.trans ?_ (Cert.DgradRefIdeal.Ref.norm_at _ _ _ _ _ _ _).symm
  refine Eq.trans ?_ (Cert.DgradRefIdeal.Ref.rows_sum _)
  show (∑ r : Fin 4096, Arr.A0 m c (ix2 r k) * (rms fun q => Arr.A0 m c (ix2 r q)) * Arr.cot (Arr.A2 m c) (Arr.A4 m c) (Arr.A6 m c) (Arr.A7 m c) (Arr.A8 m c) r k : EReal) = _
  refine Finset.sum_congr rfl fun r _ => ?_
  exact congrArg₂ (fun a b : EReal => a * b) (congrArg₂ (fun a b : EReal => a * b) (Arr.entry0 m c r k) (congrArg rms (funext fun q => Arr.entry0 m c r q))) (cot_eq m c r k)

end Tie

/-- THE VALUE CLAIM of the feed-forward layer's activation gradients. -/
theorem algebraic : algebraic_DgradIdeal_DgradRefIdeal (hDgradIdeal := Cert.DgradIdeal.Gen.facts)
    (hDgradRefIdeal := Cert.DgradRefIdeal.Gen.facts) := by
  intro m g m' g' _ hagree
  refine ⟨fun c => Cert.DgradRefIdeal.Read.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => Cert.DgradRefIdeal.Read.val_main_v127 (F := Ideal) (m ((c.tc : Thread nD τ).loc main_arg4)) (m ((c.tc : Thread nD τ).loc main_arg5)),
    fun c => Cert.DgradRefIdeal.Read.val_main_v128 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)), ?_, ?_⟩
  · refine (θ_run _ _ _).mono (fun r h c => ?_) (Cert.DgradIdeal.Value.run_blocks m g)
    obtain ⟨e9, e10, e11, k⟩ := h c
    exact ⟨e9.trans (result9 m c), e10.trans (result10 m c), e11.trans (result11 m c), k⟩
  · refine (θ_run _ _ _).mono (fun r h c => ?_) (Cert.DgradRefIdeal.Value.run m' g')
    obtain ⟨e0, e1, e2, k⟩ := h c
    obtain ⟨a0, a1, a2, a3, a4, a5, a6, a7⟩ := hagree c
    refine ⟨e0.trans ?_, e1.trans ?_, e2.trans ?_, k⟩
    · rw [Cert.DgradRefIdeal.Read.val_main_v125_eq, a0, a1, a2, a3, a4, a5, a6, a7]
    · rw [Cert.DgradRefIdeal.Read.val_main_v127_eq, a4, a5]
    · rw [Cert.DgradRefIdeal.Read.val_main_v128_eq, a0, a2, a3, a4, a5, a6]

end Cert.DgradEq
-- ==== Proof.OutMath.lean ====
module

public import proofs.«01_k».proof.Proof.FfnMath
public import Idealize.ShloMosaic.Lib.Pipeline.ValueKit

@[expose] public section
noncomputable section
namespace Cert.Out
open Idealize.ShloMosaic Idealize.ShloMosaic.Tactic Cert.Ffn

/-! ## Heads of 64 lanes padded to 128 -/

/-- An index of rank four is the one of its coordinates. -/
theorem idx_eq4 {n0 n1 n2 n3 : Nat} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d := by
  funext x
  match x with
  | ⟨0, _⟩ => exact Fin.ext h0
  | ⟨1, _⟩ => exact Fin.ext h1
  | ⟨2, _⟩ => exact Fin.ext h2
  | ⟨3, _⟩ => exact Fin.ext h3

/-- A padded lane's head. -/
def hd (j : Fin 1024) : Fin 8 := ⟨j.val / 128, by omega⟩
/-- A lane of the joined heads, as a row of the weight. -/
def top (q : Fin 512) : Fin 1024 := ⟨q.val, by omega⟩
/-- A padded lane's lane of the joined heads, if it lies within its head's 64 lanes. -/
def srcq (j : Fin 1024) (h : j.val % 128 < 64) : Fin 512 := ⟨j.val / 128 * 64 + j.val % 128, by omega⟩
/-- A padded lane's row of the weight, if it lies within its head's 64 lanes. -/
def src (j : Fin 1024) (h : j.val % 128 < 64) : Fin 1024 := top (srcq j h)
/-- A row of the weight's second half. -/
def low (l : Fin 512) : Fin 1024 := ⟨512 + l.val, by omega⟩

/-- The attention's output, each head padded to 128 lanes. -/
def padO (o : (⟨4, ![2, 2048, 8, 64]⟩ : Shape).Idx → EReal) (r : Fin 4096) (j : Fin 1024) : EReal :=
  if h : j.val % 128 < 64 then o (ix4 (bat r) (pos r) (hd j) ⟨j.val % 128, h⟩) else 0
/-- The attention's rows of the weight, each head's padded to 128. -/
def padW (w : (⟨2, ![1024, 1024]⟩ : Shape).Idx → EReal) (j k : Fin 1024) : EReal :=
  if h : j.val % 128 < 64 then w (ix2 (src j h) k) else 0

/-- A row and a lane kept only where they lie in the heads is the padded heads at them. -/
theorem padO_eq (o : (⟨4, ![2, 2048, 8, 64]⟩ : Shape).Idx → EReal) (r : Fin 4096) (j : Fin 1024) :
    (if h : r.val / 2048 < 2 ∧ r.val % 2048 < 2048 ∧ j.val / 128 < 8 ∧ j.val % 128 < 64 then
      o (ix4 ⟨r.val / 2048, h.1⟩ ⟨r.val % 2048, h.2.1⟩ ⟨j.val / 128, h.2.2.1⟩ ⟨j.val % 128, h.2.2.2⟩) else 0) = padO o r j := by
  unfold padO
  by_cases h : j.val % 128 < 64
  · have h' : r.val / 2048 < 2 ∧ r.val % 2048 < 2048 ∧ j.val / 128 < 8 ∧ j.val % 128 < 64 := ⟨by omega, by omega, by omega, h⟩
    rw [dif_pos h', dif_pos h]
    rfl
  · have h' : ¬ (r.val / 2048 < 2 ∧ r.val % 2048 < 2048 ∧ j.val / 128 < 8 ∧ j.val % 128 < 64) := fun q => h q.2.2.2
    rw [dif_neg h', dif_neg h]
/-- A lane kept only where it lies in a head is the padded rows of the weight at it. -/
theorem padW_eq (w : (⟨2, ![1024, 1024]⟩ : Shape).Idx → EReal) (j k : Fin 1024) :
    (if h : j.val / 128 < 8 ∧ j.val % 128 < 64 then w (ix2 ⟨j.val / 128 * 64 + j.val % 128, by omega⟩ k) else 0) = padW w j k := by
  unfold padW
  by_cases h : j.val % 128 < 64
  · have h' : j.val / 128 < 8 ∧ j.val % 128 < 64 := ⟨by omega, h⟩
    rw [dif_pos h', dif_pos h]
    rfl
  · have h' : ¬ (j.val / 128 < 8 ∧ j.val % 128 < 64) := fun q => h q.2
    rw [dif_neg h', dif_neg h]

/-- The heads joined, at one of the 512 lanes. -/
def joinO (o : (⟨4, ![2, 2048, 8, 64]⟩ : Shape).Idx → EReal) (b : Fin 2) (s : Fin 2048) (q : Fin 512) : EReal :=
  o (ix4 b s ⟨q.val / 64, by omega⟩ ⟨q.val % 64, by omega⟩)
/-- A padded lane within its head's 64 lanes is a lane of the joined heads. -/
theorem joinO_src (o : (⟨4, ![2, 2048, 8, 64]⟩ : Shape).Idx → EReal) (b : Fin 2) (s : Fin 2048) (j : Fin 1024) (h : j.val % 128 < 64) :
    joinO o b s (srcq j h) = o (ix4 b s (hd j) ⟨j.val % 128, h⟩) := by
  unfold joinO
  have e1 : (⟨(srcq j h).val / 64, by omega⟩ : Fin 8) = hd j := Fin.ext (by simp only [srcq, hd]; omega)
  have e2 : (⟨(srcq j h).val % 64, by omega⟩ : Fin 64) = ⟨j.val % 128, h⟩ := Fin.ext (by simp only [srcq]; omega)
  rw [e1, e2]

/-- A sum over the padded lanes, zero past each head's 64, is the sum over the joined heads' lanes. -/
theorem pad_sum (g : Fin 512 → EReal) : (∑ j : Fin 1024, if h : j.val % 128 < 64 then g (srcq j h) else 0) = ∑ q, g q := by
  refine (Fin.sum_mul_add_fin (M := EReal) (L := 1024) 8 128 _).symm.trans ?_
  refine Eq.trans ?_ (Fin.sum_mul_add_fin (M := EReal) (L := 512) 8 64 g)
  refine Finset.sum_congr rfl fun a _ => ?_
  refine (Fin.sum_univ_add (a := 64) (b := 64) _).trans ?_
  have z : ∀ l : Fin 64, (if h : (⟨a.val * 128 + (Fin.natAdd 64 l).val, by simp; omega⟩ : Fin 1024).val % 128 < 64 then
      g (srcq ⟨a.val * 128 + (Fin.natAdd 64 l).val, by simp; omega⟩ h) else 0) = 0 := fun l => dif_neg (by simp; omega)
  have p : ∀ l : Fin 64, (if h : (⟨a.val * 128 + (Fin.castAdd 64 l).val, by simp; omega⟩ : Fin 1024).val % 128 < 64 then
      g (srcq ⟨a.val * 128 + (Fin.castAdd 64 l).val, by simp; omega⟩ h) else 0) = g ⟨a.val * 64 + l.val, by omega⟩ := fun l => by
    rw [dif_pos (by simp; omega)]
    exact congrArg g (Fin.ext (by simp only [srcq, Fin.val_castAdd]; omega))
  refine (congrArg₂ (fun x y : EReal => x + y) (Finset.sum_congr rfl fun l _ => p l) (Finset.sum_congr rfl fun l _ => z l)).trans ?_
  simp

/-- The padded heads times the padded rows of the weight: the joined heads times the weight's first half. -/
theorem pad_dot (o : (⟨4, ![2, 2048, 8, 64]⟩ : Shape).Idx → EReal) (w : (⟨2, ![1024, 1024]⟩ : Shape).Idx → EReal) (r : Fin 4096) (k : Fin 1024) :
    (∑ j : Fin 1024, padO o r j * padW w j k) = ∑ q : Fin 512, joinO o (bat r) (pos r) q * w (ix2 (top q) k) := by
  refine Eq.trans (Finset.sum_congr rfl fun j _ => ?_) (pad_sum fun q => joinO o (bat r) (pos r) q * w (ix2 (top q) k))
  unfold padO padW
  by_cases h : j.val % 128 < 64
  · rw [dif_pos h, dif_pos h, dif_pos h, joinO_src]
    rfl
  · rw [dif_neg h, dif_neg h, dif_neg h, mul_zero]

/-- A sum over the weight's rows is the sums over its two halves. -/
theorem halves (g : Fin 1024 → EReal) : (∑ k, g k) = (∑ q : Fin 512, g (top q)) + ∑ l : Fin 512, g (low l) :=
  Fin.sum_univ_add (a := 512) (b := 512) g

end Cert.Out
-- ==== Proof.OutBwdArr.lean ====
module

public import proofs.«01_k».proof.Proof.OutMath
public import proofs.«01_k».proof.Proof.Gen.OutBwdIdeal.Value
public import Idealize.ShloMosaic.Lib.Pipeline.ValueKit
public import Idealize.ShloMosaic.Lib.Pipeline.ReadBack

@[expose] public section
set_option maxRecDepth 16384
noncomputable section
namespace Cert.OutBwdIdeal.Arr
open Idealize.ShloMosaic Idealize.ShloMosaic.TcCoe Idealize.ShloMosaic.Tactic
open Cert.OutBwdIdeal Cert.OutBwdIdeal.Gen Cert.Ffn Cert.Out
variable (m : (ℓ : Loc nD τ sig) → Buf (Elt Ideal) ℓ)

/-! ## What a grid point computes -/

/-- An entry of a tile's gradient of the attention's output. -/
theorem do_part (d : Vec Ideal S1024x1024 .f32) (w : Vec Ideal S1024x1024 .bf16) (r j : Fin 1024) :
    k0_pay3 d w (ix2 r j) = (∑ k : Fin 1024, d (ix2 r k) * w (ix2 j k) : EReal) := by
  pointwise [k0_pay3, k0_pay2]
/-- An entry of a tile's gradient of the recurrence's output. -/
theorem dy_part (d : Vec Ideal S1024x1024 .f32) (w : Vec Ideal S512x1024 .bf16) (r : Fin 1024) (l : Fin 512) :
    k0_pay4 d w (ix2 r l) = (∑ k : Fin 1024, d (ix2 r k) * w (ix2 l k) : EReal) := by
  pointwise [k0_pay4, k0_pay2]
/-- A tile's contribution to an entry of the gradient of the attention's rows of the weight. -/
theorem wa_part (d : Vec Ideal S1024x1024 .f32) (o : Vec Ideal S1024x1024 .bf16) (j k : Fin 1024) :
    k0_pay5 d o (ix2 j k) = (∑ r : Fin 1024, o (ix2 r j) * d (ix2 r k) : EReal) := by
  pointwise [k0_pay5, k0_pay2]
/-- A tile's contribution to an entry of the gradient of the recurrence's rows of the weight. -/
theorem wb_part (d : Vec Ideal S1024x1024 .f32) (y : Vec Ideal S1024x512 .bf16) (l : Fin 512) (k : Fin 1024) :
    k0_pay7 d y (ix2 l k) = (∑ r : Fin 1024, y (ix2 r l) * d (ix2 r k) : EReal) := by
  pointwise [k0_pay7, k0_pay2]
/-- What a later tile leaves in the first weight gradient. -/
theorem wa_next (d : Vec Ideal S1024x1024 .f32) (o : Vec Ideal S1024x1024 .bf16) (a : Vec Ideal S1024x1024 .f32) (i : S1024x1024.Idx) :
    k0_pay6 d o a i = (a i + k0_pay5 d o i : EReal) := by
  pointwise [k0_pay6]
/-- What a later tile leaves in the second weight gradient. -/
theorem wb_next (p a : Vec Ideal S512x1024 .f32) (i : S512x1024.Idx) : k0_pay1 p a i = (a i + p i : EReal) := by
  pointwise [k0_pay1]

/-- The grid has four points. -/
theorem points (t : Fin cfg0.N) : t.val < 4 := t.isLt

/-- The first output after a point. -/
theorem after5 (c : Dev nD) (t : Fin cfg0.N) : (outsAt0 m c t.val t.isLt).1 = k0_pay3 (iblk m c 2 t) (iblk m c 3 t) := by
  have hN := points t
  by_cases h : t.val % 4 = 0
  · rw [outsAt0_A m c t h (by omega) h (by omega)]
    frame_out
  · rw [outsAt0_B m c t h (by omega) h (by omega)]
    frame_out
/-- The second output after a point. -/
theorem after6 (c : Dev nD) (t : Fin cfg0.N) : (outsAt0 m c t.val t.isLt).2.1 = k0_pay4 (iblk m c 2 t) (iblk m c 4 t) := by
  have hN := points t
  by_cases h : t.val % 4 = 0
  · rw [outsAt0_A m c t h (by omega) h (by omega)]
    frame_out
  · rw [outsAt0_B m c t h (by omega) h (by omega)]
    frame_out
/-- The first weight gradient after the first point. -/
theorem after7_A (c : Dev nD) (t : Fin cfg0.N) (h : t.val % 4 = 0) :
    (outsAt0 m c t.val t.isLt).2.2.1 = k0_pay5 (iblk m c 2 t) (iblk m c 0 t) := by
  have hN := points t
  rw [outsAt0_A m c t h (by omega) h (by omega)]
  frame_out
/-- The first weight gradient after a later point. -/
theorem after7_B (c : Dev nD) (t : Fin cfg0.N) (h : ¬t.val % 4 = 0) :
    (outsAt0 m c t.val t.isLt).2.2.1 = k0_pay6 (iblk m c 2 t) (iblk m c 0 t)
      (outsAt0 m c (t.val - 1) (Nat.lt_of_le_of_lt (Nat.sub_le _ _) t.isLt)).2.2.1 := by
  have hN := points t
  rw [outsAt0_B m c t h (by omega) h (by omega)]
  frame_out
/-- The second weight gradient after the first point. -/
theorem after8_A (c : Dev nD) (t : Fin cfg0.N) (h : t.val % 4 = 0) :
    (outsAt0 m c t.val t.isLt).2.2.2 = k0_pay7 (iblk m c 2 t) (iblk m c 1 t) := by
  have hN := points t
  rw [outsAt0_A m c t h (by omega) h (by omega)]
  frame_out
/-- The second weight gradient after a later point. -/
theorem after8_B (c : Dev nD) (t : Fin cfg0.N) (h : ¬t.val % 4 = 0) :
    (outsAt0 m c t.val t.isLt).2.2.2 = k0_pay1 (k0_pay7 (iblk m c 2 t) (iblk m c 1 t))
      (outsAt0 m c (t.val - 1) (Nat.lt_of_le_of_lt (Nat.sub_le _ _) t.isLt)).2.2.2 := by
  have hN := points t
  rw [outsAt0_B m c t h (by omega) h (by omega)]
  frame_out

/-! ## Where a grid point's blocks lie -/

/-- A row of the flattened arrays from its tile and its place in the tile. -/
def row (i : Fin 4) (r : Fin 1024) : Fin 4096 := ⟨1024 * i.val + r.val, by omega⟩
/-- A point's tile is the point. -/
theorem tile : ∀ t : Fin grid0.N, (grid0.coords t 0).val = t.val := by decide +kernel

/-- Which block of the attention's output a point has. -/
theorem idx0 : ∀ t : Fin grid0.N, win0_0.index t = ![(grid0.coords t 0).val, 0] := by decide +kernel
/-- Where the block of the attention's output lies. -/
theorem emb0 (t : Fin grid0.N) (r : Fin 1024) (j : Fin 1024) : (win0_0.blk t).view.emb (ix2 r j) = ix2 (row (grid0.coords t 0) r) j := by
  blk_ext [idx0 t, row]
/-- The array of the attention's output. -/
def A0 (c : Dev nD) : Vec Ideal S4096x1024 .bf16 := V m c main_v2
/-- What the block of the attention's output reads. -/
theorem read0 (X : Vec Ideal S4096x1024 .bf16) (t : Fin grid0.N) (r : Fin 1024) (j : Fin 1024) :
    (win0_0.blk t).view.read (Elt Ideal) X (ix2 r j) = X (ix2 (row (grid0.coords t 0) r) j) := congrArg X (emb0 t r j)
/-- What a point reads of the attention's output. -/
theorem blk0 (c : Dev nD) (t : Fin grid0.N) (r : Fin 1024) (j : Fin 1024) : iblk m c 0 t (ix2 r j) = A0 m c (ix2 (row (grid0.coords t 0) r) j) :=
  read0 (A0 m c) t r j

/-- Which block of the recurrence's output a point has. -/
theorem idx1 : ∀ t : Fin grid0.N, win0_1.index t = ![(grid0.coords t 0).val, 0] := by decide +kernel
/-- Where the block of the recurrence's output lies. -/
theorem emb1 (t : Fin grid0.N) (r : Fin 1024) (j : Fin 512) : (win0_1.blk t).view.emb (ix2 r j) = ix2 (row (grid0.coords t 0) r) j := by
  blk_ext [idx1 t, row]
/-- The array of the recurrence's output. -/
def A1 (c : Dev nD) : Vec Ideal S4096x512 .bf16 := V m c main_v4
/-- What the block of the recurrence's output reads. -/
theorem read1 (X : Vec Ideal S4096x512 .bf16) (t : Fin grid0.N) (r : Fin 1024) (j : Fin 512) :
    (win0_1.blk t).view.read (Elt Ideal) X (ix2 r j) = X (ix2 (row (grid0.coords t 0) r) j) := congrArg X (emb1 t r j)
/-- What a point reads of the recurrence's output. -/
theorem blk1 (c : Dev nD) (t : Fin grid0.N) (r : Fin 1024) (j : Fin 512) : iblk m c 1 t (ix2 r j) = A1 m c (ix2 (row (grid0.coords t 0) r) j) :=
  read1 (A1 m c) t r j

/-- Which block of the cotangent a point has. -/
theorem idx2 : ∀ t : Fin grid0.N, win0_2.index t = ![(grid0.coords t 0).val, 0] := by decide +kernel
/-- Where the block of the cotangent lies. -/
theorem emb2 (t : Fin grid0.N) (r : Fin 1024) (j : Fin 1024) : (win0_2.blk t).view.emb (ix2 r j) = ix2 (row (grid0.coords t 0) r) j := by
  blk_ext [idx2 t, row]
/-- The array of the cotangent. -/
def A2 (c : Dev nD) : Vec Ideal S4096x1024 .f32 := V m c main_v5
/-- What the block of the cotangent reads. -/
theorem read2 (X : Vec Ideal S4096x1024 .f32) (t : Fin grid0.N) (r : Fin 1024) (j : Fin 1024) :
    (win0_2.blk t).view.read (Elt Ideal) X (ix2 r j) = X (ix2 (row (grid0.coords t 0) r) j) := congrArg X (emb2 t r j)
/-- What a point reads of the cotangent. -/
theorem blk2 (c : Dev nD) (t : Fin grid0.N) (r : Fin 1024) (j : Fin 1024) : iblk m c 2 t (ix2 r j) = A2 m c (ix2 (row (grid0.coords t 0) r) j) :=
  read2 (A2 m c) t r j

/-- Which block of the attention's rows of the weight a point has. -/
theorem idx3 : ∀ t : Fin grid0.N, win0_3.index t = ![0, 0] := by decide +kernel
/-- Where the block of the attention's rows of the weight lies. -/
theorem emb3 (t : Fin grid0.N) (r : Fin 1024) (j : Fin 1024) : (win0_3.blk t).view.emb (ix2 r j) = ix2 r j := by
  blk_ext [idx3 t]
/-- The array of the attention's rows of the weight. -/
def A3 (c : Dev nD) : Vec Ideal S1024x1024 .bf16 := V m c main_v10
/-- What the block of the attention's rows of the weight reads. -/
theorem read3 (X : Vec Ideal S1024x1024 .bf16) (t : Fin grid0.N) (r : Fin 1024) (j : Fin 1024) :
    (win0_3.blk t).view.read (Elt Ideal) X (ix2 r j) = X (ix2 r j) := congrArg X (emb3 t r j)
/-- What a point reads of the attention's rows of the weight. -/
theorem blk3 (c : Dev nD) (t : Fin grid0.N) (r : Fin 1024) (j : Fin 1024) : iblk m c 3 t (ix2 r j) = A3 m c (ix2 r j) :=
  read3 (A3 m c) t r j

/-- Which block of the recurrence's rows of the weight a point has. -/
theorem idx4 : ∀ t : Fin grid0.N, win0_4.index t = ![0, 0] := by decide +kernel
/-- Where the block of the recurrence's rows of the weight lies. -/
theorem emb4 (t : Fin grid0.N) (r : Fin 512) (j : Fin 1024) : (win0_4.blk t).view.emb (ix2 r j) = ix2 r j := by
  blk_ext [idx4 t]
/-- The array of the recurrence's rows of the weight. -/
def A4 (c : Dev nD) : Vec Ideal S512x1024 .bf16 := V m c main_v12
/-- What the block of the recurrence's rows of the weight reads. -/
theorem read4 (X : Vec Ideal S512x1024 .bf16) (t : Fin grid0.N) (r : Fin 512) (j : Fin 1024) :
    (win0_4.blk t).view.read (Elt Ideal) X (ix2 r j) = X (ix2 r j) := congrArg X (emb4 t r j)
/-- What a point reads of the recurrence's rows of the weight. -/
theorem blk4 (c : Dev nD) (t : Fin grid0.N) (r : Fin 512) (j : Fin 1024) : iblk m c 4 t (ix2 r j) = A4 m c (ix2 r j) :=
  read4 (A4 m c) t r j

/-- Which block of the attention's output's gradient a point has. -/
theorem idx5 : ∀ t : Fin grid0.N, win0_5.index t = ![(grid0.coords t 0).val, 0] := by decide +kernel
/-- Where the block of the attention's output's gradient lies. -/
theorem emb5 (t : Fin grid0.N) (r : Fin 1024) (j : Fin 1024) : (win0_5.blk t).view.emb (ix2 r j) = ix2 (row (grid0.coords t 0) r) j := by
  blk_ext [idx5 t, row]

/-- Which block of the recurrence's output's gradient a point has. -/
theorem idx6 : ∀ t : Fin grid0.N, win0_6.index t = ![(grid0.coords t 0).val, 0] := by decide +kernel
/-- Where the block of the recurrence's output's gradient lies. -/
theorem emb6 (t : Fin grid0.N) (r : Fin 1024) (j : Fin 512) : (win0_6.blk t).view.emb (ix2 r j) = ix2 (row (grid0.coords t 0) r) j := by
  blk_ext [idx6 t, row]

/-- Which block of the first weight gradient a point has. -/
theorem idx7 : ∀ t : Fin grid0.N, win0_7.index t = ![0, 0] := by decide +kernel
/-- Where the block of the first weight gradient lies. -/
theorem emb7 (t : Fin grid0.N) (r : Fin 1024) (j : Fin 1024) : (win0_7.blk t).view.emb (ix2 r j) = ix2 r j := by
  blk_ext [idx7 t]

/-- Which block of the second weight gradient a point has. -/
theorem idx8 : ∀ t : Fin grid0.N, win0_8.index t = ![0, 0] := by decide +kernel
/-- Where the block of the second weight gradient lies. -/
theorem emb8 (t : Fin grid0.N) (r : Fin 512) (j : Fin 1024) : (win0_8.blk t).view.emb (ix2 r j) = ix2 r j := by
  blk_ext [idx8 t]

/-! ## The output arrays, as functions of the entry arrays -/

/-- The gradient of the attention's output. -/
def doA (D : Vec Ideal S4096x1024 .f32) (W : Vec Ideal S1024x1024 .bf16) : Vec Ideal S4096x1024 .bf16 :=
  fun i => (∑ k : Fin 1024, D (ix2 (i 0) k) * W (ix2 (i 1) k) : EReal)
/-- The gradient of the recurrence's output. -/
def dyA (D : Vec Ideal S4096x1024 .f32) (W : Vec Ideal S512x1024 .bf16) : Vec Ideal S4096x512 .f32 :=
  fun i => (∑ k : Fin 1024, D (ix2 (i 0) k) * W (ix2 (i 1) k) : EReal)
/-- The gradient of the attention's rows of the weight. -/
def waA (O : Vec Ideal S4096x1024 .bf16) (D : Vec Ideal S4096x1024 .f32) : Vec Ideal S1024x1024 .f32 :=
  fun i => (∑ r : Fin 4096, O (ix2 r (i 0)) * D (ix2 r (i 1)) : EReal)
/-- The gradient of the recurrence's rows of the weight. -/
def wbA (Y : Vec Ideal S4096x512 .bf16) (D : Vec Ideal S4096x1024 .f32) : Vec Ideal S512x1024 .f32 :=
  fun i => (∑ r : Fin 4096, Y (ix2 r (i 0)) * D (ix2 r (i 1)) : EReal)

/-- A sum over tiles and rows of a tile is the sum over all rows. -/
theorem rows_sum (g : Fin 4096 → EReal) : (∑ i : Fin 4, ∑ r : Fin 1024, g (row i r)) = ∑ r, g r := by
  have e := Fin.sum_mul_add_fin (M := EReal) (L := 4096) (f := g) (S := 4) (n := 1024)
  refine Eq.trans ?_ e
  refine Finset.sum_congr rfl fun i _ => Finset.sum_congr rfl fun r _ => congrArg g (Fin.ext ?_)
  simp [row, Nat.mul_comm]

/-- The rows of the run's `s`-th point are those of tile `s`. -/
theorem run_tile (t : Fin grid0.N) (s : Fin 4) (hp : 4 * (t.val / 4) + s.val < grid0.N) (r : Fin 1024) :
    row (grid0.coords ⟨4 * (t.val / 4) + s.val, hp⟩ 0) r = row s r := by
  have e := tile ⟨4 * (t.val / 4) + s.val, hp⟩
  have hN : t.val < 4 := t.isLt
  refine Fin.ext ?_
  show 1024 * (grid0.coords ⟨4 * (t.val / 4) + s.val, hp⟩ 0).val + r.val = 1024 * s.val + r.val
  rw [e]
  show 1024 * (4 * (t.val / 4) + s.val) + r.val = 1024 * s.val + r.val
  omega

/-- What a point leaves in the first output: its block of the closed form. -/
theorem out5 (c : Dev nD) (t : Fin grid0.N) (r j : Fin 1024) :
    (outsAt0 m c t.val t.isLt).1 (ix2 r j) = doA (A2 m c) (A3 m c) (ix2 (row (grid0.coords t 0) r) j) := by
  rw [after5 m c t]
  refine (do_part _ _ r j).trans (Finset.sum_congr rfl fun k _ => ?_)
  rw [blk2, blk3]
  rfl
/-- What a point leaves in the second output: its block of the closed form. -/
theorem out6 (c : Dev nD) (t : Fin grid0.N) (r : Fin 1024) (l : Fin 512) :
    (outsAt0 m c t.val t.isLt).2.1 (ix2 r l) = dyA (A2 m c) (A4 m c) (ix2 (row (grid0.coords t 0) r) l) := by
  rw [after6 m c t]
  refine (dy_part _ _ r l).trans (Finset.sum_congr rfl fun k _ => ?_)
  rw [blk2, blk4]
  rfl
/-- What the last point leaves in output 7: the closed form. -/
theorem out7 (c : Dev nD) (t : Fin grid0.N) (h : t.val % 4 = 3) (l : Fin 1024) (k : Fin 1024) :
    (outsAt0 m c t.val t.isLt).2.2.1 (ix2 l k) = waA (A0 m c) (A2 m c) (ix2 l k) := by
  have e := Pipeline.eq_sum_fin_of_reset_step_apply_of_flush (M := EReal) (fun n h (j : S1024x1024.Idx) => ((outsAt0 m c n h).2.2.1 j : EReal)) 4 (fun _ => 0)
    (fun t j => (k0_pay5 (iblk m c 2 t) (iblk m c 0 t) j : EReal))
    (fun t h j => by simp only [zero_add]; rw [after7_A m c t h])
    (fun t h j => by rw [after7_B m c t h, wa_next]) t h (ix2 l k)
  refine Eq.trans (show _ = ((outsAt0 m c t.val t.isLt).2.2.1 (ix2 l k) : EReal) from rfl) (e.trans ?_)
  rw [zero_add]
  refine Eq.trans ?_ (rows_sum fun r => (A0 m c (ix2 r l) * A2 m c (ix2 r k) : EReal))
  refine Finset.sum_congr rfl fun s _ => ?_
  rw [wa_part]
  refine Finset.sum_congr rfl fun r _ => ?_
  rw [blk0, blk2, run_tile]
/-- What the last point leaves in output 8: the closed form. -/
theorem out8 (c : Dev nD) (t : Fin grid0.N) (h : t.val % 4 = 3) (l : Fin 512) (k : Fin 1024) :
    (outsAt0 m c t.val t.isLt).2.2.2 (ix2 l k) = wbA (A1 m c) (A2 m c) (ix2 l k) := by
  have e := Pipeline.eq_sum_fin_of_reset_step_apply_of_flush (M := EReal) (fun n h (j : S512x1024.Idx) => ((outsAt0 m c n h).2.2.2 j : EReal)) 4 (fun _ => 0)
    (fun t j => (k0_pay7 (iblk m c 2 t) (iblk m c 1 t) j : EReal))
    (fun t h j => by simp only [zero_add]; rw [after8_A m c t h])
    (fun t h j => by rw [after8_B m c t h, wb_next]) t h (ix2 l k)
  refine Eq.trans (show _ = ((outsAt0 m c t.val t.isLt).2.2.2 (ix2 l k) : EReal) from rfl) (e.trans ?_)
  rw [zero_add]
  refine Eq.trans ?_ (rows_sum fun r => (A1 m c (ix2 r l) * A2 m c (ix2 r k) : EReal))
  refine Finset.sum_congr rfl fun s _ => ?_
  rw [wb_part]
  refine Finset.sum_congr rfl fun r _ => ?_
  rw [blk1, blk2, run_tile]
/-- The attention's output's gradient after the last point. -/
theorem arr5 (c : Dev nD) : (dats m 0 c).arrAt 5 cfg0.N = doA (A2 m c) (A3 m c) := by
  refine (dats m 0 c).arrAt_eq_of_covers 5 _ (by decide +kernel) fun t hf y => ?_
  blk_simp
  rw [after0_5]
  have hy : y = ix2 (y 0) (y 1) := idx_eq2 (n0 := 1024) (n1 := 1024) y _ _ rfl rfl
  refine (congrArg (outsAt0 m c t.val t.isLt).1 hy).trans ((out5 m c t _ _).trans ?_)
  exact congrArg (doA (A2 m c) (A3 m c)) (((congrArg (win0_5.blk t).view.emb hy)).trans (emb5 t _ _)).symm
/-- The recurrence's output's gradient after the last point. -/
theorem arr6 (c : Dev nD) : (dats m 0 c).arrAt 6 cfg0.N = dyA (A2 m c) (A4 m c) := by
  refine (dats m 0 c).arrAt_eq_of_covers 6 _ (by decide +kernel) fun t hf y => ?_
  blk_simp
  rw [after0_6]
  have hy : y = ix2 (y 0) (y 1) := idx_eq2 (n0 := 1024) (n1 := 512) y _ _ rfl rfl
  refine (congrArg (outsAt0 m c t.val t.isLt).2.1 hy).trans ((out6 m c t _ _).trans ?_)
  exact congrArg (dyA (A2 m c) (A4 m c)) (((congrArg (win0_6.blk t).view.emb hy)).trans (emb6 t _ _)).symm
/-- The first weight gradient after the last point. -/
theorem arr7 (c : Dev nD) : (dats m 0 c).arrAt 7 cfg0.N = waA (A0 m c) (A2 m c) := by
  refine (dats m 0 c).arrAt_eq_of_covers 7 _ (by decide +kernel) fun t hf y => ?_
  blk_simp
  rw [after0_7]
  have hy : y = ix2 (y 0) (y 1) := idx_eq2 (n0 := 1024) (n1 := 1024) y _ _ rfl rfl
  refine (congrArg (outsAt0 m c t.val t.isLt).2.2.1 hy).trans ((out7 m c t ((flush0_7 t).mp hf) _ _).trans ?_)
  exact congrArg (waA (A0 m c) (A2 m c)) (((congrArg (win0_7.blk t).view.emb hy)).trans (emb7 t _ _)).symm
/-- The second weight gradient after the last point. -/
theorem arr8 (c : Dev nD) : (dats m 0 c).arrAt 8 cfg0.N = wbA (A1 m c) (A2 m c) := by
  refine (dats m 0 c).arrAt_eq_of_covers 8 _ (by decide +kernel) fun t hf y => ?_
  blk_simp
  rw [after0_8]
  have hy : y = ix2 (y 0) (y 1) := idx_eq2 (n0 := 512) (n1 := 1024) y _ _ rfl rfl
  refine (congrArg (outsAt0 m c t.val t.isLt).2.2.2 hy).trans ((out8 m c t ((flush0_8 t).mp hf) _ _).trans ?_)
  exact congrArg (wbA (A1 m c) (A2 m c)) (((congrArg (win0_8.blk t).view.emb hy)).trans (emb8 t _ _)).symm

/-! ## The entry arrays, as functions of the arguments -/

/-- The padded heads. -/
theorem entry0 (c : Dev nD) (r : Fin 4096) (j : Fin 1024) : A0 m c (ix2 r j) = padO (m ((c.tc : Thread nD τ).loc main_arg0)) r j := by
  show Gen.V m c main_v2 _ = _
  entry_read
  pointwise
  exact padO_eq _ r j
/-- The flattened recurrence's output. -/
theorem entry1 (c : Dev nD) (r : Fin 4096) (l : Fin 512) : A1 m c (ix2 r l) = m ((c.tc : Thread nD τ).loc main_arg1) (ix3 (bat r) (pos r) l) := by
  show Gen.V m c main_v4 _ = _
  entry_read
  pointwise
  rfl
/-- The flattened array of the stream's width. -/
theorem entry2 (c : Dev nD) (r : Fin 4096) (k : Fin 1024) : A2 m c (ix2 r k) = m ((c.tc : Thread nD τ).loc main_arg3) (ix3 (bat r) (pos r) k) := by
  show Gen.V m c main_v5 _ = _
  entry_read
  pointwise
  rfl
/-- The attention's rows of the weight, padded. -/
theorem entry3 (c : Dev nD) (j k : Fin 1024) : A3 m c (ix2 j k) = padW (m ((c.tc : Thread nD τ).loc main_arg2)) j k := by
  show Gen.V m c main_v10 _ = _
  entry_read
  pointwise
  exact padW_eq _ j k
/-- The recurrence's rows of the weight. -/
theorem entry4 (c : Dev nD) (l : Fin 512) (k : Fin 1024) : A4 m c (ix2 l k) = m ((c.tc : Thread nD τ).loc main_arg2) (ix2 (low l) k) := by
  show Gen.V m c main_v12 _ = _
  entry_read
  pointwise
  rfl

end Cert.OutBwdIdeal.Arr
-- ==== Proof.OutBwdClaim.lean ====
module

public import proofs.«01_k».proof.Defs
public import proofs.«01_k».proof.Proof.OutBwdArr
public import proofs.«01_k».proof.Proof.Gen.OutBwdRefIdeal.Read
public import Idealize.ShloMosaic.Lib.KernelVsHost

@[expose] public section
set_option maxRecDepth 16384
noncomputable section
namespace Cert.OutBwdRefIdeal.Ref
open Idealize.ShloMosaic Idealize.ShloMosaic.Tactic Cert.OutBwdRefIdeal Cert.OutBwdRefIdeal.Read Cert.Ffn Cert.Out

/-! ## The reference's four gradients at an entry -/

variable (x0 : (⟨S2x2048x8x64, .f32⟩ : BufTy).Contents (Elt Ideal)) (x1 : (⟨S2x2048x512, .f32⟩ : BufTy).Contents (Elt Ideal))
  (x2 : (⟨S1024x1024, .f32⟩ : BufTy).Contents (Elt Ideal)) (x3 : (⟨S2x2048x1024, .f32⟩ : BufTy).Contents (Elt Ideal))

/-- The joined outputs at a lane of the heads. -/
theorem cat_top (b : Fin 2) (s : Fin 2048) (q : Fin 512) : val_main_v1 (F := Ideal) x0 x1 (ix3 b s (top q)) = joinO x0 b s q := by
  unfold val_main_v1
  refine (concatenate_pair_apply_left (t := S2x2048x1024) (s₁ := S2x2048x512) (s₂ := S2x2048x512) (2 : Fin 3) _ _ _ (ix3 b s (top q)) rfl (ix3 b s q)
    (by intro a; match a with | ⟨0, _⟩ => rfl | ⟨1, _⟩ => rfl | ⟨2, _⟩ => rfl)).trans ?_
  rw [val_main_v0_apply]
  exact congrArg x0 (idx_eq4 _ _ _ _ _ (by simp <;> omega) (by simp <;> omega) (by simp <;> omega) (by simp <;> omega))
/-- The joined outputs at a lane of the recurrence's. -/
theorem cat_low (b : Fin 2) (s : Fin 2048) (l : Fin 512) : val_main_v1 (F := Ideal) x0 x1 (ix3 b s (low l)) = x1 (ix3 b s l) := by
  unfold val_main_v1
  exact concatenate_pair_apply_right (t := S2x2048x1024) (s₁ := S2x2048x512) (s₂ := S2x2048x512) (2 : Fin 3) _ _ _ (ix3 b s (low l)) rfl rfl (ix3 b s l)
    (by intro a h; match a with | ⟨0, _⟩ => rfl | ⟨1, _⟩ => rfl | ⟨2, _⟩ => exact absurd rfl h) (by simp [low, Nat.add_comm])

/-- A contraction over batches and positions. -/
theorem dot_at (D E : (⟨S2x2048x1024, .f32⟩ : BufTy).Contents (Elt Ideal)) (f k : Fin 1024) :
    (Host.dotGeneral (F := Ideal) (φ₁ := .f32) (φ₂ := .f32) dot_S2x2048x1024_S2x2048x1024_S1024x1024_01_01_2_2_n_n none (D : FVec Ideal S2x2048x1024 .f32) (E : FVec Ideal S2x2048x1024 .f32) : FVec Ideal S1024x1024 .f32) (ix2 f k)
      = (∑ b : Fin 2, ∑ s : Fin 2048, D (ix3 b s f) * E (ix3 b s k) : EReal) := by
  pointwise
/-- The cotangent times a row of the weight. -/
theorem back_at (b : Fin 2) (s : Fin 2048) (j : Fin 1024) : val_main_v5 (F := Ideal) x2 x3 (ix3 b s j)
    = (∑ k : Fin 1024, x3 (ix3 b s k) * x2 (ix2 j k) : EReal) := by
  rw [val_main_v5_apply]
  refine Finset.sum_congr rfl fun k _ => ?_
  rw [show lidx_main_v5 (ix3 b s j) k = ix3 b s k from idx_eq3 _ _ _ _ rfl rfl rfl, show ridx_main_v5 (ix3 b s j) k = ix2 j k from idx_eq2 _ _ _ rfl rfl]
/-- The whole weight's gradient. -/
theorem weight_at (j k : Fin 1024) : val_main_v4 (F := Ideal) x0 x1 x3 (ix2 j k)
    = (∑ b : Fin 2, ∑ s : Fin 2048, x3 (ix3 b s k) * val_main_v1 (F := Ideal) x0 x1 (ix3 b s j) : EReal) := by
  rw [val_main_v4_apply, show idx_main_v4 (ix2 j k) = ix2 k j from idx_eq2 _ _ _ rfl rfl]
  exact dot_at _ _ k j

/-- The reference's gradient of the attention's output, in the padded layout. -/
theorem do_at (r : Fin 4096) (j : Fin 1024) : val_main_v17 (F := Ideal) x2 x3 (ix2 r j)
    = (∑ k : Fin 1024, x3 (ix3 (bat r) (pos r) k) * padW x2 j k : EReal) := by
  have e : val_main_v17 (F := Ideal) x2 x3 (ix2 r j) = val_main_v10 (F := Ideal) x2 x3 (ix4 (bat r) (pos r) (hd j) ⟨j.val % 128, by omega⟩) := by
    refine (val_main_v11_apply (F := Ideal) x2 x3 (ix2 r j)).trans ?_
    exact congrArg (val_main_v10 (F := Ideal) x2 x3) (idx_eq4 _ _ _ _ _ (by simp [bat] <;> omega) (by simp [pos] <;> omega) (by simp [hd] <;> omega) (by simp <;> omega))
  rw [e]
  unfold val_main_v10 padW
  by_cases h : j.val % 128 < 64
  · refine (concatenate_pair_apply_left (t := S2x2048x8x128) (s₁ := S2x2048x8x64) (s₂ := S2x2048x8x64) (3 : Fin 4) _ _ _ _ rfl
      (ix4 (bat r) (pos r) (hd j) ⟨j.val % 128, h⟩) (by intro a; match a with | ⟨0, _⟩ => rfl | ⟨1, _⟩ => rfl | ⟨2, _⟩ => rfl | ⟨3, _⟩ => rfl)).trans ?_
    rw [val_main_v8_apply, show idx_main_v8 (ix4 (bat r) (pos r) (hd j) ⟨j.val % 128, h⟩) = ix3 (bat r) (pos r) (srcq j h) from
        idx_eq3 _ _ _ _ (by simp [bat, pos, hd] <;> omega) (by simp [bat, pos, hd] <;> omega) (by simp [bat, pos, hd, srcq] <;> omega),
      val_main_v6_apply, show idx_main_v6 (ix3 (bat r) (pos r) (srcq j h)) = ix3 (bat r) (pos r) (src j h) from idx_eq3 _ _ _ _ rfl rfl rfl, back_at]
    refine Finset.sum_congr rfl fun k _ => ?_
    rw [dif_pos h]
  · refine (concatenate_pair_apply_right (t := S2x2048x8x128) (s₁ := S2x2048x8x64) (s₂ := S2x2048x8x64) (3 : Fin 4) _ _ _ _ rfl rfl
      (ix4 (bat r) (pos r) (hd j) ⟨j.val % 128 - 64, by omega⟩)
      (by intro a h; match a with | ⟨0, _⟩ => rfl | ⟨1, _⟩ => rfl | ⟨2, _⟩ => rfl | ⟨3, _⟩ => exact absurd rfl h) (by simp <;> omega)).trans ?_
    rw [val_main_v9_apply, val_main_cst_apply, show (FloatOps.ofBits (F := Ideal) .f32 0x00000000#32 : EReal) = 0 from Ideal.ofBits_zero_f32]
    refine (Finset.sum_eq_zero fun k _ => ?_).symm
    rw [dif_neg h, mul_zero]
/-- The reference's gradient of the recurrence's output. -/
theorem dy_at (r : Fin 4096) (l : Fin 512) : val_main_v18 (F := Ideal) x2 x3 (ix2 r l)
    = (∑ k : Fin 1024, x3 (ix3 (bat r) (pos r) k) * x2 (ix2 (low l) k) : EReal) := by
  rw [val_main_v18_apply, show idx_main_v18 (ix2 r l) = ix3 (bat r) (pos r) l from idx_eq3 _ _ _ _ (by simp [bat] <;> omega) (by simp [pos] <;> omega) (by simp <;> omega),
    val_main_v7_apply, show idx_main_v7 (ix3 (bat r) (pos r) l) = ix3 (bat r) (pos r) (low l) from idx_eq3 _ _ _ _ rfl rfl rfl, back_at]
/-- The reference's gradient of the attention's rows of the weight, in the padded layout. -/
theorem wa_at (j k : Fin 1024) : val_main_v16 (F := Ideal) x0 x1 x3 (ix2 j k)
    = (∑ b : Fin 2, ∑ s : Fin 2048, (if h : j.val % 128 < 64 then x0 (ix4 b s (hd j) ⟨j.val % 128, h⟩) else 0) * x3 (ix3 b s k) : EReal) := by
  have e : val_main_v16 (F := Ideal) x0 x1 x3 (ix2 j k) = val_main_v15 (F := Ideal) x0 x1 x3 (ix3 (hd j) ⟨j.val % 128, by omega⟩ k) := by
    refine (val_main_v16_apply (F := Ideal) x0 x1 x3 (ix2 j k)).trans ?_
    exact congrArg (val_main_v15 (F := Ideal) x0 x1 x3) (idx_eq3 _ _ _ _ (by simp [hd] <;> omega) (by simp <;> omega) (by simp <;> omega))
  rw [e]
  unfold val_main_v15
  by_cases h : j.val % 128 < 64
  · refine (concatenate_pair_apply_left (t := S8x128x1024) (s₁ := S8x64x1024) (s₂ := S8x64x1024) (1 : Fin 3) _ _ _ _ rfl
      (ix3 (hd j) ⟨j.val % 128, h⟩ k) (by intro a; match a with | ⟨0, _⟩ => rfl | ⟨1, _⟩ => rfl | ⟨2, _⟩ => rfl)).trans ?_
    rw [val_main_v13_apply, show idx_main_v13 (ix3 (hd j) ⟨j.val % 128, h⟩ k) = ix2 (srcq j h) k from
        idx_eq2 _ _ _ (by simp [hd, srcq] <;> omega) (by simp [hd] <;> omega),
      val_main_v12_apply, show idx_main_v12 (ix2 (srcq j h) k) = ix2 (src j h) k from idx_eq2 _ _ _ rfl rfl, weight_at]
    refine Finset.sum_congr rfl fun b _ => Finset.sum_congr rfl fun s _ => ?_
    rw [dif_pos h]
    unfold src
    rw [cat_top, joinO_src, mul_comm]
  · refine (concatenate_pair_apply_right (t := S8x128x1024) (s₁ := S8x64x1024) (s₂ := S8x64x1024) (1 : Fin 3) _ _ _ _ rfl rfl
      (ix3 (hd j) ⟨j.val % 128 - 64, by omega⟩ k)
      (by intro a h; match a with | ⟨0, _⟩ => rfl | ⟨1, _⟩ => exact absurd rfl h | ⟨2, _⟩ => rfl) (by simp <;> omega)).trans ?_
    rw [val_main_v14_apply, val_main_cst_0_apply, show (FloatOps.ofBits (F := Ideal) .f32 0x00000000#32 : EReal) = 0 from Ideal.ofBits_zero_f32]
    refine (Finset.sum_eq_zero fun b _ => Finset.sum_eq_zero fun s _ => ?_).symm
    rw [dif_neg h, zero_mul]
/-- The reference's gradient of the recurrence's rows of the weight. -/
theorem wb_at (l : Fin 512) (k : Fin 1024) : val_main_v19 (F := Ideal) x0 x1 x3 (ix2 l k)
    = (∑ b : Fin 2, ∑ s : Fin 2048, x1 (ix3 b s l) * x3 (ix3 b s k) : EReal) := by
  rw [val_main_v19_apply, show idx_main_v19 (ix2 l k) = ix2 (low l) k from idx_eq2 _ _ _ rfl rfl, weight_at]
  refine Finset.sum_congr rfl fun b _ => Finset.sum_congr rfl fun s _ => ?_
  rw [cat_low, mul_comm]

/-- A sum over all rows is a sum over batches and positions. -/
theorem rows_sum (g : Fin 2 → Fin 2048 → EReal) : (∑ r : Fin 4096, g (bat r) (pos r)) = ∑ b, ∑ s, g b s :=
  Fin.sum_divmod_congr (S := 2048) fun _ _ _ => rfl

end Cert.OutBwdRefIdeal.Ref

namespace Cert.OutBwdEq
open Idealize.ShloMosaic Idealize.SL.Sem Idealize.ShloMosaic.TcCoe Idealize.ShloMosaic.Tactic Cert.OutBwdIdeal Cert.OutBwdIdeal.Gen Cert.Ffn Cert.Out

/-! ## The value claim of the output product's gradients -/

/-- What the kernel leaves in its four results is what the reference computes. -/
theorem results (m : (ℓ : Loc nD τ sig) → Buf (Elt Ideal) ℓ) (c : Dev nD) :
    (dats m 0 c).arrAt 5 cfg0.N = Cert.OutBwdRefIdeal.Read.val_main_v17 (F := Ideal) (m ((c.tc : Thread nD τ).loc main_arg2)) (m ((c.tc : Thread nD τ).loc main_arg3))
    ∧ (dats m 0 c).arrAt 6 cfg0.N = Cert.OutBwdRefIdeal.Read.val_main_v18 (F := Ideal) (m ((c.tc : Thread nD τ).loc main_arg2)) (m ((c.tc : Thread nD τ).loc main_arg3))
    ∧ (dats m 0 c).arrAt 7 cfg0.N = Cert.OutBwdRefIdeal.Read.val_main_v16 (F := Ideal) (m ((c.tc : Thread nD τ).loc main_arg0)) (m ((c.tc : Thread nD τ).loc main_arg1)) (m ((c.tc : Thread nD τ).loc main_arg3))
    ∧ (dats m 0 c).arrAt 8 cfg0.N = Cert.OutBwdRefIdeal.Read.val_main_v19 (F := Ideal) (m ((c.tc : Thread nD τ).loc main_arg0)) (m ((c.tc : Thread nD τ).loc main_arg1)) (m ((c.tc : Thread nD τ).loc main_arg3)) := by
  refine ⟨(Arr.arr5 m c).trans ?_, (Arr.arr6 m c).trans ?_, (Arr.arr7 m c).trans ?_, (Arr.arr8 m c).trans ?_⟩
  · funext i
    rw [idx_eq2 i (i 0) (i 1) rfl rfl]
    refine Eq.trans ?_ (Cert.OutBwdRefIdeal.Ref.do_at _ _ _ _).symm
    refine Finset.sum_congr rfl fun k _ => ?_
    exact congrArg₂ (fun a b : EReal => a * b) (Arr.entry2 m c _ k) (Arr.entry3 m c _ k)
  · funext i
    rw [idx_eq2 i (i 0) (i 1) rfl rfl]
    refine Eq.trans ?_ (Cert.OutBwdRefIdeal.Ref.dy_at _ _ _ _).symm
    refine Finset.sum_congr rfl fun k _ => ?_
    exact congrArg₂ (fun a b : EReal => a * b) (Arr.entry2 m c _ k) (Arr.entry4 m c _ k)
  · funext i
    rw [idx_eq2 i (i 0) (i 1) rfl rfl]
    refine Eq.trans ?_ (Cert.OutBwdRefIdeal.Ref.wa_at _ _ _ _ _).symm
    refine Eq.trans ?_ (Cert.OutBwdRefIdeal.Ref.rows_sum _)
    refine Finset.sum_congr rfl fun r _ => ?_
    exact congrArg₂ (fun a b : EReal => a * b) (Arr.entry0 m c r _) (Arr.entry2 m c r _)
  · funext i
    rw [idx_eq2 i (i 0) (i 1) rfl rfl]
    refine Eq.trans ?_ (Cert.OutBwdRefIdeal.Ref.wb_at _ _ _ _ _).symm
    refine Eq.trans ?_ (Cert.OutBwdRefIdeal.Ref.rows_sum _)
    refine Finset.sum_congr rfl fun r _ => ?_
    exact congrArg₂ (fun a b : EReal => a * b) (Arr.entry1 m c r _) (Arr.entry2 m c r _)

/-- THE VALUE CLAIM of the output product's gradients. -/
theorem algebraic : algebraic_OutBwdIdeal_OutBwdRefIdeal (hOutBwdIdeal := Cert.OutBwdIdeal.Gen.facts)
    (hOutBwdRefIdeal := Cert.OutBwdRefIdeal.Gen.facts) := by
  intro m g m' g' _ hagree
  refine ⟨fun c => Cert.OutBwdRefIdeal.Read.val_main_v17 (F := Ideal) (m ((c.tc : Thread nD τ).loc main_arg2)) (m ((c.tc : Thread nD τ).loc main_arg3)),
    fun c => Cert.OutBwdRefIdeal.Read.val_main_v18 (F := Ideal) (m ((c.tc : Thread nD τ).loc main_arg2)) (m ((c.tc : Thread nD τ).loc main_arg3)),
    fun c => Cert.OutBwdRefIdeal.Read.val_main_v16 (F := Ideal) (m ((c.tc : Thread nD τ).loc main_arg0)) (m ((c.tc : Thread nD τ).loc main_arg1)) (m ((c.tc : Thread nD τ).loc main_arg3)),
    fun c => Cert.OutBwdRefIdeal.Read.val_main_v19 (F := Ideal) (m ((c.tc : Thread nD τ).loc main_arg0)) (m ((c.tc : Thread nD τ).loc main_arg1)) (m ((c.tc : Thread nD τ).loc main_arg3)), ?_, ?_⟩
  · refine (θ_run _ _ _).mono (fun r h c => ?_) (Cert.OutBwdIdeal.Value.run_blocks m g)
    obtain ⟨e5, e6, e7, e8, k⟩ := h c
    obtain ⟨r5, r6, r7, r8⟩ := results m c
    exact ⟨e5.trans r5, e6.trans r6, e7.trans r7, e8.trans r8, k⟩
  · refine (θ_run _ _ _).mono (fun r h c => ?_) (Cert.OutBwdRefIdeal.Value.run m' g')
    obtain ⟨e0, e1, e2, e3, k⟩ := h c
    obtain ⟨a0, a1, a2, a3⟩ := hagree c
    refine ⟨e0.trans ?_, e1.trans ?_, e2.trans ?_, e3.trans ?_, k⟩
    · rw [Cert.OutBwdRefIdeal.Read.val_main_v17_eq, a2, a3]
    · rw [Cert.OutBwdRefIdeal.Read.val_main_v18_eq, a2, a3]
    · rw [Cert.OutBwdRefIdeal.Read.val_main_v16_eq, a0, a1, a3]
    · rw [Cert.OutBwdRefIdeal.Read.val_main_v19_eq, a0, a1, a3]

end Cert.OutBwdEq
-- ==== Proof.OutFwdArr.lean ====
module

public import proofs.«01_k».proof.Proof.OutMath
public import proofs.«01_k».proof.Proof.Gen.OutFwdIdeal.Value
public import Idealize.ShloMosaic.Lib.Pipeline.ValueKit
public import Idealize.ShloMosaic.Lib.Pipeline.ReadBack

@[expose] public section
set_option maxRecDepth 16384
noncomputable section
namespace Cert.OutFwdIdeal.Arr
open Idealize.ShloMosaic Idealize.ShloMosaic.TcCoe Idealize.ShloMosaic.Tactic
open Cert.OutFwdIdeal Cert.OutFwdIdeal.Gen Cert.Ffn Cert.Out
variable (m : (ℓ : Loc nD τ sig) → Buf (Elt Ideal) ℓ)

/-! ## What a grid point computes -/

section Block
variable (x0 : Vec Ideal S1024x1024 .f32) (x1 : Vec Ideal S1024x1024 .bf16) (x2 : Vec Ideal S1024x512 .bf16) (x3 : Vec Ideal S1024x1024 .bf16)
  (x4 : Vec Ideal S512x1024 .bf16)

/-- A load of a whole block reads it, and one store of a whole block leaves what was stored. -/
theorem whole5 : out0_5 x0 x1 x2 x3 x4 = k0_pay1 x0 x1 x3 x2 x4 := by
  have h : (![0, 0] : Fin 2 → Nat) = fun _ => 0 := by decide
  unfold out0_5
  rw [View.ld_unit_zero h, View.ld_unit_zero h, View.ld_unit_zero h, View.ld_unit_zero h, View.ld_unit_zero h]
  exact View.canon_unit_zero h _ _
/-- An entry of the output's block. -/
theorem sum_at (r k : Fin 1024) : out0_5 x0 x1 x2 x3 x4 (ix2 r k)
    = (x0 (ix2 r k) + (∑ j : Fin 1024, x1 (ix2 r j) * x3 (ix2 j k)) + ∑ l : Fin 512, x2 (ix2 r l) * x4 (ix2 l k) : EReal) := by
  rw [whole5]
  pointwise [k0_pay1]

end Block

/-! ## Where a grid point's blocks lie -/

/-- A row of the flattened arrays from its tile and its place in the tile. -/
def row (i : Fin 4) (r : Fin 1024) : Fin 4096 := ⟨1024 * i.val + r.val, by omega⟩

/-- Which block of the stream a point has. -/
theorem idx0 : ∀ t : Fin grid0.N, win0_0.index t = ![(grid0.coords t 0).val, 0] := by decide +kernel
/-- Where the block of the stream lies. -/
theorem emb0 (t : Fin grid0.N) (r : Fin 1024) (j : Fin 1024) : (win0_0.blk t).view.emb (ix2 r j) = ix2 (row (grid0.coords t 0) r) j := by
  blk_ext [idx0 t, row]
/-- The array of the stream. -/
def A0 (c : Dev nD) : Vec Ideal S4096x1024 .f32 := V m c main_v0
/-- What the block of the stream reads. -/
theorem read0 (X : Vec Ideal S4096x1024 .f32) (t : Fin grid0.N) (r : Fin 1024) (j : Fin 1024) :
    (win0_0.blk t).view.read (Elt Ideal) X (ix2 r j) = X (ix2 (row (grid0.coords t 0) r) j) := congrArg X (emb0 t r j)
/-- What a point reads of the stream. -/
theorem blk0 (c : Dev nD) (t : Fin grid0.N) (r : Fin 1024) (j : Fin 1024) : iblk m c 0 t (ix2 r j) = A0 m c (ix2 (row (grid0.coords t 0) r) j) :=
  read0 (A0 m c) t r j

/-- Which block of the attention's output a point has. -/
theorem idx1 : ∀ t : Fin grid0.N, win0_1.index t = ![(grid0.coords t 0).val, 0] := by decide +kernel
/-- Where the block of the attention's output lies. -/
theorem emb1 (t : Fin grid0.N) (r : Fin 1024) (j : Fin 1024) : (win0_1.blk t).view.emb (ix2 r j) = ix2 (row (grid0.coords t 0) r) j := by
  blk_ext [idx1 t, row]
/-- The array of the attention's output. -/
def A1 (c : Dev nD) : Vec Ideal S4096x1024 .bf16 := V m c main_v3
/-- What the block of the attention's output reads. -/
theorem read1 (X : Vec Ideal S4096x1024 .bf16) (t : Fin grid0.N) (r : Fin 1024) (j : Fin 1024) :
    (win0_1.blk t).view.read (Elt Ideal) X (ix2 r j) = X (ix2 (row (grid0.coords t 0) r) j) := congrArg X (emb1 t r j)
/-- What a point reads of the attention's output. -/
theorem blk1 (c : Dev nD) (t : Fin grid0.N) (r : Fin 1024) (j : Fin 1024) : iblk m c 1 t (ix2 r j) = A1 m c (ix2 (row (grid0.coords t 0) r) j) :=
  read1 (A1 m c) t r j

/-- Which block of the recurrence's output a point has. -/
theorem idx2 : ∀ t : Fin grid0.N, win0_2.index t = ![(grid0.coords t 0).val, 0] := by decide +kernel
/-- Where the block of the recurrence's output lies. -/
theorem emb2 (t : Fin grid0.N) (r : Fin 1024) (j : Fin 512) : (win0_2.blk t).view.emb (ix2 r j) = ix2 (row (grid0.coords t 0) r) j := by
  blk_ext [idx2 t, row]
/-- The array of the recurrence's output. -/
def A2 (c : Dev nD) : Vec Ideal S4096x512 .bf16 := V m c main_v5
/-- What the block of the recurrence's output reads. -/
theorem read2 (X : Vec Ideal S4096x512 .bf16) (t : Fin grid0.N) (r : Fin 1024) (j : Fin 512) :
    (win0_2.blk t).view.read (Elt Ideal) X (ix2 r j) = X (ix2 (row (grid0.coords t 0) r) j) := congrArg X (emb2 t r j)
/-- What a point reads of the recurrence's output. -/
theorem blk2 (c : Dev nD) (t : Fin grid0.N) (r : Fin 1024) (j : Fin 512) : iblk m c 2 t (ix2 r j) = A2 m c (ix2 (row (grid0.coords t 0) r) j) :=
  read2 (A2 m c) t r j

/-- Which block of the attention's rows of the weight a point has. -/
theorem idx3 : ∀ t : Fin grid0.N, win0_3.index t = ![0, 0] := by decide +kernel
/-- Where the block of the attention's rows of the weight lies. -/
theorem emb3 (t : Fin grid0.N) (r : Fin 1024) (j : Fin 1024) : (win0_3.blk t).view.emb (ix2 r j) = ix2 r j := by
  blk_ext [idx3 t]
/-- The array of the attention's rows of the weight. -/
def A3 (c : Dev nD) : Vec Ideal S1024x1024 .bf16 := V m c main_v10
/-- What the block of the attention's rows of the weight reads. -/
theorem read3 (X : Vec Ideal S1024x1024 .bf16) (t : Fin grid0.N) (r : Fin 1024) (j : Fin 1024) :
    (win0_3.blk t).view.read (Elt Ideal) X (ix2 r j) = X (ix2 r j) := congrArg X (emb3 t r j)
/-- What a point reads of the attention's rows of the weight. -/
theorem blk3 (c : Dev nD) (t : Fin grid0.N) (r : Fin 1024) (j : Fin 1024) : iblk m c 3 t (ix2 r j) = A3 m c (ix2 r j) :=
  read3 (A3 m c) t r j

/-- Which block of the recurrence's rows of the weight a point has. -/
theorem idx4 : ∀ t : Fin grid0.N, win0_4.index t = ![0, 0] := by decide +kernel
/-- Where the block of the recurrence's rows of the weight lies. -/
theorem emb4 (t : Fin grid0.N) (r : Fin 512) (j : Fin 1024) : (win0_4.blk t).view.emb (ix2 r j) = ix2 r j := by
  blk_ext [idx4 t]
/-- The array of the recurrence's rows of the weight. -/
def A4 (c : Dev nD) : Vec Ideal S512x1024 .bf16 := V m c main_v12
/-- What the block of the recurrence's rows of the weight reads. -/
theorem read4 (X : Vec Ideal S512x1024 .bf16) (t : Fin grid0.N) (r : Fin 512) (j : Fin 1024) :
    (win0_4.blk t).view.read (Elt Ideal) X (ix2 r j) = X (ix2 r j) := congrArg X (emb4 t r j)
/-- What a point reads of the recurrence's rows of the weight. -/
theorem blk4 (c : Dev nD) (t : Fin grid0.N) (r : Fin 512) (j : Fin 1024) : iblk m c 4 t (ix2 r j) = A4 m c (ix2 r j) :=
  read4 (A4 m c) t r j

/-- Which block of the new stream a point has. -/
theorem idx5 : ∀ t : Fin grid0.N, win0_5.index t = ![(grid0.coords t 0).val, 0] := by decide +kernel
/-- Where the block of the new stream lies. -/
theorem emb5 (t : Fin grid0.N) (r : Fin 1024) (j : Fin 1024) : (win0_5.blk t).view.emb (ix2 r j) = ix2 (row (grid0.coords t 0) r) j := by
  blk_ext [idx5 t, row]

/-! ## The output array, as a function of the entry arrays -/

/-- The stream, plus the heads times their rows of the weight, plus the recurrence's output times its rows. -/
def sumA (X : Vec Ideal S4096x1024 .f32) (O : Vec Ideal S4096x1024 .bf16) (Y : Vec Ideal S4096x512 .bf16) (Wa : Vec Ideal S1024x1024 .bf16)
    (Wb : Vec Ideal S512x1024 .bf16) : Vec Ideal S4096x1024 .f32 :=
  fun i => (X (ix2 (i 0) (i 1)) + (∑ j : Fin 1024, O (ix2 (i 0) j) * Wa (ix2 j (i 1))) + ∑ l : Fin 512, Y (ix2 (i 0) l) * Wb (ix2 l (i 1)) : EReal)

/-- What a point leaves in the output: its block of the closed form. -/
theorem out5 (c : Dev nD) (t : Fin grid0.N) (r k : Fin 1024) :
    out0_5 (iblk m c 0 t) (iblk m c 1 t) (iblk m c 2 t) (iblk m c 3 t) (iblk m c 4 t) (ix2 r k)
      = sumA (A0 m c) (A1 m c) (A2 m c) (A3 m c) (A4 m c) (ix2 (row (grid0.coords t 0) r) k) := by
  refine (sum_at _ _ _ _ _ r k).trans ?_
  simp only [blk0, blk1, blk2, blk3, blk4]
  rfl
/-- The new stream after the last point. -/
theorem arr5 (c : Dev nD) : (dats m 0 c).arrAt 5 cfg0.N = sumA (A0 m c) (A1 m c) (A2 m c) (A3 m c) (A4 m c) := by
  refine (dats m 0 c).arrAt_eq_of_covers 5 _ (by decide +kernel) fun t hf y => ?_
  blk_simp
  rw [after0_5]
  have hy : y = ix2 (y 0) (y 1) := idx_eq2 (n0 := 1024) (n1 := 1024) y _ _ rfl rfl
  refine (congrArg (out0_5 (iblk m c 0 t) (iblk m c 1 t) (iblk m c 2 t) (iblk m c 3 t) (iblk m c 4 t)) hy).trans ((out5 m c t _ _).trans ?_)
  exact congrArg (sumA (A0 m c) (A1 m c) (A2 m c) (A3 m c) (A4 m c)) (((congrArg (win0_5.blk t).view.emb hy)).trans (emb5 t _ _)).symm

/-! ## The entry arrays, as functions of the arguments -/

/-- The padded heads. -/
theorem entry1 (c : Dev nD) (r : Fin 4096) (j : Fin 1024) : A1 m c (ix2 r j) = padO (m ((c.tc : Thread nD τ).loc main_arg1)) r j := by
  show Gen.V m c main_v3 _ = _
  entry_read
  pointwise
  exact padO_eq _ r j
/-- The flattened recurrence's output. -/
theorem entry2 (c : Dev nD) (r : Fin 4096) (l : Fin 512) : A2 m c (ix2 r l) = m ((c.tc : Thread nD τ).loc main_arg2) (ix3 (bat r) (pos r) l) := by
  show Gen.V m c main_v5 _ = _
  entry_read
  pointwise
  rfl
/-- The flattened array of the stream's width. -/
theorem entry0 (c : Dev nD) (r : Fin 4096) (k : Fin 1024) : A0 m c (ix2 r k) = m ((c.tc : Thread nD τ).loc main_arg0) (ix3 (bat r) (pos r) k) := by
  show Gen.V m c main_v0 _ = _
  entry_read
  pointwise
  rfl
/-- The attention's rows of the weight, padded. -/
theorem entry3 (c : Dev nD) (j k : Fin 1024) : A3 m c (ix2 j k) = padW (m ((c.tc : Thread nD τ).loc main_arg3)) j k := by
  show Gen.V m c main_v10 _ = _
  entry_read
  pointwise
  exact padW_eq _ j k
/-- The recurrence's rows of the weight. -/
theorem entry4 (c : Dev nD) (l : Fin 512) (k : Fin 1024) : A4 m c (ix2 l k) = m ((c.tc : Thread nD τ).loc main_arg3) (ix2 (low l) k) := by
  show Gen.V m c main_v12 _ = _
  entry_read
  pointwise
  rfl

end Cert.OutFwdIdeal.Arr
-- ==== Proof.OutFwdClaim.lean ====
module

public import proofs.«01_k».proof.Defs
public import proofs.«01_k».proof.Proof.OutFwdArr
public import proofs.«01_k».proof.Proof.Gen.OutFwdRefIdeal.Read
public import Idealize.ShloMosaic.Lib.KernelVsHost

@[expose] public section
set_option maxRecDepth 16384
noncomputable section
namespace Cert.OutFwdRefIdeal.Ref
open Idealize.ShloMosaic Idealize.ShloMosaic.Tactic Cert.OutFwdRefIdeal Cert.OutFwdRefIdeal.Read Cert.Ffn Cert.Out

/-! ## The reference's new stream at an entry -/

variable (x0 : (⟨S2x2048x1024, .f32⟩ : BufTy).Contents (Elt Ideal)) (x1 : (⟨S2x2048x8x64, .f32⟩ : BufTy).Contents (Elt Ideal))
  (x2 : (⟨S2x2048x512, .f32⟩ : BufTy).Contents (Elt Ideal)) (x3 : (⟨S1024x1024, .f32⟩ : BufTy).Contents (Elt Ideal))

/-- The joined outputs at a lane of the heads. -/
theorem cat_top (b : Fin 2) (s : Fin 2048) (q : Fin 512) : val_main_v1 (F := Ideal) x1 x2 (ix3 b s (top q)) = joinO x1 b s q := by
  unfold val_main_v1
  refine (concatenate_pair_apply_left (t := S2x2048x1024) (s₁ := S2x2048x512) (s₂ := S2x2048x512) (2 : Fin 3) _ _ _ (ix3 b s (top q)) rfl (ix3 b s q)
    (by intro a; match a with | ⟨0, _⟩ => rfl | ⟨1, _⟩ => rfl | ⟨2, _⟩ => rfl)).trans ?_
  rw [val_main_v0_apply]
  exact congrArg x1 (idx_eq4 _ _ _ _ _ (by simp <;> omega) (by simp <;> omega) (by simp <;> omega) (by simp <;> omega))
/-- The joined outputs at a lane of the recurrence's. -/
theorem cat_low (b : Fin 2) (s : Fin 2048) (l : Fin 512) : val_main_v1 (F := Ideal) x1 x2 (ix3 b s (low l)) = x2 (ix3 b s l) := by
  unfold val_main_v1
  exact concatenate_pair_apply_right (t := S2x2048x1024) (s₁ := S2x2048x512) (s₂ := S2x2048x512) (2 : Fin 3) _ _ _ (ix3 b s (low l)) rfl rfl (ix3 b s l)
    (by intro a h; match a with | ⟨0, _⟩ => rfl | ⟨1, _⟩ => rfl | ⟨2, _⟩ => exact absurd rfl h) (by simp [low, Nat.add_comm])

/-- The reference's new stream: the stream, plus the heads' product, plus the recurrence's. -/
theorem sum_at (r : Fin 4096) (k : Fin 1024) : val_main_v4 (F := Ideal) x0 x1 x2 x3 (ix2 r k)
    = (x0 (ix3 (bat r) (pos r) k) + (∑ j : Fin 1024, padO x1 r j * padW x3 j k) + ∑ l : Fin 512, x2 (ix3 (bat r) (pos r) l) * x3 (ix2 (low l) k) : EReal) := by
  rw [val_main_v4_apply, show idx_main_v4 (ix2 r k) = ix3 (bat r) (pos r) k from idx_eq3 _ _ _ _ (by simp [bat] <;> omega) (by simp [pos] <;> omega) (by simp <;> omega),
    val_main_v3_apply, val_main_v2_apply, pad_dot, add_assoc]
  refine congrArg (fun z : EReal => x0 (ix3 (bat r) (pos r) k) + z) ((halves _).trans ?_)
  refine congrArg₂ (fun a b : EReal => a + b) (Finset.sum_congr rfl fun q _ => ?_) (Finset.sum_congr rfl fun l _ => ?_)
  · rw [show lidx_main_v2 (ix3 (bat r) (pos r) k) (top q) = ix3 (bat r) (pos r) (top q) from idx_eq3 _ _ _ _ rfl rfl rfl,
      show ridx_main_v2 (ix3 (bat r) (pos r) k) (top q) = ix2 (top q) k from idx_eq2 _ _ _ rfl rfl, cat_top]
  · rw [show lidx_main_v2 (ix3 (bat r) (pos r) k) (low l) = ix3 (bat r) (pos r) (low l) from idx_eq3 _ _ _ _ rfl rfl rfl,
      show ridx_main_v2 (ix3 (bat r) (pos r) k) (low l) = ix2 (low l) k from idx_eq2 _ _ _ rfl rfl, cat_low]

end Cert.OutFwdRefIdeal.Ref

namespace Cert.OutFwdEq
open Idealize.ShloMosaic Idealize.SL.Sem Idealize.ShloMosaic.TcCoe Idealize.ShloMosaic.Tactic Cert.OutFwdIdeal Cert.OutFwdIdeal.Gen Cert.Ffn Cert.Out

/-! ## The value claim of the output product -/

/-- What the kernel leaves in its result is what the reference computes. -/
theorem result (m : (ℓ : Loc nD τ sig) → Buf (Elt Ideal) ℓ) (c : Dev nD) : (dats m 0 c).arrAt 5 cfg0.N = Cert.OutFwdRefIdeal.Read.val_main_v4 (F := Ideal) (m ((c.tc : Thread nD τ).loc main_arg0)) (m ((c.tc : Thread nD τ).loc main_arg1)) (m ((c.tc : Thread nD τ).loc main_arg2)) (m ((c.tc : Thread nD τ).loc main_arg3)) := by
  refine (Arr.arr5 m c).trans ?_
  funext i
  rw [idx_eq2 i (i 0) (i 1) rfl rfl]
  refine Eq.trans ?_ (Cert.OutFwdRefIdeal.Ref.sum_at _ _ _ _ _ _).symm
  refine congrArg₂ (fun a b : EReal => a + b) (congrArg₂ (fun a b : EReal => a + b) (Arr.entry0 m c _ _) (Finset.sum_congr rfl fun j _ => ?_)) (Finset.sum_congr rfl fun l _ => ?_)
  · exact congrArg₂ (fun a b : EReal => a * b) (Arr.entry1 m c _ j) (Arr.entry3 m c j _)
  · exact congrArg₂ (fun a b : EReal => a * b) (Arr.entry2 m c _ l) (Arr.entry4 m c l _)

/-- THE VALUE CLAIM of the output product. -/
theorem algebraic : algebraic_OutFwdIdeal_OutFwdRefIdeal (hOutFwdIdeal := Cert.OutFwdIdeal.Gen.facts)
    (hOutFwdRefIdeal := Cert.OutFwdRefIdeal.Gen.facts) := by
  intro m g m' g' _ hagree
  refine ⟨fun c => Cert.OutFwdRefIdeal.Read.val_main_v4 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (Cert.OutFwdIdeal.Value.run_blocks m g)
    obtain ⟨e5, k⟩ := h c
    exact ⟨e5.trans (result m c), k⟩
  · refine (θ_run _ _ _).mono (fun r h c => ?_) (Cert.OutFwdRefIdeal.Value.run m' g')
    obtain ⟨e0, k⟩ := h c
    obtain ⟨a0, a1, a2, a3⟩ := hagree c
    refine ⟨e0.trans ?_, k⟩
    rw [Cert.OutFwdRefIdeal.Read.val_main_v4_eq, a0, a1, a2, a3]

end Cert.OutFwdEq
-- ==== Proof.SguBlock.lean ====
module

public import proofs.«01_k».proof.Proof.FfnMath
public import proofs.«01_k».proof.Proof.Gen.SguFwdIdeal.Value
public import Idealize.ShloMosaic.Lib.Pipeline.ValueKit

@[expose] public section
set_option maxRecDepth 16384
noncomputable section
namespace Cert.Sgu
open Idealize.ShloMosaic Idealize.ShloMosaic.Tactic Cert.Ffn

/-! ## The spatial gating unit's functions of numbers -/

/-- The smooth rectifier in its hyperbolic tangent form. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- A row minus its mean. -/
def cen (v : Fin 1024 → EReal) (k : Fin 1024) : EReal := v k - Ideal.div (∑ q, v q) (Ideal.ofBits .f32 0x44800000#32)

/-- A row's layer normalisation with a scale and a shift. -/
def lnorm (v g b : Fin 1024 → EReal) (k : Fin 1024) : EReal := cen v k * rms (cen v) * g k + b k

/-- A lower half of the doubled features. -/
def lo (k : Fin 1024) : Fin 2048 := ⟨k.val, by omega⟩
/-- An upper half of the doubled features. -/
def up (k : Fin 1024) : Fin 2048 := ⟨1024 + k.val, by omega⟩
/-- A feature from its group and its place in the group. -/
def col (g : Fin 8) (c : Fin 128) : Fin 1024 := ⟨128 * g.val + c.val, by omega⟩
/-- A feature's group. -/
def grp (k : Fin 1024) : Fin 8 := ⟨k.val / 128, by omega⟩
/-- A feature's place in its group. -/
def plc (k : Fin 1024) : Fin 128 := ⟨k.val % 128, by omega⟩
/-- A row of a tile from its chunk and its place in the chunk. -/
def trow (n : Fin 2) (t : Fin 128) : Fin 256 := ⟨128 * n.val + t.val, by omega⟩
/-- A group's lane among the padded biases. -/
def lane (g : Fin 8) : Fin 128 := ⟨g.val, by omega⟩

/-- A feature is the one of its group and its place. -/
theorem col_of (k : Fin 1024) : k = col (grp k) (plc k) := Fin.ext (by simp only [col, grp, plc]; omega)

end Cert.Sgu

namespace Cert.SguFwdIdeal.Arr
open Idealize.ShloMosaic Idealize.ShloMosaic.TcCoe Idealize.ShloMosaic.Tactic
open Cert.SguFwdIdeal Cert.SguFwdIdeal.Gen Cert.Ffn Cert.Sgu

/-! ## What a grid point computes -/

section Block
variable (x0 : Vec Ideal S256x1024 .f32) (x1 : Vec Ideal S1x1024 .f32) (x2 : Vec Ideal S1024x2048 .bf16)

/-- The projected normalised rows. -/
def zz (r : Fin 256) (l : Fin 2048) : EReal := ∑ k, x0 (ix2 r k) * rms (fun x => x0 (ix2 r x)) * x1 (ix2 0 k) * x2 (ix2 k l)

/-- An entry of the rectified projection. -/
theorem act_at (r : Fin 256) (l : Fin 2048) : k0_pay2 x0 x1 x2 (ix2 r l) = gelu (zz x0 x1 x2 r l) := by
  pointwise [k0_pay2, k0_pay1]
  rfl

/-- An entry of the rectified projection's upper half. -/
theorem hi_at (r : Fin 256) (k : Fin 1024) : k0_pay3 x0 x1 x2 (ix2 r k) = gelu (zz x0 x1 x2 r (up k)) := by
  pointwise [k0_pay3]
  exact act_at x0 x1 x2 r (up k)

/-- A row sum of the upper half. -/
theorem sum_at (r : Fin 256) : k0_pay6 x0 x1 x2 (ix2 r 0) = (∑ k, gelu (zz x0 x1 x2 r (up k)) : EReal) := by
  pointwise [k0_pay6]
  exact Finset.sum_congr rfl fun k _ => hi_at x0 x1 x2 r k

/-- An entry of the layer normalisation. -/
theorem ln_at (v : Vec Ideal S256x1024 .f32) (g b : Vec Ideal S1x1024 .f32) (s : Vec Ideal S256x1 .f32)
    (hs : ∀ r, s (ix2 r 0) = (∑ k, v (ix2 r k) : EReal)) (r : Fin 256) (k : Fin 1024) :
    (k0_pay7 (F := Ideal) v g b s (ix2 r k) : EReal) = lnorm (fun q => v (ix2 r q)) (fun q => g (ix2 0 q)) (fun q => b (ix2 0 q)) k := by
  pointwise [k0_pay7]
  simp only [hs]
  rfl

/-- The causal comparison. -/
theorem tri_at (t j : Fin 128) : k0_pay9 (ix2 t j) = BitVec.ofBool (decide (j.val ≤ t.val)) := by
  pointwise [k0_pay9]
  exact WordCmp.cmpi_sge_ofNat (w := 32) (by have := t.isLt; omega) (by have := j.isLt; omega)

/-- A choice by the causal comparison. -/
theorem choose_at (t j : Fin 128) (a : EReal) : (Scalar.select (BitVec.ofBool (decide (j.val ≤ t.val))) a 0)
    = if j.val ≤ t.val then a else 0 := by
  by_cases h : j.val ≤ t.val
  · rw [if_pos h, decide_eq_true h]; rfl
  · rw [if_neg h, decide_eq_false h]; rfl

/-- Group 0's masked weight. -/
theorem mask0 (w : Vec Ideal S1x128x128 .f32) (t j : Fin 128) :
    k0_pay10 w (ix2 t j) = if j.val ≤ t.val then w (ix3 0 t j) else (0 : EReal) := by
  pointwise [k0_pay10]
  rw [tri_at]
  exact choose_at t j _

/-- Group 1's masked weight. -/
theorem mask1 (w : Vec Ideal S1x128x128 .f32) (t j : Fin 128) :
    k0_pay11 w (ix2 t j) = if j.val ≤ t.val then w (ix3 0 t j) else (0 : EReal) := by
  pointwise [k0_pay11]
  rw [tri_at]
  exact choose_at t j _

/-- Group 2's masked weight. -/
theorem mask2 (w : Vec Ideal S1x128x128 .f32) (t j : Fin 128) :
    k0_pay12 w (ix2 t j) = if j.val ≤ t.val then w (ix3 0 t j) else (0 : EReal) := by
  pointwise [k0_pay12]
  rw [tri_at]
  exact choose_at t j _

/-- Group 3's masked weight. -/
theorem mask3 (w : Vec Ideal S1x128x128 .f32) (t j : Fin 128) :
    k0_pay15 k0_pay9 (k0_pay13 w) k0_pay14 (ix2 t j) = if j.val ≤ t.val then w (ix3 0 t j) else (0 : EReal) := by
  pointwise [k0_pay15, k0_pay13, k0_pay14]
  rw [tri_at]
  exact choose_at t j _

/-- Group 4's masked weight. -/
theorem mask4 (w : Vec Ideal S1x128x128 .f32) (t j : Fin 128) :
    k0_pay16 k0_pay9 w (ix2 t j) = if j.val ≤ t.val then w (ix3 0 t j) else (0 : EReal) := by
  pointwise [k0_pay16]
  rw [tri_at]
  exact choose_at t j _

/-- Group 5's masked weight. -/
theorem mask5 (w : Vec Ideal S1x128x128 .f32) (t j : Fin 128) :
    k0_pay17 k0_pay9 w (ix2 t j) = if j.val ≤ t.val then w (ix3 0 t j) else (0 : EReal) := by
  pointwise [k0_pay17]
  rw [tri_at]
  exact choose_at t j _

/-- Group 6's masked weight. -/
theorem mask6 (w : Vec Ideal S1x128x128 .f32) (t j : Fin 128) :
    k0_pay18 k0_pay9 w (ix2 t j) = if j.val ≤ t.val then w (ix3 0 t j) else (0 : EReal) := by
  pointwise [k0_pay18]
  rw [tri_at]
  exact choose_at t j _

/-- Group 7's masked weight. -/
theorem mask7 (w : Vec Ideal S1x128x128 .f32) (t j : Fin 128) :
    k0_pay19 k0_pay9 w (ix2 t j) = if j.val ≤ t.val then w (ix3 0 t j) else (0 : EReal) := by
  pointwise [k0_pay19]
  rw [tri_at]
  exact choose_at t j _

/-- Group 3's masked weight, as the first chunk reads it. -/
theorem mask3' (w : Vec Ideal S1x128x128 .f32) (t j : Fin 128) :
    k0_pay25 k0_pay9 (k0_pay13 w) k0_pay14 (ix2 t j) = if j.val ≤ t.val then w (ix3 0 t j) else (0 : EReal) := by
  pointwise [k0_pay25, k0_pay15, k0_pay13, k0_pay14]
  rw [tri_at]
  exact choose_at t j _

/-- What a chunk's group leaves at a position and a place: the masked weight's row times the values' column, and the bias. -/
def piece (W : Fin 128 → Fin 128 → EReal) (V : Vec Ideal S256x1024 .f32) (B : Vec Ideal S128x128 .f32) (n : Fin 2) (g : Fin 8) (t c : Fin 128) : EReal :=
  (∑ j, W t j * V (ix2 (trow n j) (col g c))) + B (ix2 t (lane g))

/-- A product and a bias whose indices are a chunk's and a group's are that piece. -/
theorem piece_of (W : Fin 128 → Fin 128 → EReal) (V : Vec Ideal S256x1024 .f32) (B : Vec Ideal S128x128 .f32) (n : Fin 2) (g : Fin 8) (t c : Fin 128)
    (p : Fin 128 → Fin 256) (q : Fin 1024) (l : Fin 128) (hp : ∀ j, (p j).val = 128 * n.val + j.val) (hq : q.val = 128 * g.val + c.val) (hl : l.val = g.val) :
    (∑ j, W t j * V (ix2 (p j) q)) + B (ix2 t l) = piece W V B n g t c := by
  obtain rfl : q = col g c := Fin.ext hq
  obtain rfl : l = lane g := Fin.ext hl
  exact congrArg (fun z : EReal => z + B (ix2 t (lane g))) (Finset.sum_congr rfl fun j _ => by rw [show p j = trow n j from Fin.ext (hp j)])

variable (V : Vec Ideal S256x1024 .f32) (B W : Vec Ideal S128x128 .f32)

/-- Chunk 0, group 0. -/
theorem pc0_0 (t c : Fin 128) : (k0_pay21 (F := Ideal) V B W (ix2 t c) : EReal) = piece (fun t j => W (ix2 t j)) V B 0 0 t c := by
  pointwise [k0_pay21, k0_pay20]
  exact piece_of (fun t j => W (ix2 t j)) V B 0 0 t c (fun j => ⟨j.val, by omega⟩) ⟨c.val, by omega⟩ 0 (fun j => by simp) (by simp) rfl

/-- Chunk 0, group 1. -/
theorem pc0_1 (t c : Fin 128) : (k0_pay22 (F := Ideal) V B W (ix2 t c) : EReal) = piece (fun t j => W (ix2 t j)) V B 0 1 t c := by
  pointwise [k0_pay22, k0_pay20]
  exact piece_of (fun t j => W (ix2 t j)) V B 0 1 t c (fun j => ⟨j.val, by omega⟩) ⟨128 + c.val, by omega⟩ 1 (fun j => by simp) (by simp) rfl

/-- Chunk 0, group 2. -/
theorem pc0_2 (t c : Fin 128) : (k0_pay23 (F := Ideal) V B W (ix2 t c) : EReal) = piece (fun t j => W (ix2 t j)) V B 0 2 t c := by
  pointwise [k0_pay23, k0_pay20]
  exact piece_of (fun t j => W (ix2 t j)) V B 0 2 t c (fun j => ⟨j.val, by omega⟩) ⟨256 + c.val, by omega⟩ 2 (fun j => by simp) (by simp) rfl

/-- Chunk 1, group 0. -/
theorem pc1_0 (t c : Fin 128) : (k0_pay28 (F := Ideal) V B W (ix2 t c) : EReal) = piece (fun t j => W (ix2 t j)) V B 1 0 t c := by
  pointwise [k0_pay28, k0_pay27]
  exact piece_of (fun t j => W (ix2 t j)) V B 1 0 t c (fun j => ⟨128 + j.val, by omega⟩) ⟨c.val, by omega⟩ 0 (fun j => by simp) (by simp) rfl

/-- Chunk 1, group 1. -/
theorem pc1_1 (t c : Fin 128) : (k0_pay29 (F := Ideal) V B W (ix2 t c) : EReal) = piece (fun t j => W (ix2 t j)) V B 1 1 t c := by
  pointwise [k0_pay29, k0_pay27]
  exact piece_of (fun t j => W (ix2 t j)) V B 1 1 t c (fun j => ⟨128 + j.val, by omega⟩) ⟨128 + c.val, by omega⟩ 1 (fun j => by simp) (by simp) rfl

end Block
end Cert.SguFwdIdeal.Arr
-- ==== Proof.SguMix.lean ====
module

public import proofs.«01_k».proof.Proof.SguBlock

@[expose] public section
set_option maxRecDepth 16384
noncomputable section
namespace Cert.SguFwdIdeal.Arr
open Idealize.ShloMosaic Idealize.ShloMosaic.TcCoe Idealize.ShloMosaic.Tactic
open Cert.SguFwdIdeal Cert.SguFwdIdeal.Gen Cert.Ffn Cert.Sgu

/-! ## The mixed rows of a tile: two chunks of eight groups, joined -/

section Mix
variable (V : Vec Ideal S256x1024 .f32) (B W0 W1 W2 W4 W5 W6 W7 : Vec Ideal S128x128 .f32) (W3 : FVec Ideal S128x128 .bf16)

/-- The joined groups of the first chunk. -/
def cat0 : FVec Ideal S128x1024 .f32 :=
  k0_pay26 B W4 W5 W6 W7 (k0_pay20 V) (k0_pay21 V B W0) (k0_pay22 V B W1) (k0_pay23 V B W2) (k0_pay24 V) W3

/-- Group 0 of the first chunk. -/
theorem cat0_0 (t c : Fin 128) : cat0 V B W0 W1 W2 W4 W5 W6 W7 W3 (ix2 t (col 0 c)) = piece (fun t j => W0 (ix2 t j)) V B 0 0 t c := by
  unfold cat0 k0_pay26
  refine (concatenate_apply_piece (t := S128x1024) 1 _ _ (ix2 t (col 0 c)) 0 (by simp) S128x128 _ rfl rfl 0 rfl (ix2 t c) (by intro b hb; match b with | ⟨0, _⟩ => rfl | ⟨1, _⟩ => exact absurd rfl hb) rfl).trans ?_
  exact pc0_0 V B W0 t c
/-- Group 1 of the first chunk. -/
theorem cat0_1 (t c : Fin 128) : cat0 V B W0 W1 W2 W4 W5 W6 W7 W3 (ix2 t (col 1 c)) = piece (fun t j => W1 (ix2 t j)) V B 0 1 t c := by
  unfold cat0 k0_pay26
  refine (concatenate_apply_piece (t := S128x1024) 1 _ _ (ix2 t (col 1 c)) 1 (by simp) S128x128 _ rfl rfl 128 rfl (ix2 t c) (by intro b hb; match b with | ⟨0, _⟩ => rfl | ⟨1, _⟩ => exact absurd rfl hb) rfl).trans ?_
  exact pc0_1 V B W1 t c
/-- Group 2 of the first chunk. -/
theorem cat0_2 (t c : Fin 128) : cat0 V B W0 W1 W2 W4 W5 W6 W7 W3 (ix2 t (col 2 c)) = piece (fun t j => W2 (ix2 t j)) V B 0 2 t c := by
  unfold cat0 k0_pay26
  refine (concatenate_apply_piece (t := S128x1024) 1 _ _ (ix2 t (col 2 c)) 2 (by simp) S128x128 _ rfl rfl 256 rfl (ix2 t c) (by intro b hb; match b with | ⟨0, _⟩ => rfl | ⟨1, _⟩ => exact absurd rfl hb) rfl).trans ?_
  exact pc0_2 V B W2 t c
/-- Group 3 of the first chunk. -/
theorem cat0_3 (t c : Fin 128) : cat0 V B W0 W1 W2 W4 W5 W6 W7 W3 (ix2 t (col 3 c)) = piece (fun t j => W3 (ix2 t j)) V B 0 3 t c := by
  unfold cat0 k0_pay26
  refine (concatenate_apply_piece (t := S128x1024) 1 _ _ (ix2 t (col 3 c)) 3 (by simp) S128x128 _ rfl rfl 384 rfl (ix2 t c) (by intro b hb; match b with | ⟨0, _⟩ => rfl | ⟨1, _⟩ => exact absurd rfl hb) rfl).trans ?_
  pointwise [k0_pay20, k0_pay24]
  exact piece_of (fun t j => W3 (ix2 t j)) V B 0 3 t c (fun j => ⟨j.val, by omega⟩) ⟨384 + c.val, by omega⟩ 3 (fun j => by simp) (by simp) rfl
/-- Group 4 of the first chunk. -/
theorem cat0_4 (t c : Fin 128) : cat0 V B W0 W1 W2 W4 W5 W6 W7 W3 (ix2 t (col 4 c)) = piece (fun t j => W4 (ix2 t j)) V B 0 4 t c := by
  unfold cat0 k0_pay26
  refine (concatenate_apply_piece (t := S128x1024) 1 _ _ (ix2 t (col 4 c)) 4 (by simp) S128x128 _ rfl rfl 512 rfl (ix2 t c) (by intro b hb; match b with | ⟨0, _⟩ => rfl | ⟨1, _⟩ => exact absurd rfl hb) rfl).trans ?_
  pointwise [k0_pay20, k0_pay24]
  exact piece_of (fun t j => W4 (ix2 t j)) V B 0 4 t c (fun j => ⟨j.val, by omega⟩) ⟨512 + c.val, by omega⟩ 4 (fun j => by simp) (by simp) rfl
/-- Group 5 of the first chunk. -/
theorem cat0_5 (t c : Fin 128) : cat0 V B W0 W1 W2 W4 W5 W6 W7 W3 (ix2 t (col 5 c)) = piece (fun t j => W5 (ix2 t j)) V B 0 5 t c := by
  unfold cat0 k0_pay26
  refine (concatenate_apply_piece (t := S128x1024) 1 _ _ (ix2 t (col 5 c)) 5 (by simp) S128x128 _ rfl rfl 640 rfl (ix2 t c) (by intro b hb; match b with | ⟨0, _⟩ => rfl | ⟨1, _⟩ => exact absurd rfl hb) rfl).trans ?_
  pointwise [k0_pay20, k0_pay24]
  exact piece_of (fun t j => W5 (ix2 t j)) V B 0 5 t c (fun j => ⟨j.val, by omega⟩) ⟨640 + c.val, by omega⟩ 5 (fun j => by simp) (by simp) rfl
/-- Group 6 of the first chunk. -/
theorem cat0_6 (t c : Fin 128) : cat0 V B W0 W1 W2 W4 W5 W6 W7 W3 (ix2 t (col 6 c)) = piece (fun t j => W6 (ix2 t j)) V B 0 6 t c := by
  unfold cat0 k0_pay26
  refine (concatenate_apply_piece (t := S128x1024) 1 _ _ (ix2 t (col 6 c)) 6 (by simp) S128x128 _ rfl rfl 768 rfl (ix2 t c) (by intro b hb; match b with | ⟨0, _⟩ => rfl | ⟨1, _⟩ => exact absurd rfl hb) rfl).trans ?_
  pointwise [k0_pay20, k0_pay24]
  exact piece_of (fun t j => W6 (ix2 t j)) V B 0 6 t c (fun j => ⟨j.val, by omega⟩) ⟨768 + c.val, by omega⟩ 6 (fun j => by simp) (by simp) rfl
/-- Group 7 of the first chunk. -/
theorem cat0_7 (t c : Fin 128) : cat0 V B W0 W1 W2 W4 W5 W6 W7 W3 (ix2 t (col 7 c)) = piece (fun t j => W7 (ix2 t j)) V B 0 7 t c := by
  unfold cat0 k0_pay26
  refine (concatenate_apply_piece (t := S128x1024) 1 _ _ (ix2 t (col 7 c)) 7 (by simp) S128x128 _ rfl rfl 896 rfl (ix2 t c) (by intro b hb; match b with | ⟨0, _⟩ => rfl | ⟨1, _⟩ => exact absurd rfl hb) rfl).trans ?_
  pointwise [k0_pay20, k0_pay24]
  exact piece_of (fun t j => W7 (ix2 t j)) V B 0 7 t c (fun j => ⟨j.val, by omega⟩) ⟨896 + c.val, by omega⟩ 7 (fun j => by simp) (by simp) rfl

variable (v1 : FVec Ideal S256x1024 .f32) (v32 : FVec Ideal S256x2048 .f32) (U : Vec Ideal S1024x1024 .bf16) (W3' : Vec Ideal S128x128 .f32)

/-- The output block over the masked weights. -/
def outB : FVec Ideal S256x1024 .f32 :=
  k0_pay32 v1 v32 B W3' W4 W5 W6 W7 (cat0 V B W0 W1 W2 W4 W5 W6 W7 W3) (k0_pay27 V) (k0_pay28 V B W0) (k0_pay29 V B W1) (k0_pay30 W2) (k0_pay31 V)
    (constant S128x128 .f32 0x00000000#32) U

/-- An entry of the output block: the row of the stream, and the gated mixed row times the output weight's column. -/
theorem outB_at (W : Fin 8 → Fin 128 → Fin 128 → EReal)
    (h0 : ∀ t j, W0 (ix2 t j) = W 0 t j)
    (h1 : ∀ t j, W1 (ix2 t j) = W 1 t j)
    (h2 : ∀ t j, W2 (ix2 t j) = W 2 t j)
    (h3 : ∀ t j, W3 (ix2 t j) = W 3 t j)
    (h4 : ∀ t j, W4 (ix2 t j) = W 4 t j)
    (h5 : ∀ t j, W5 (ix2 t j) = W 5 t j)
    (h6 : ∀ t j, W6 (ix2 t j) = W 6 t j)
    (h7 : ∀ t j, W7 (ix2 t j) = W 7 t j)
    (h3' : ∀ t j, W3' (ix2 t j) = W 3 t j) (n : Fin 2) (t : Fin 128) (k : Fin 1024) :
    (outB V B W0 W1 W2 W4 W5 W6 W7 W3 v1 v32 U W3' (ix2 (trow n t) k) : EReal)
      = v1 (ix2 (trow n t) k) + ∑ f, (v32 (ix2 (trow n t) (lo f)) * piece (W (grp f)) V B n (grp f) t (plc f)) * U (ix2 f k) := by
  unfold outB k0_pay32
  generalize hC : concatenate S256x1024 0 _ _ = C
  have key : ∀ g c, C (ix2 (trow n t) (col g c)) = piece (W g) V B n g t c := by
    intro g c
    rw [← hC]
    match n with
    | 0 =>
      refine (concatenate_apply_piece (t := S256x1024) 0 _ _ (ix2 (trow 0 t) (col g c)) 0 (by simp) S128x1024 _ rfl rfl 0 rfl (ix2 t (col g c)) (by intro b hb; match b with | ⟨0, _⟩ => exact absurd rfl hb | ⟨1, _⟩ => rfl) (by simp [trow])).trans ?_
      match g with
      | 0 => exact (cat0_0 V B W0 W1 W2 W4 W5 W6 W7 W3 t c).trans (by simp only [h0])
      | 1 => exact (cat0_1 V B W0 W1 W2 W4 W5 W6 W7 W3 t c).trans (by simp only [h1])
      | 2 => exact (cat0_2 V B W0 W1 W2 W4 W5 W6 W7 W3 t c).trans (by simp only [h2])
      | 3 => exact (cat0_3 V B W0 W1 W2 W4 W5 W6 W7 W3 t c).trans (by simp only [h3])
      | 4 => exact (cat0_4 V B W0 W1 W2 W4 W5 W6 W7 W3 t c).trans (by simp only [h4])
      | 5 => exact (cat0_5 V B W0 W1 W2 W4 W5 W6 W7 W3 t c).trans (by simp only [h5])
      | 6 => exact (cat0_6 V B W0 W1 W2 W4 W5 W6 W7 W3 t c).trans (by simp only [h6])
      | 7 => exact (cat0_7 V B W0 W1 W2 W4 W5 W6 W7 W3 t c).trans (by simp only [h7])
    | 1 =>
      refine (concatenate_apply_piece (t := S256x1024) 0 _ _ (ix2 (trow 1 t) (col g c)) 1 (by simp) S128x1024 _ rfl rfl 128 rfl (ix2 t (col g c)) (by intro b hb; match b with | ⟨0, _⟩ => exact absurd rfl hb | ⟨1, _⟩ => rfl) rfl).trans ?_
      match g with
      | 0 =>
        refine (concatenate_apply_piece (t := S128x1024) 1 _ _ (ix2 t (col 0 c)) 0 (by simp) S128x128 _ rfl rfl 0 rfl (ix2 t c) (by intro b hb; match b with | ⟨0, _⟩ => rfl | ⟨1, _⟩ => exact absurd rfl hb) rfl).trans ?_
        exact (pc1_0 V B W0 t c).trans (by simp only [h0])
      | 1 =>
        refine (concatenate_apply_piece (t := S128x1024) 1 _ _ (ix2 t (col 1 c)) 1 (by simp) S128x128 _ rfl rfl 128 rfl (ix2 t c) (by intro b hb; match b with | ⟨0, _⟩ => rfl | ⟨1, _⟩ => exact absurd rfl hb) rfl).trans ?_
        exact (pc1_1 V B W1 t c).trans (by simp only [h1])
      | 2 =>
        refine (concatenate_apply_piece (t := S128x1024) 1 _ _ (ix2 t (col 2 c)) 2 (by simp) S128x128 _ rfl rfl 256 rfl (ix2 t c) (by intro b hb; match b with | ⟨0, _⟩ => rfl | ⟨1, _⟩ => exact absurd rfl hb) rfl).trans ?_
        pointwise [k0_pay27, k0_pay30, k0_pay31]
        simp only [h2]
        exact piece_of (W 2) V B 1 2 t c (fun j => ⟨128 + j.val, by omega⟩) ⟨256 + c.val, by omega⟩ 2 (fun j => by simp) (by simp) rfl
      | 3 =>
        refine (concatenate_apply_piece (t := S128x1024) 1 _ _ (ix2 t (col 3 c)) 3 (by simp) S128x128 _ rfl rfl 384 rfl (ix2 t c) (by intro b hb; match b with | ⟨0, _⟩ => rfl | ⟨1, _⟩ => exact absurd rfl hb) rfl).trans ?_
        pointwise [k0_pay27, k0_pay30, k0_pay31]
        simp only [h3']
        exact piece_of (W 3) V B 1 3 t c (fun j => ⟨128 + j.val, by omega⟩) ⟨384 + c.val, by omega⟩ 3 (fun j => by simp) (by simp) rfl
      | 4 =>
        refine (concatenate_apply_piece (t := S128x1024) 1 _ _ (ix2 t (col 4 c)) 4 (by simp) S128x128 _ rfl rfl 512 rfl (ix2 t c) (by intro b hb; match b with | ⟨0, _⟩ => rfl | ⟨1, _⟩ => exact absurd rfl hb) rfl).trans ?_
        pointwise [k0_pay27, k0_pay30, k0_pay31]
        simp only [h4]
        exact piece_of (W 4) V B 1 4 t c (fun j => ⟨128 + j.val, by omega⟩) ⟨512 + c.val, by omega⟩ 4 (fun j => by simp) (by simp) rfl
      | 5 =>
        refine (concatenate_apply_piece (t := S128x1024) 1 _ _ (ix2 t (col 5 c)) 5 (by simp) S128x128 _ rfl rfl 640 rfl (ix2 t c) (by intro b hb; match b with | ⟨0, _⟩ => rfl | ⟨1, _⟩ => exact absurd rfl hb) rfl).trans ?_
        pointwise [k0_pay27, k0_pay30, k0_pay31]
        simp only [h5]
        exact piece_of (W 5) V B 1 5 t c (fun j => ⟨128 + j.val, by omega⟩) ⟨640 + c.val, by omega⟩ 5 (fun j => by simp) (by simp) rfl
      | 6 =>
        refine (concatenate_apply_piece (t := S128x1024) 1 _ _ (ix2 t (col 6 c)) 6 (by simp) S128x128 _ rfl rfl 768 rfl (ix2 t c) (by intro b hb; match b with | ⟨0, _⟩ => rfl | ⟨1, _⟩ => exact absurd rfl hb) rfl).trans ?_
        pointwise [k0_pay27, k0_pay30, k0_pay31]
        simp only [h6]
        exact piece_of (W 6) V B 1 6 t c (fun j => ⟨128 + j.val, by omega⟩) ⟨768 + c.val, by omega⟩ 6 (fun j => by simp) (by simp) rfl
      | 7 =>
        refine (concatenate_apply_piece (t := S128x1024) 1 _ _ (ix2 t (col 7 c)) 7 (by simp) S128x128 _ rfl rfl 896 rfl (ix2 t c) (by intro b hb; match b with | ⟨0, _⟩ => rfl | ⟨1, _⟩ => exact absurd rfl hb) rfl).trans ?_
        pointwise [k0_pay27, k0_pay30, k0_pay31]
        simp only [h7]
        exact piece_of (W 7) V B 1 7 t c (fun j => ⟨128 + j.val, by omega⟩) ⟨896 + c.val, by omega⟩ 7 (fun j => by simp) (by simp) rfl
  pointwise
  refine congrArg (fun z : EReal => v1 (ix2 (trow n t) k) + z) (Finset.sum_congr rfl fun f _ => ?_)
  have e := key (grp f) (plc f)
  rw [← col_of] at e
  rw [e]
  rfl

end Mix
end Cert.SguFwdIdeal.Arr
-- ==== Proof.SguFwdArr.lean ====
module

public import proofs.«01_k».proof.Proof.SguMix
public import Idealize.ShloMosaic.Lib.Pipeline.ReadBack

@[expose] public section
set_option maxRecDepth 16384
noncomputable section
namespace Cert.SguFwdIdeal.Arr
open Idealize.ShloMosaic Idealize.ShloMosaic.TcCoe Idealize.ShloMosaic.Tactic
open Cert.SguFwdIdeal Cert.SguFwdIdeal.Gen Cert.Ffn Cert.Sgu
variable (m : (ℓ : Loc nD τ sig) → Buf (Elt Ideal) ℓ)

/-! ## The output block, from the input blocks -/

section Out
variable (x0 : Vec Ideal S256x1024 .f32) (x1 : Vec Ideal S1x1024 .f32) (x2 : Vec Ideal S1024x2048 .bf16) (x3 x4 : Vec Ideal S1x1024 .f32)
  (x5 : Vec Ideal S8x128x128 .f32) (x6 : Vec Ideal S128x128 .f32) (x7 : Vec Ideal S1024x1024 .bf16)

/-- The normalised values of a tile. -/
def vblk : Vec Ideal S256x1024 .f32 := k0_pay7 (k0_pay3 x0 x1 x2) (k0_pay4 x3) (k0_pay5 x4) (k0_pay6 x0 x1 x2)

/-- An entry of the normalised values. -/
theorem vblk_at (r : Fin 256) (k : Fin 1024) : vblk x0 x1 x2 x3 x4 (ix2 r k)
    = lnorm (fun q => gelu (zz x0 x1 x2 r (up q))) (fun q => x3 (ix2 0 q)) (fun q => x4 (ix2 0 q)) k := by
  unfold vblk
  rw [ln_at _ _ _ _ (fun r => (sum_at x0 x1 x2 r).trans (Finset.sum_congr rfl fun k _ => (hi_at x0 x1 x2 r k).symm))]
  have e3 : ∀ q, k0_pay4 x3 (ix2 0 q) = x3 (ix2 0 q) := fun q => by pointwise [k0_pay4]
  have e4 : ∀ q, k0_pay5 x4 (ix2 0 q) = x4 (ix2 0 q) := fun q => by pointwise [k0_pay5]
  simp only [e3, e4, hi_at]

/-- Group 0's weight, as loaded. -/
theorem load0 (t j : Fin 128) : View.ld x5 r0_4 (ix3 0 t j) = x5 (ix3 0 t j) :=
  View.ld_unit_apply_of x5 _ _ _ _ _ (by intro a; match a with | ⟨0, _⟩ => rfl | ⟨1, _⟩ => exact (Nat.zero_add _).symm | ⟨2, _⟩ => exact (Nat.zero_add _).symm)
/-- Group 1's weight, as loaded. -/
theorem load1 (t j : Fin 128) : View.ld x5 r0_5 (ix3 0 t j) = x5 (ix3 1 t j) :=
  View.ld_unit_apply_of x5 _ _ _ _ _ (by intro a; match a with | ⟨0, _⟩ => rfl | ⟨1, _⟩ => exact (Nat.zero_add _).symm | ⟨2, _⟩ => exact (Nat.zero_add _).symm)
/-- Group 2's weight, as loaded. -/
theorem load2 (t j : Fin 128) : View.ld x5 r0_6 (ix3 0 t j) = x5 (ix3 2 t j) :=
  View.ld_unit_apply_of x5 _ _ _ _ _ (by intro a; match a with | ⟨0, _⟩ => rfl | ⟨1, _⟩ => exact (Nat.zero_add _).symm | ⟨2, _⟩ => exact (Nat.zero_add _).symm)
/-- Group 3's weight, as loaded. -/
theorem load3 (t j : Fin 128) : View.ld x5 r0_7 (ix3 0 t j) = x5 (ix3 3 t j) :=
  View.ld_unit_apply_of x5 _ _ _ _ _ (by intro a; match a with | ⟨0, _⟩ => rfl | ⟨1, _⟩ => exact (Nat.zero_add _).symm | ⟨2, _⟩ => exact (Nat.zero_add _).symm)
/-- Group 4's weight, as loaded. -/
theorem load4 (t j : Fin 128) : View.ld x5 r0_8 (ix3 0 t j) = x5 (ix3 4 t j) :=
  View.ld_unit_apply_of x5 _ _ _ _ _ (by intro a; match a with | ⟨0, _⟩ => rfl | ⟨1, _⟩ => exact (Nat.zero_add _).symm | ⟨2, _⟩ => exact (Nat.zero_add _).symm)
/-- Group 5's weight, as loaded. -/
theorem load5 (t j : Fin 128) : View.ld x5 r0_9 (ix3 0 t j) = x5 (ix3 5 t j) :=
  View.ld_unit_apply_of x5 _ _ _ _ _ (by intro a; match a with | ⟨0, _⟩ => rfl | ⟨1, _⟩ => exact (Nat.zero_add _).symm | ⟨2, _⟩ => exact (Nat.zero_add _).symm)
/-- Group 6's weight, as loaded. -/
theorem load6 (t j : Fin 128) : View.ld x5 r0_10 (ix3 0 t j) = x5 (ix3 6 t j) :=
  View.ld_unit_apply_of x5 _ _ _ _ _ (by intro a; match a with | ⟨0, _⟩ => rfl | ⟨1, _⟩ => exact (Nat.zero_add _).symm | ⟨2, _⟩ => exact (Nat.zero_add _).symm)
/-- Group 7's weight, as loaded. -/
theorem load7 (t j : Fin 128) : View.ld x5 r0_11 (ix3 0 t j) = x5 (ix3 7 t j) :=
  View.ld_unit_apply_of x5 _ _ _ _ _ (by intro a; match a with | ⟨0, _⟩ => rfl | ⟨1, _⟩ => exact (Nat.zero_add _).symm | ⟨2, _⟩ => exact (Nat.zero_add _).symm)

/-- Loads of whole blocks read them, and one store of a whole block leaves what was stored. -/
theorem whole8 : out0_8 x0 x1 x2 x3 x4 x5 x6 x7 = outB (vblk x0 x1 x2 x3 x4) (k0_pay8 x6) (k0_pay10 (View.ld x5 r0_4)) (k0_pay11 (View.ld x5 r0_5))
    (k0_pay12 (View.ld x5 r0_6)) (k0_pay16 k0_pay9 (View.ld x5 r0_8)) (k0_pay17 k0_pay9 (View.ld x5 r0_9)) (k0_pay18 k0_pay9 (View.ld x5 r0_10))
    (k0_pay19 k0_pay9 (View.ld x5 r0_11)) (k0_pay25 k0_pay9 (k0_pay13 (View.ld x5 r0_7)) k0_pay14) (k0_pay1 x0) (k0_pay2 x0 x1 x2) x7
    (k0_pay15 k0_pay9 (k0_pay13 (View.ld x5 r0_7)) k0_pay14) := by
  have h : (![0, 0] : Fin 2 → Nat) = fun _ => 0 := by decide
  have l0 : View.ld x0 r0_0 = x0 := View.ld_unit_zero h _ _
  have l1 : View.ld x1 r0_1 = x1 := View.ld_unit_zero h _ _
  have l2 : View.ld x2 r0_2 = x2 := View.ld_unit_zero h _ _
  have l3 : View.ld x3 r0_1 = x3 := View.ld_unit_zero h _ _
  have l4 : View.ld x4 r0_1 = x4 := View.ld_unit_zero h _ _
  have l6 : View.ld x6 r0_3 = x6 := View.ld_unit_zero h _ _
  have l7 : View.ld x7 r0_12 = x7 := View.ld_unit_zero h _ _
  unfold_out out0_8
  rw [l0, l1, l2, l3, l4, l6, l7]
  exact View.canon_unit_zero h _ _

/-- A masked weight of a group. -/
def wm (g : Fin 8) (t j : Fin 128) : EReal := if j.val ≤ t.val then x5 (ix3 g t j) else 0

/-- A mixed value of a tile: the masked weight's row times the normalised values of the chunk, and the bias. -/
def bmix (n : Fin 2) (t : Fin 128) (f : Fin 1024) : EReal :=
  (∑ j, wm x5 (grp f) t j * lnorm (fun q => gelu (zz x0 x1 x2 (trow n j) (up q))) (fun q => x3 (ix2 0 q)) (fun q => x4 (ix2 0 q)) f) + x6 (ix2 t (lane (grp f)))

/-- A piece over the normalised values is a mixed value. -/
theorem piece_mix (n : Fin 2) (t : Fin 128) (f : Fin 1024) :
    piece (wm x5 (grp f)) (vblk x0 x1 x2 x3 x4) (k0_pay8 x6) n (grp f) t (plc f) = bmix x0 x1 x2 x3 x4 x5 x6 n t f := by
  unfold piece bmix
  rw [← col_of]
  have e6 : k0_pay8 x6 (ix2 t (lane (grp f))) = x6 (ix2 t (lane (grp f))) := by pointwise [k0_pay8]
  simp only [vblk_at, e6]

/-- An entry of the output block. -/
theorem out_at (n : Fin 2) (t : Fin 128) (k : Fin 1024) : (out0_8 x0 x1 x2 x3 x4 x5 x6 x7 (ix2 (trow n t) k) : EReal)
    = x0 (ix2 (trow n t) k) + ∑ f, (gelu (zz x0 x1 x2 (trow n t) (lo f)) * bmix x0 x1 x2 x3 x4 x5 x6 n t f) * x7 (ix2 f k) := by
  rw [whole8]
  refine (outB_at _ _ _ _ _ _ _ _ _ _ _ _ _ _ (wm x5)
    (fun t j => (mask0 _ t j).trans (by rw [load0]; rfl))
    (fun t j => (mask1 _ t j).trans (by rw [load1]; rfl))
    (fun t j => (mask2 _ t j).trans (by rw [load2]; rfl))
    (fun t j => (mask3' _ t j).trans (by rw [load3]; rfl))
    (fun t j => (mask4 _ t j).trans (by rw [load4]; rfl))
    (fun t j => (mask5 _ t j).trans (by rw [load5]; rfl))
    (fun t j => (mask6 _ t j).trans (by rw [load6]; rfl))
    (fun t j => (mask7 _ t j).trans (by rw [load7]; rfl))
    (fun t j => (mask3 _ t j).trans (by rw [load3]; rfl)) n t k).trans ?_
  have e1 : k0_pay1 x0 (ix2 (trow n t) k) = x0 (ix2 (trow n t) k) := by pointwise [k0_pay1]
  rw [e1]
  refine congrArg (fun z : EReal => x0 (ix2 (trow n t) k) + z) (Finset.sum_congr rfl fun f _ => ?_)
  rw [act_at, piece_mix]

end Out

/-! ## Where a grid point's blocks lie -/

/-- A row of the flattened activations from its tile and its place in the tile. -/
def row (i : Fin 16) (r : Fin 256) : Fin 4096 := ⟨256 * i.val + r.val, by omega⟩

/-- Which block of the activations a point takes. -/
theorem idx0 : ∀ t : Fin grid0.N, win0_0.index t = ![(grid0.coords t 0).val, 0] := by decide +kernel
/-- Which block of the scale a point takes. -/
theorem idx1 : ∀ t : Fin grid0.N, win0_1.index t = ![0, 0] := by decide +kernel
/-- Which block of the input weight a point takes. -/
theorem idx2 : ∀ t : Fin grid0.N, win0_2.index t = ![0, 0] := by decide +kernel
/-- Which block of the layer scale a point takes. -/
theorem idx3 : ∀ t : Fin grid0.N, win0_3.index t = ![0, 0] := by decide +kernel
/-- Which block of the layer shift a point takes. -/
theorem idx4 : ∀ t : Fin grid0.N, win0_4.index t = ![0, 0] := by decide +kernel
/-- Which block of the mixing weights a point takes. -/
theorem idx5 : ∀ t : Fin grid0.N, win0_5.index t = ![0, 0, 0] := by decide +kernel
/-- Which block of the biases a point takes. -/
theorem idx6 : ∀ t : Fin grid0.N, win0_6.index t = ![0, 0] := by decide +kernel
/-- Which block of the output weight a point takes. -/
theorem idx7 : ∀ t : Fin grid0.N, win0_7.index t = ![0, 0] := by decide +kernel
/-- Which block of the result a point takes. -/
theorem idx8 : ∀ t : Fin grid0.N, win0_8.index t = ![(grid0.coords t 0).val, 0] := by decide +kernel
/-- The entry array of the activations. -/
def A0 (c : Dev nD) : Vec Ideal S4096x1024 .f32 := V m c main_v7
/-- Where the block of the activations lies. -/
theorem emb0 (t : Fin grid0.N) (r : Fin 256) (k : Fin 1024) : (win0_0.blk t).view.emb (ix2 r k) = ix2 (row (grid0.coords t 0) r) k := by
  blk_ext [idx0 t, row]
/-- What the block of the activations reads. -/
theorem read0 (X : Vec Ideal S4096x1024 .f32) (t : Fin grid0.N) (r : Fin 256) (k : Fin 1024) :
    (win0_0.blk t).view.read (Elt Ideal) X (ix2 r k) = X (ix2 (row (grid0.coords t 0) r) k) := congrArg X (emb0 t r k)
/-- What a point reads of the activations. -/
theorem blk0 (c : Dev nD) (t : Fin grid0.N) (r : Fin 256) (k : Fin 1024) : iblk m c 0 t (ix2 r k) = A0 m c (ix2 (row (grid0.coords t 0) r) k) :=
  read0 (A0 m c) t r k
/-- The entry array of the scale. -/
def A1 (c : Dev nD) : Vec Ideal S1x1024 .f32 := V m c main_v2
/-- Where the block of the scale lies. -/
theorem emb1 (t : Fin grid0.N) (k : Fin 1024) : (win0_1.blk t).view.emb (ix2 0 k) = ix2 0 k := by
  blk_ext [idx1 t]
/-- What the block of the scale reads. -/
theorem read1 (X : Vec Ideal S1x1024 .f32) (t : Fin grid0.N) (k : Fin 1024) :
    (win0_1.blk t).view.read (Elt Ideal) X (ix2 0 k) = X (ix2 0 k) := congrArg X (emb1 t k)
/-- What a point reads of the scale. -/
theorem blk1 (c : Dev nD) (t : Fin grid0.N) (k : Fin 1024) : iblk m c 1 t (ix2 0 k) = A1 m c (ix2 0 k) :=
  read1 (A1 m c) t k
/-- The entry array of the input weight. -/
def A2 (c : Dev nD) : Vec Ideal S1024x2048 .bf16 := V m c main_v3
/-- Where the block of the input weight lies. -/
theorem emb2 (t : Fin grid0.N) (k : Fin 1024) (l : Fin 2048) : (win0_2.blk t).view.emb (ix2 k l) = ix2 k l := by
  blk_ext [idx2 t]
/-- What the block of the input weight reads. -/
theorem read2 (X : Vec Ideal S1024x2048 .bf16) (t : Fin grid0.N) (k : Fin 1024) (l : Fin 2048) :
    (win0_2.blk t).view.read (Elt Ideal) X (ix2 k l) = X (ix2 k l) := congrArg X (emb2 t k l)
/-- What a point reads of the input weight. -/
theorem blk2 (c : Dev nD) (t : Fin grid0.N) (k : Fin 1024) (l : Fin 2048) : iblk m c 2 t (ix2 k l) = A2 m c (ix2 k l) :=
  read2 (A2 m c) t k l
/-- The entry array of the layer scale. -/
def A3 (c : Dev nD) : Vec Ideal S1x1024 .f32 := V m c main_v4
/-- Where the block of the layer scale lies. -/
theorem emb3 (t : Fin grid0.N) (k : Fin 1024) : (win0_3.blk t).view.emb (ix2 0 k) = ix2 0 k := by
  blk_ext [idx3 t]
/-- What the block of the layer scale reads. -/
theorem read3 (X : Vec Ideal S1x1024 .f32) (t : Fin grid0.N) (k : Fin 1024) :
    (win0_3.blk t).view.read (Elt Ideal) X (ix2 0 k) = X (ix2 0 k) := congrArg X (emb3 t k)
/-- What a point reads of the layer scale. -/
theorem blk3 (c : Dev nD) (t : Fin grid0.N) (k : Fin 1024) : iblk m c 3 t (ix2 0 k) = A3 m c (ix2 0 k) :=
  read3 (A3 m c) t k
/-- The entry array of the layer shift. -/
def A4 (c : Dev nD) : Vec Ideal S1x1024 .f32 := V m c main_v5
/-- Where the block of the layer shift lies. -/
theorem emb4 (t : Fin grid0.N) (k : Fin 1024) : (win0_4.blk t).view.emb (ix2 0 k) = ix2 0 k := by
  blk_ext [idx4 t]
/-- What the block of the layer shift reads. -/
theorem read4 (X : Vec Ideal S1x1024 .f32) (t : Fin grid0.N) (k : Fin 1024) :
    (win0_4.blk t).view.read (Elt Ideal) X (ix2 0 k) = X (ix2 0 k) := congrArg X (emb4 t k)
/-- What a point reads of the layer shift. -/
theorem blk4 (c : Dev nD) (t : Fin grid0.N) (k : Fin 1024) : iblk m c 4 t (ix2 0 k) = A4 m c (ix2 0 k) :=
  read4 (A4 m c) t k
/-- The entry array of the mixing weights. -/
def A5 (c : Dev nD) : Vec Ideal S8x128x128 .f32 := V m c main_arg5
/-- Where the block of the mixing weights lies. -/
theorem emb5 (t : Fin grid0.N) (g : Fin 8) (q j : Fin 128) : (win0_5.blk t).view.emb (ix3 g q j) = ix3 g q j := by
  blk_ext [idx5 t]
/-- What the block of the mixing weights reads. -/
theorem read5 (X : Vec Ideal S8x128x128 .f32) (t : Fin grid0.N) (g : Fin 8) (q j : Fin 128) :
    (win0_5.blk t).view.read (Elt Ideal) X (ix3 g q j) = X (ix3 g q j) := congrArg X (emb5 t g q j)
/-- What a point reads of the mixing weights. -/
theorem blk5 (c : Dev nD) (t : Fin grid0.N) (g : Fin 8) (q j : Fin 128) : iblk m c 5 t (ix3 g q j) = A5 m c (ix3 g q j) :=
  read5 (A5 m c) t g q j
/-- The entry array of the biases. -/
def A6 (c : Dev nD) : Vec Ideal S128x128 .f32 := V m c main_v1
/-- Where the block of the biases lies. -/
theorem emb6 (t : Fin grid0.N) (q l : Fin 128) : (win0_6.blk t).view.emb (ix2 q l) = ix2 q l := by
  blk_ext [idx6 t]
/-- What the block of the biases reads. -/
theorem read6 (X : Vec Ideal S128x128 .f32) (t : Fin grid0.N) (q l : Fin 128) :
    (win0_6.blk t).view.read (Elt Ideal) X (ix2 q l) = X (ix2 q l) := congrArg X (emb6 t q l)
/-- What a point reads of the biases. -/
theorem blk6 (c : Dev nD) (t : Fin grid0.N) (q l : Fin 128) : iblk m c 6 t (ix2 q l) = A6 m c (ix2 q l) :=
  read6 (A6 m c) t q l
/-- The entry array of the output weight. -/
def A7 (c : Dev nD) : Vec Ideal S1024x1024 .bf16 := V m c main_v6
/-- Where the block of the output weight lies. -/
theorem emb7 (t : Fin grid0.N) (f k : Fin 1024) : (win0_7.blk t).view.emb (ix2 f k) = ix2 f k := by
  blk_ext [idx7 t]
/-- What the block of the output weight reads. -/
theorem read7 (X : Vec Ideal S1024x1024 .bf16) (t : Fin grid0.N) (f k : Fin 1024) :
    (win0_7.blk t).view.read (Elt Ideal) X (ix2 f k) = X (ix2 f k) := congrArg X (emb7 t f k)
/-- What a point reads of the output weight. -/
theorem blk7 (c : Dev nD) (t : Fin grid0.N) (f k : Fin 1024) : iblk m c 7 t (ix2 f k) = A7 m c (ix2 f k) :=
  read7 (A7 m c) t f k
/-- Where the block of the result lies. -/
theorem emb8 (t : Fin grid0.N) (r : Fin 256) (k : Fin 1024) : (win0_8.blk t).view.emb (ix2 r k) = ix2 (row (grid0.coords t 0) r) k := by
  blk_ext [idx8 t, row]

/-! ## The output array, as a function of the entry arrays -/

/-- A row's place in its chunk. -/
def place (r : Fin 4096) : Fin 128 := ⟨r.val % 128, by omega⟩
/-- The row at a place of the same chunk. -/
def mate (r : Fin 4096) (j : Fin 128) : Fin 4096 := ⟨128 * (r.val / 128) + j.val, by omega⟩

section Closed
variable (H : Vec Ideal S4096x1024 .f32) (N : Vec Ideal S1x1024 .f32) (Wi : Vec Ideal S1024x2048 .bf16) (Lg Lb : Vec Ideal S1x1024 .f32)
  (Ws : Vec Ideal S8x128x128 .f32) (Bt : Vec Ideal S128x128 .f32) (Wo : Vec Ideal S1024x1024 .bf16)

/-- A row's rectified projection. -/
def act (r : Fin 4096) (l : Fin 2048) : EReal := gelu (∑ k, H (ix2 r k) * rms (fun x => H (ix2 r x)) * N (ix2 0 k) * Wi (ix2 k l))
/-- A row's mixed value at a feature. -/
def mixed (r : Fin 4096) (f : Fin 1024) : EReal :=
  (∑ j, wm Ws (grp f) (place r) j * lnorm (fun q => act H N Wi (mate r j) (up q)) (fun q => Lg (ix2 0 q)) (fun q => Lb (ix2 0 q)) f)
    + Bt (ix2 (place r) (lane (grp f)))
/-- The spatial gating unit's result. -/
def closed : Vec Ideal S4096x1024 .f32 := fun i =>
  (H (ix2 (i 0) (i 1)) + ∑ f, (act H N Wi (i 0) (lo f) * mixed H N Wi Lg Lb Ws Bt (i 0) f) * Wo (ix2 f (i 1)) : EReal)

/-- The spatial gating unit's result, at a row and a feature. -/
theorem closed_at (r : Fin 4096) (k : Fin 1024) : closed H N Wi Lg Lb Ws Bt Wo (ix2 r k)
    = (H (ix2 r k) + ∑ f, (act H N Wi r (lo f) * mixed H N Wi Lg Lb Ws Bt r f) * Wo (ix2 f k) : EReal) := rfl

end Closed

/-- The closed form over the entry arrays. -/
def res (c : Dev nD) : Vec Ideal S4096x1024 .f32 := closed (A0 m c) (A1 m c) (A2 m c) (A3 m c) (A4 m c) (A5 m c) (A6 m c) (A7 m c)

/-- A tile row's rectified projection is the flattened row's. -/
theorem act_blk (c : Dev nD) (t : Fin grid0.N) (r : Fin 256) (l : Fin 2048) :
    gelu (zz (iblk m c 0 t) (iblk m c 1 t) (iblk m c 2 t) r l) = act (A0 m c) (A1 m c) (A2 m c) (row (grid0.coords t 0) r) l := by
  unfold zz act
  simp only [blk0, blk1, blk2]

/-- A row of a tile is the one of its chunk and its place. -/
theorem trow_of (r : Fin 256) : ∃ n t, r = trow n t :=
  ⟨⟨r.val / 128, by omega⟩, ⟨r.val % 128, by omega⟩, Fin.ext (by simp only [trow]; omega)⟩

/-- What grid point `t` leaves in window 8: its block of the closed form. -/
theorem out8 (c : Dev nD) (t : Fin grid0.N) (r : Fin 256) (k : Fin 1024) :
    out0_8 (iblk m c 0 t) (iblk m c 1 t) (iblk m c 2 t) (iblk m c 3 t) (iblk m c 4 t) (iblk m c 5 t) (iblk m c 6 t) (iblk m c 7 t) (ix2 r k)
      = res m c (ix2 (row (grid0.coords t 0) r) k) := by
  obtain ⟨n, q, rfl⟩ := trow_of r
  have hp : place (row (grid0.coords t 0) (trow n q)) = q := Fin.ext (by simp only [place, row, trow]; omega)
  have hm : ∀ j, mate (row (grid0.coords t 0) (trow n q)) j = row (grid0.coords t 0) (trow n j) := fun j => Fin.ext (by simp only [mate, row, trow]; omega)
  refine (out_at _ _ _ _ _ _ _ _ n q k).trans ?_
  unfold res
  rw [closed_at]
  unfold bmix mixed
  simp only [act_blk, blk0, blk3, blk4, blk6, blk7, hp, hm, wm, blk5]

/-- The result after the last point. -/
theorem arr8 (c : Dev nD) : (dats m 0 c).arrAt 8 cfg0.N = res m c := by
  refine (dats m 0 c).arrAt_eq_of_covers 8 _ (by decide +kernel) fun t hf y => ?_
  blk_simp
  rw [after0_8]
  have hy : y = ix2 (y 0) (y 1) := idx_eq2 y _ _ rfl rfl
  refine (congrArg (out0_8 (iblk m c 0 t) (iblk m c 1 t) (iblk m c 2 t) (iblk m c 3 t) (iblk m c 4 t) (iblk m c 5 t) (iblk m c 6 t) (iblk m c 7 t)) hy).trans ((out8 m c t _ _).trans ?_)
  exact congrArg (res m c) (((congrArg (win0_8.blk t).view.emb hy)).trans (emb8 t _ _)).symm

/-! ## The entry arrays, as functions of the arguments -/

/-- The flattened activations at a row. -/
theorem entry0 (c : Dev nD) (r : Fin 4096) (k : Fin 1024) :
    A0 m c (ix2 r k) = m ((c.tc : Thread nD τ).loc main_arg0) (ix3 (bat r) (pos r) k) := by
  show Gen.V m c main_v7 _ = _
  entry_read
  pointwise
  rfl
/-- The scale. -/
theorem entry1 (c : Dev nD) (k : Fin 1024) : A1 m c (ix2 0 k) = m ((c.tc : Thread nD τ).loc main_arg1) (ix1 k) := by
  show Gen.V m c main_v2 _ = _
  entry_read
  pointwise
/-- The input weight. -/
theorem entry2 (c : Dev nD) (k : Fin 1024) (l : Fin 2048) : A2 m c (ix2 k l) = m ((c.tc : Thread nD τ).loc main_arg2) (ix2 k l) := by
  show Gen.V m c main_v3 _ = _
  entry_read
  pointwise
/-- The layer scale. -/
theorem entry3 (c : Dev nD) (k : Fin 1024) : A3 m c (ix2 0 k) = m ((c.tc : Thread nD τ).loc main_arg3) (ix1 k) := by
  show Gen.V m c main_v4 _ = _
  entry_read
  pointwise
/-- The layer shift. -/
theorem entry4 (c : Dev nD) (k : Fin 1024) : A4 m c (ix2 0 k) = m ((c.tc : Thread nD τ).loc main_arg4) (ix1 k) := by
  show Gen.V m c main_v5 _ = _
  entry_read
  pointwise
/-- The mixing weights. -/
theorem entry5 (c : Dev nD) (g : Fin 8) (t j : Fin 128) : A5 m c (ix3 g t j) = m ((c.tc : Thread nD τ).loc main_arg5) (ix3 g t j) := by
  show Gen.V m c main_arg5 _ = _
  entry_read
  rfl
/-- The biases, at a group's lane. -/
theorem entry6 (c : Dev nD) (t : Fin 128) (g : Fin 8) : A6 m c (ix2 t (lane g)) = m ((c.tc : Thread nD τ).loc main_arg6) (ix2 g t) := by
  show Gen.V m c main_v1 _ = _
  entry_read
  unfold lane
  pointwise
/-- The output weight. -/
theorem entry7 (c : Dev nD) (f k : Fin 1024) : A7 m c (ix2 f k) = m ((c.tc : Thread nD τ).loc main_arg7) (ix2 f k) := by
  show Gen.V m c main_v6 _ = _
  entry_read
  pointwise
end Cert.SguFwdIdeal.Arr
-- ==== Proof.SguFwdClaim.lean ====
module

public import proofs.«01_k».proof.Defs
public import proofs.«01_k».proof.Proof.SguFwdArr
public import proofs.«01_k».proof.Proof.Gen.SguFwdRefIdeal.Read
public import Idealize.ShloMosaic.Lib.KernelVsHost

@[expose] public section
set_option maxRecDepth 16384
noncomputable section
namespace Cert.SguFwdRefIdeal.Ref
open Idealize.ShloMosaic Idealize.ShloMosaic.Tactic Cert.SguFwdRefIdeal Cert.SguFwdRefIdeal.Read Cert.Ffn Cert.Sgu

/-! ## The reference's values, read at a batch, a position and a feature -/

variable (x0 : (⟨S2x2048x1024, .f32⟩ : BufTy).Contents (Elt Ideal)) (x1 : (⟨S1024, .f32⟩ : BufTy).Contents (Elt Ideal))
  (x2 : (⟨S1024x2048, .f32⟩ : BufTy).Contents (Elt Ideal)) (x3 x4 : (⟨S1024, .f32⟩ : BufTy).Contents (Elt Ideal))
  (x5 : (⟨S8x128x128, .f32⟩ : BufTy).Contents (Elt Ideal)) (x6 : (⟨S8x128, .f32⟩ : BufTy).Contents (Elt Ideal))
  (x7 : (⟨S1024x1024, .f32⟩ : BufTy).Contents (Elt Ideal))

/-- The reference's normalised activations. -/
theorem normed (b : Fin 2) (s : Fin 2048) (k : Fin 1024) :
    val_main_v12 (F := Ideal) x0 x1 (ix3 b s k) = (x0 (ix3 b s k) * rms (fun x => x0 (ix3 b s x)) * x1 (ix1 k) : EReal) := by
  rw [val_main_v12_apply, val_main_v9_apply, val_main_v8_apply, val_main_v7_apply, val_main_v6_apply, val_main_v4_apply,
    val_main_v2_apply, val_main_v1_apply, val_main_v3_apply, val_main_v5_apply, val_main_v11_apply, val_main_v10_apply]
  simp only [val_main_v0_apply, val_main_cst_apply, val_main_cst_0_apply, val_main_cst_1_apply,
    show ∀ q, idx_main_v1 (idx_main_v2 (idx_main_v8 (ix3 b s k))) q = ix3 b s q from fun q => idx_eq3 _ _ _ _ rfl rfl rfl,
    show idx_main_v10 (idx_main_v11 (ix3 b s k)) = ix1 k from idx_eq1 _ _ rfl]
  rw [show (FloatOps.ofBits (F := Ideal) .f32 0x00000000#32 : EReal) = 0 from Ideal.ofBits_zero_f32]
  exact congrArg (fun z : EReal => x0 (ix3 b s k) * Ideal.rsqrt (Ideal.div z (Ideal.ofBits .f32 1149239296#32) + Ideal.ofBits .f32 897988541#32) * x1 (ix1 k)) (zero_add _)

/-- The reference's rectified projection. -/
theorem act_at (b : Fin 2) (s l : Fin 2048) : val_main_v26 (F := Ideal) x0 x1 x2 (ix3 b s l)
    = gelu (∑ k : Fin 1024, x0 (ix3 b s k) * rms (fun x => x0 (ix3 b s x)) * x1 (ix1 k) * x2 (ix2 k l)) := by
  have hz : val_main_v13 (F := Ideal) x0 x1 x2 (ix3 b s l)
      = (∑ k : Fin 1024, x0 (ix3 b s k) * rms (fun x => x0 (ix3 b s x)) * x1 (ix1 k) * x2 (ix2 k l) : EReal) := by
    rw [val_main_v13_apply]
    refine Finset.sum_congr rfl fun k _ => ?_
    rw [show lidx_main_v13 (ix3 b s l) k = ix3 b s k from idx_eq3 _ _ _ _ rfl rfl rfl,
      show ridx_main_v13 (ix3 b s l) k = ix2 k l from idx_eq2 _ _ _ rfl rfl, normed]
  rw [val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_cst_5_apply,
    val_main_cst_4_apply, val_main_cst_3_apply, val_main_cst_2_apply, hz]
  generalize (∑ k : Fin 1024, x0 (ix3 b s k) * rms (fun x => x0 (ix3 b s x)) * x1 (ix1 k) * x2 (ix2 k l) : EReal) = z
  show (z * (Ideal.ofBits .f32 0x3F000000#32 * (Ideal.ofBits .f32 0x3F800000#32
    + Ideal.tanh (Ideal.ofBits .f32 0x3F4C422A#32 * (z + Ideal.ofBits .f32 0x3D372713#32 * ((z * z) * z))))) : EReal) = gelu z
  rw [Ideal.ofBits_one_f32, mul_comm (z * z) z]
  rfl

/-- The reference's upper half of the rectified projection. -/
theorem hi_at (b : Fin 2) (s : Fin 2048) (k : Fin 1024) : val_main_v28 (F := Ideal) x0 x1 x2 (ix3 b s k) = val_main_v26 (F := Ideal) x0 x1 x2 (ix3 b s (up k)) := by
  rw [val_main_v28_apply, show idx_main_v28 (ix3 b s k) = ix3 b s (up k) from idx_eq3 _ _ _ _ rfl rfl rfl]
/-- The reference's lower half of the rectified projection. -/
theorem lo_at (b : Fin 2) (s : Fin 2048) (k : Fin 1024) : val_main_v27 (F := Ideal) x0 x1 x2 (ix3 b s k) = val_main_v26 (F := Ideal) x0 x1 x2 (ix3 b s (lo k)) := by
  rw [val_main_v27_apply, show idx_main_v27 (ix3 b s k) = ix3 b s (lo k) from idx_eq3 _ _ _ _ rfl rfl rfl]

/-- The reference's upper half minus its mean. -/
theorem cen_at (b : Fin 2) (s : Fin 2048) (k : Fin 1024) : val_main_v34 (F := Ideal) x0 x1 x2 (ix3 b s k)
    = cen (fun q => val_main_v26 (F := Ideal) x0 x1 x2 (ix3 b s (up q))) k := by
  rw [val_main_v34_apply, val_main_v33_apply, val_main_v32_apply, val_main_v30_apply, val_main_v31_apply, val_main_v29_apply, val_main_cst_7_apply, hi_at]
  simp only [val_main_cst_6_apply, show ∀ q, idx_main_v29 (idx_main_v30 (idx_main_v33 (ix3 b s k))) q = ix3 b s q from fun q => idx_eq3 _ _ _ _ rfl rfl rfl, hi_at]
  rw [show (FloatOps.ofBits (F := Ideal) .f32 0x00000000#32 : EReal) = 0 from Ideal.ofBits_zero_f32]
  exact congrArg (fun z : EReal => val_main_v26 (F := Ideal) x0 x1 x2 (ix3 b s (up k)) - Ideal.div z (Ideal.ofBits .f32 0x44800000#32)) (zero_add _)

/-- The reference's reciprocal root of the mean square of the upper half minus its mean. -/
theorem inv_at (b : Fin 2) (s : Fin 2048) (k : Fin 1024) : val_main_v43 (F := Ideal) x0 x1 x2 (ix3 b s k)
    = rms (cen (fun q => val_main_v26 (F := Ideal) x0 x1 x2 (ix3 b s (up q)))) := by
  rw [val_main_v43_apply, val_main_v42_apply, val_main_v41_apply, val_main_v40_apply, val_main_v39_apply, val_main_v38_apply, val_main_v37_apply, val_main_v36_apply,
    val_main_cst_9_apply, val_main_cst_10_apply]
  simp only [val_main_cst_8_apply, val_main_v35_apply, show ∀ q, idx_main_v36 (idx_main_v37 (idx_main_v43 (ix3 b s k))) q = ix3 b s q from fun q => idx_eq3 _ _ _ _ rfl rfl rfl, cen_at]
  rw [show (FloatOps.ofBits (F := Ideal) .f32 0x00000000#32 : EReal) = 0 from Ideal.ofBits_zero_f32]
  exact congrArg (fun z : EReal => Ideal.rsqrt (Ideal.div z (Ideal.ofBits .f32 1149239296#32) + Ideal.ofBits .f32 897988541#32)) (zero_add _)

/-- The reference's layer normalisation. -/
theorem ln_at (b : Fin 2) (s : Fin 2048) (k : Fin 1024) : val_main_v50 (F := Ideal) x0 x1 x2 x3 x4 (ix3 b s k)
    = lnorm (fun q => val_main_v26 (F := Ideal) x0 x1 x2 (ix3 b s (up q))) (fun q => x3 (ix1 q)) (fun q => x4 (ix1 q)) k := by
  rw [val_main_v50_apply, val_main_v47_apply, val_main_v44_apply, val_main_v46_apply, val_main_v45_apply, val_main_v49_apply, val_main_v48_apply, cen_at, inv_at,
    show idx_main_v45 (idx_main_v46 (ix3 b s k)) = ix1 k from idx_eq1 _ _ rfl, show idx_main_v48 (idx_main_v49 (ix3 b s k)) = ix1 k from idx_eq1 _ _ rfl]
  rfl

/-- The reference's masked weight. -/
theorem wm_at (g : Fin 8) (t j : Fin 128) : val_main_v58 (F := Ideal) x5 (ix3 g t j) = (if j.val ≤ t.val then x5 (ix3 g t j) else 0 : EReal) := by
  rw [val_main_v58_apply, val_main_v57_apply, val_main_v56_apply, val_main_v55_apply, val_main_v54_apply, val_main_v52_apply, val_main_v53_apply,
    show idx_main_v56 (idx_main_v57 (ix3 g t j)) = ix2 t j from idx_eq2 _ _ _ rfl rfl]
  have hc : IntOp.cmpi .sge (BitVec.ofNat 32 ((ix2 t j : S128x128.Idx) 0).val) (BitVec.ofNat 32 ((ix2 t j : S128x128.Idx) 1).val) = BitVec.ofBool (decide (j.val ≤ t.val)) :=
    WordCmp.cmpi_sge_ofNat (w := 32) (by have := t.isLt; show t.val < 2 ^ 31; omega) (by have := j.isLt; show j.val < 2 ^ 31; omega)
  rw [hc]
  by_cases h : j.val ≤ t.val
  · rw [if_pos h, decide_eq_true h]
    show (x5 (ix3 g t j) * (((BitVec.ofBool true).toNat : ℝ) : EReal) : EReal) = x5 (ix3 g t j)
    simp
  · rw [if_neg h, decide_eq_false h]
    show (x5 (ix3 g t j) * (((BitVec.ofBool false).toNat : ℝ) : EReal) : EReal) = 0
    simp

/-- A position's place in its chunk. -/
def spl (s : Fin 2048) : Fin 128 := ⟨s.val % 128, by omega⟩
/-- The position at a place of the same chunk. -/
def smate (s : Fin 2048) (j : Fin 128) : Fin 2048 := ⟨128 * (s.val / 128) + j.val, by omega⟩

/-- The reference's mixed value. -/
theorem mix_at (b : Fin 2) (s : Fin 2048) (k : Fin 1024) : val_main_v66 (F := Ideal) x0 x1 x2 x3 x4 x5 x6 (ix3 b s k)
    = ((∑ j, (if j.val ≤ (spl s).val then x5 (ix3 (grp k) (spl s) j) else 0) * val_main_v50 (F := Ideal) x0 x1 x2 x3 x4 (ix3 b (smate s j) k)) + x6 (ix2 (grp k) (spl s)) : EReal) := by
  rw [val_main_v66_apply, val_main_v65_apply, val_main_v60_apply, val_main_v59_apply, val_main_v64_apply, val_main_v63_apply, val_main_v62_apply, val_main_v61_apply,
    show idx_main_v61 (idx_main_v62 (idx_main_v63 (idx_main_v64 (idx_main_v66 (ix3 b s k))))) = ix2 (grp k) (spl s) from idx_eq2 _ _ _
      (by show ((b.val * 2048 + s.val) * 1024 + k.val) / 128 % 8 = k.val / 128; omega)
      (by show ((b.val * 2048 + s.val) * 1024 + k.val) / 1024 % 128 = s.val % 128; omega)]
  refine congrArg (fun z : EReal => z + x6 (ix2 (grp k) (spl s))) (Finset.sum_congr rfl fun j _ => ?_)
  rw [show ridx_main_v59 (idx_main_v60 (idx_main_v66 (ix3 b s k))) j = ix3 (grp k) (spl s) j from idx_eq3 _ _ _ _
      (by show ((b.val * 2048 + s.val) * 1024 + k.val) / 128 % 8 = k.val / 128; omega)
      (by show ((b.val * 2048 + s.val) * 1024 + k.val) / 1024 % 128 = s.val % 128; omega) rfl,
    wm_at, val_main_v51_apply, mul_comm]
  refine congrArg (fun z : EReal => (if j.val ≤ (spl s).val then x5 (ix3 (grp k) (spl s) j) else 0) * z) (congrArg (val_main_v50 (F := Ideal) x0 x1 x2 x3 x4) ?_)
  have e0 : ((b.val * 2048 + s.val) * 1024 + k.val) / 2097152 = b.val := by omega
  have e1 : ((b.val * 2048 + s.val) * 1024 + k.val) / 131072 % 16 = s.val / 128 := by omega
  have e3 : ((b.val * 2048 + s.val) * 1024 + k.val) / 128 % 8 = k.val / 128 := by omega
  have e4 : ((b.val * 2048 + s.val) * 1024 + k.val) % 128 = k.val % 128 := by omega
  refine idx_eq3 _ _ _ _ ?_ ?_ ?_
  · show (((((((b.val * 2048 + s.val) * 1024 + k.val) / 2097152) * 16 + ((b.val * 2048 + s.val) * 1024 + k.val) / 131072 % 16) * 128 + j.val) * 8 + ((b.val * 2048 + s.val) * 1024 + k.val) / 128 % 8) * 128 + ((b.val * 2048 + s.val) * 1024 + k.val) % 128) / 2097152 = b.val
    rw [e0, e1, e3, e4]; omega
  · show (((((((b.val * 2048 + s.val) * 1024 + k.val) / 2097152) * 16 + ((b.val * 2048 + s.val) * 1024 + k.val) / 131072 % 16) * 128 + j.val) * 8 + ((b.val * 2048 + s.val) * 1024 + k.val) / 128 % 8) * 128 + ((b.val * 2048 + s.val) * 1024 + k.val) % 128) / 1024 % 2048 = 128 * (s.val / 128) + j.val
    rw [e0, e1, e3, e4]; omega
  · show (((((((b.val * 2048 + s.val) * 1024 + k.val) / 2097152) * 16 + ((b.val * 2048 + s.val) * 1024 + k.val) / 131072 % 16) * 128 + j.val) * 8 + ((b.val * 2048 + s.val) * 1024 + k.val) / 128 % 8) * 128 + ((b.val * 2048 + s.val) * 1024 + k.val) % 128) % 1024 = k.val
    rw [e0, e1, e3, e4]; omega

/-- The reference's result. -/
theorem res_at (r : Fin 4096) (k : Fin 1024) : val_main_v70 (F := Ideal) x0 x1 x2 x3 x4 x5 x6 x7 (ix2 r k)
    = (x0 (ix3 (bat r) (pos r) k) + ∑ f : Fin 1024, (val_main_v26 (F := Ideal) x0 x1 x2 (ix3 (bat r) (pos r) (lo f))
        * val_main_v66 (F := Ideal) x0 x1 x2 x3 x4 x5 x6 (ix3 (bat r) (pos r) f)) * x7 (ix2 f k) : EReal) := by
  rw [val_main_v70_apply, show idx_main_v70 (ix2 r k) = ix3 (bat r) (pos r) k from idx_eq3 _ _ _ _
      (by show (r.val * 1024 + k.val) / 2097152 = r.val / 2048; omega) (by show (r.val * 1024 + k.val) / 1024 % 2048 = r.val % 2048; omega)
      (by show (r.val * 1024 + k.val) % 1024 = k.val; omega),
    val_main_v69_apply, val_main_v68_apply]
  refine congrArg (fun z : EReal => x0 (ix3 (bat r) (pos r) k) + z) (Finset.sum_congr rfl fun f _ => ?_)
  rw [show lidx_main_v68 (ix3 (bat r) (pos r) k) f = ix3 (bat r) (pos r) f from idx_eq3 _ _ _ _ rfl rfl rfl,
    show ridx_main_v68 (ix3 (bat r) (pos r) k) f = ix2 f k from idx_eq2 _ _ _ rfl rfl, val_main_v67_apply, lo_at]
  rfl

end Cert.SguFwdRefIdeal.Ref

namespace Cert.SguFwdEq
open Idealize.ShloMosaic Idealize.SL.Sem Idealize.ShloMosaic.TcCoe Idealize.ShloMosaic.Tactic Cert.SguFwdIdeal Cert.SguFwdIdeal.Gen Cert.Ffn Cert.Sgu

/-! ## The value claim of the spatial gating unit -/

/-- A rectified projection is the reference's. -/
theorem act_eq (m : (ℓ : Loc nD τ sig) → Buf (Elt Ideal) ℓ) (c : Dev nD) (r : Fin 4096) (l : Fin 2048) :
    Arr.act (Arr.A0 m c) (Arr.A1 m c) (Arr.A2 m c) r l = Cert.SguFwdRefIdeal.Read.val_main_v26 (F := Ideal) (m ((c.tc : Thread nD τ).loc main_arg0)) (m ((c.tc : Thread nD τ).loc main_arg1)) (m ((c.tc : Thread nD τ).loc main_arg2)) (ix3 (bat r) (pos r) l) := by
  rw [Cert.SguFwdRefIdeal.Ref.act_at]
  unfold Arr.act
  simp only [Arr.entry0, Arr.entry1, Arr.entry2]

/-- A mixed value is the reference's. -/
theorem mixed_eq (m : (ℓ : Loc nD τ sig) → Buf (Elt Ideal) ℓ) (c : Dev nD) (r : Fin 4096) (f : Fin 1024) :
    Arr.mixed (Arr.A0 m c) (Arr.A1 m c) (Arr.A2 m c) (Arr.A3 m c) (Arr.A4 m c) (Arr.A5 m c) (Arr.A6 m c) r f
      = Cert.SguFwdRefIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 (bat r) (pos r) f) := by
  have hp : Arr.place r = Cert.SguFwdRefIdeal.Ref.spl (pos r) := Fin.ext (by show r.val % 128 = r.val % 2048 % 128; omega)
  have hb : ∀ j, bat (Arr.mate r j) = bat r := fun j => Fin.ext (by show (128 * (r.val / 128) + j.val) / 2048 = r.val / 2048; omega)
  have hs : ∀ j, pos (Arr.mate r j) = Cert.SguFwdRefIdeal.Ref.smate (pos r) j := fun j => Fin.ext (by show (128 * (r.val / 128) + j.val) % 2048 = 128 * (r.val % 2048 / 128) + j.val; omega)
  rw [Cert.SguFwdRefIdeal.Ref.mix_at]
  unfold Arr.mixed Arr.wm
  simp only [Cert.SguFwdRefIdeal.Ref.ln_at, act_eq, Arr.entry3, Arr.entry4, Arr.entry5, Arr.entry6, hp, hb, hs]

/-- What the kernel leaves in its result is what the reference computes. -/
theorem result (m : (ℓ : Loc nD τ sig) → Buf (Elt Ideal) ℓ) (c : Dev nD) :
    (dats m 0 c).arrAt 8 cfg0.N = Cert.SguFwdRefIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (Arr.arr8 m c).trans ?_
  funext i
  obtain ⟨r, k, rfl⟩ : ∃ (r : Fin 4096) (k : Fin 1024), i = ix2 r k := ⟨i 0, i 1, idx_eq2 i (i 0) (i 1) rfl rfl⟩
  refine Eq.trans ?_ (Cert.SguFwdRefIdeal.Ref.res_at _ _ _ _ _ _ _ _ _ _).symm
  refine (Arr.closed_at _ _ _ _ _ _ _ _ r k).trans ?_
  simp only [act_eq, mixed_eq, Arr.entry0, Arr.entry7]

/-- THE VALUE CLAIM of the spatial gating unit. -/
theorem algebraic : algebraic_SguFwdIdeal_SguFwdRefIdeal (hSguFwdIdeal := Cert.SguFwdIdeal.Gen.facts)
    (hSguFwdRefIdeal := Cert.SguFwdRefIdeal.Gen.facts) := by
  intro m g m' g' _ hagree
  refine ⟨fun c => Cert.SguFwdRefIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · refine (θ_run _ _ _).mono (fun r h c => ?_) (Cert.SguFwdIdeal.Value.run_blocks m g)
    obtain ⟨e8, k⟩ := h c
    exact ⟨e8.trans (result m c), k⟩
  · refine (θ_run _ _ _).mono (fun r h c => ?_) (Cert.SguFwdRefIdeal.Value.run m' g')
    obtain ⟨e0, k⟩ := h c
    obtain ⟨a0, a1, a2, a3, a4, a5, a6, a7⟩ := hagree c
    refine ⟨e0.trans ?_, k⟩
    rw [Cert.SguFwdRefIdeal.Read.val_main_v70_eq, a0, a1, a2, a3, a4, a5, a6, a7]

end Cert.SguFwdEq
-- ==== Proof.lean ====
module

public import proofs.«01_k».proof.Defs
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnGradIdeal
public import proofs.«01_k».proof.Proof.Gen.AttnBwdIdeal.Value
public import proofs.«01_k».proof.Proof.Gen.AttnGradIdeal.Run
public import proofs.«01_k».proof.Proof.Gen.AttnGradIdeal.Read
public import proofs.«01_k».proof.Proof.Gen.Wgrad.Frame
public import proofs.«01_k».proof.Proof.Gen.WgradIdeal.Frame
public import proofs.«01_k».proof.Proof.Gen.WgradIdeal.Value
public import proofs.«01_k».proof.Proof.Gen.WgradRefIdeal.Run
public import proofs.«01_k».proof.Proof.Gen.WgradRefIdeal.Read
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.Dgrad.Frame
public import proofs.«01_k».proof.Proof.Gen.DgradIdeal.Frame
public import proofs.«01_k».proof.Proof.Gen.DgradIdeal.Value
public import proofs.«01_k».proof.Proof.Gen.DgradRefIdeal.Run
public import proofs.«01_k».proof.Proof.Gen.DgradRefIdeal.Read
public import proofs.«01_k».proof.Proof.Gen.OutBwd.Frame
public import proofs.«01_k».proof.Proof.Gen.OutBwdIdeal.Frame
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.SguFwd.Frame
public import proofs.«01_k».proof.Proof.Gen.SguFwdIdeal.Frame
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.AttnClaim
public import proofs.«01_k».proof.Proof.WgradClaim
public import proofs.«01_k».proof.Proof.FfnFwdClaim
public import proofs.«01_k».proof.Proof.DgradClaim
public import proofs.«01_k».proof.Proof.OutBwdClaim
public import proofs.«01_k».proof.Proof.OutFwdClaim
public import proofs.«01_k».proof.Proof.SguFwdClaim
public import Idealize.ShloMosaic.Adequacy
public import Idealize.ShloMosaic.Init

@[expose] public section

noncomputable section

namespace Cert.Proof

open Idealize.ShloMosaic Idealize.SL.Sem Cert.AttnBwd

/-- The attention reference's frame: host operations alone, so no semaphore to count. -/
theorem attnGradFrame : Cert.quiescent_AttnGradIdeal (hAttnGradIdeal := Cert.AttnGradIdeal.Gen.facts) := fun m g _ =>
  (θ_run _ _ _).mono (fun r h => ⟨fun c => (h c).2.2.2, sem_eq_zero_of_no_sems (by decide) _⟩) (Cert.AttnGradIdeal.Value.run m g)

/-- The weight gradients' reference's frame: host operations alone, so no semaphore to count. -/
theorem wgradRefFrame : Cert.quiescent_WgradRefIdeal (hWgradRefIdeal := Cert.WgradRefIdeal.Gen.facts) := fun m g _ =>
  (θ_run _ _ _).mono (fun r h => ⟨fun c => (h c).2.2, sem_eq_zero_of_no_sems (by decide) _⟩) (Cert.WgradRefIdeal.Value.run m g)

/-- The two products' reference's frame: host operations alone, so no semaphore to count. -/
theorem ffnFwdRefFrame : Cert.quiescent_FfnFwdRefIdeal (hFfnFwdRefIdeal := Cert.FfnFwdRefIdeal.Gen.facts) := fun m g _ =>
  (θ_run _ _ _).mono (fun r h => ⟨fun c => (h c).2.2.2, sem_eq_zero_of_no_sems (by decide) _⟩) (Cert.FfnFwdRefIdeal.Value.run m g)

/-- The input gradient's reference's frame: host operations alone, so no semaphore to count. -/
theorem dgradRefFrame : Cert.quiescent_DgradRefIdeal (hDgradRefIdeal := Cert.DgradRefIdeal.Gen.facts) := fun m g _ =>
  (θ_run _ _ _).mono (fun r h => ⟨fun c => (h c).2.2.2, sem_eq_zero_of_no_sems (by decide) _⟩) (Cert.DgradRefIdeal.Value.run m g)

/-- The output product gradients' reference's frame: host operations alone, so no semaphore to count. -/
theorem outBwdRefFrame : Cert.quiescent_OutBwdRefIdeal (hOutBwdRefIdeal := Cert.OutBwdRefIdeal.Gen.facts) := fun m g _ =>
  (θ_run _ _ _).mono (fun r h => ⟨fun c => (h c).2.2.2.2, sem_eq_zero_of_no_sems (by decide) _⟩) (Cert.OutBwdRefIdeal.Value.run m g)

/-- The output product's reference's frame: host operations alone, so no semaphore to count. -/
theorem outFwdRefFrame : Cert.quiescent_OutFwdRefIdeal (hOutFwdRefIdeal := Cert.OutFwdRefIdeal.Gen.facts) := fun m g _ =>
  (θ_run _ _ _).mono (fun r h => ⟨fun c => (h c).2, sem_eq_zero_of_no_sems (by decide) _⟩) (Cert.OutFwdRefIdeal.Value.run m g)

/-- The spatial gating unit's reference's frame: host operations alone, so no semaphore to count. -/
theorem sguFwdRefFrame : Cert.quiescent_SguFwdRefIdeal (hSguFwdRefIdeal := Cert.SguFwdRefIdeal.Gen.facts) := fun m g _ =>
  (θ_run _ _ _).mono (fun r h => ⟨fun c => (h c).2, sem_eq_zero_of_no_sems (by decide) _⟩) (Cert.SguFwdRefIdeal.Value.run m g)

/-- Everything the certificate claims. -/
theorem claim : Cert.Claim := ⟨Cert.AttnBwd.Gen.facts, Cert.AttnBwdIdeal.Gen.facts, Cert.AttnGradIdeal.Gen.facts,
  Cert.Wgrad.Gen.facts, Cert.WgradIdeal.Gen.facts, Cert.WgradRefIdeal.Gen.facts,
  Cert.FfnFwd.Gen.facts, Cert.FfnFwdIdeal.Gen.facts, Cert.FfnFwdRefIdeal.Gen.facts,
  Cert.Dgrad.Gen.facts, Cert.DgradIdeal.Gen.facts, Cert.DgradRefIdeal.Gen.facts,
  Cert.OutBwd.Gen.facts, Cert.OutBwdIdeal.Gen.facts, Cert.OutBwdRefIdeal.Gen.facts,
  Cert.OutFwd.Gen.facts, Cert.OutFwdIdeal.Gen.facts, Cert.OutFwdRefIdeal.Gen.facts,
  Cert.SguFwd.Gen.facts, Cert.SguFwdIdeal.Gen.facts, Cert.SguFwdRefIdeal.Gen.facts,
  Cert.Attn.preFacts,
  fun m g _ => Cert.AttnBwd.Gen.frame m g,
  fun m g _ => Cert.AttnBwdIdeal.Gen.frame m g,
  fun m g _ => Cert.AttnBwdIdeal.Gen.frame m g,
  fun m g _ => attnGradFrame m g trivial,
  fun m g _ => attnGradFrame m g trivial,
  fun m g _ => Cert.Wgrad.Gen.frame m g,
  fun m g _ => Cert.WgradIdeal.Gen.frame m g,
  fun m g _ => wgradRefFrame m g trivial,
  fun m g _ => Cert.FfnFwd.Gen.frame m g,
  fun m g _ => Cert.FfnFwdIdeal.Gen.frame m g,
  fun m g _ => ffnFwdRefFrame m g trivial,
  fun m g _ => Cert.Dgrad.Gen.frame m g,
  fun m g _ => Cert.DgradIdeal.Gen.frame m g,
  fun m g _ => dgradRefFrame m g trivial,
  fun m g _ => Cert.OutBwd.Gen.frame m g,
  fun m g _ => Cert.OutBwdIdeal.Gen.frame m g,
  fun m g _ => outBwdRefFrame m g trivial,
  fun m g _ => Cert.OutFwd.Gen.frame m g,
  fun m g _ => Cert.OutFwdIdeal.Gen.frame m g,
  fun m g _ => outFwdRefFrame m g trivial,
  fun m g _ => Cert.SguFwd.Gen.frame m g,
  fun m g _ => Cert.SguFwdIdeal.Gen.frame m g,
  fun m g _ => sguFwdRefFrame m g trivial,
  trivial,
  Cert.Attn.algebraic,
  trivial,
  Cert.WgradEq.algebraic,
  trivial,
  Cert.FfnFwdEq.algebraic,
  trivial,
  Cert.DgradEq.algebraic,
  trivial,
  Cert.OutBwdEq.algebraic,
  trivial,
  Cert.OutFwdEq.algebraic,
  trivial,
  Cert.SguFwdEq.algebraic⟩

end Cert.Proof

end
